-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_offsets_ordered_ids_named [hPre_offsets_ordered_ids_named : Cert.Pre_offsets_ordered_ids_named.Facts] (m : (ℓ : Loc Cert.KernelIdeal.nD Cert.KernelIdeal.τ Cert.KernelIdeal.sig) → Buf (Elt Ideal) ℓ) : Prop :=
  ∀ c : Dev Cert.KernelIdeal.nD,
    (Cert.Pre_offsets_ordered_ids_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_offsets_ordered_ids_named [hPre_offsets_ordered_ids_named : Cert.Pre_offsets_ordered_ids_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_offsets_ordered_ids_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_offsets_ordered_ids_named [hKernelIdeal : Cert.KernelIdeal.Facts] [hPre_offsets_ordered_ids_named : Cert.Pre_offsets_ordered_ids_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_offsets_ordered_ids_named m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_offsets_ordered_ids_named [hReferenceIdeal : Cert.ReferenceIdeal.Facts] [hPre_offsets_ordered_ids_named : Cert.Pre_offsets_ordered_ids_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_offsets_ordered_ids_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_offsets_ordered_ids_named [hKernelIdeal : Cert.KernelIdeal.Facts] [hReferenceIdeal : Cert.ReferenceIdeal.Facts] [hPre_offsets_ordered_ids_named : Cert.Pre_offsets_ordered_ids_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_offsets_ordered_ids_named m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v97) = v3 c
          ∧ r.2.mem ((c.tc : Thread Cert.ReferenceIdeal.nD Cert.ReferenceIdeal.τ).loc Cert.ReferenceIdeal.main_v44) = v4 c
          ∧ r.2.mem ((c.tc : Thread Cert.ReferenceIdeal.nD Cert.ReferenceIdeal.τ).loc Cert.ReferenceIdeal.main_v55) = v5 c
          ∧ r.2.mem ((c.tc : Thread Cert.ReferenceIdeal.nD Cert.ReferenceIdeal.τ).loc Cert.ReferenceIdeal.main_v67) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_offsets_ordered_ids_named : Cert.Pre_offsets_ordered_ids_named.Facts),
    quiescent_Kernel (hKernel := hKernel)
    ∧ quiescent_KernelIdeal (hKernelIdeal := hKernelIdeal)
    ∧ quiescent_KernelIdeal_pre_offsets_ordered_ids_named (hKernelIdeal := hKernelIdeal) (hPre_offsets_ordered_ids_named := hPre_offsets_ordered_ids_named)
    ∧ quiescent_ReferenceIdeal (hReferenceIdeal := hReferenceIdeal)
    ∧ quiescent_ReferenceIdeal_pre_offsets_ordered_ids_named (hReferenceIdeal := hReferenceIdeal) (hPre_offsets_ordered_ids_named := hPre_offsets_ordered_ids_named)
    ∧ preserves_Kernel_KernelIdeal
    ∧ algebraic_KernelIdeal_ReferenceIdeal_pre_offsets_ordered_ids_named (hKernelIdeal := hKernelIdeal) (hReferenceIdeal := hReferenceIdeal) (hPre_offsets_ordered_ids_named := hPre_offsets_ordered_ids_named)
-- ==== Pre_offsets_ordered_ids_named.lean ====
abbrev S2048x12288 : Shape := ⟨2, ![2048, 12288]⟩
abbrev S2048 : Shape := ⟨1, ![2048]⟩
abbrev S12288x160 : Shape := ⟨2, ![12288, 160]⟩
abbrev S2048x6 : Shape := ⟨2, ![2048, 6]⟩
abbrev S6 : Shape := ⟨1, ![6]⟩
abbrev S5 : Shape := ⟨1, ![5]⟩
abbrev S_ : Shape := ⟨0, ![]⟩

class Facts : Prop where
  slices_S6_S5_0 : S6.Slices ![0] S5
  slices_S6_S5_1 : S6.Slices ![1] S5
  reducesTo_S5_S_d0 : S5.ReducesTo [0] S_
  h_S_ : 0 < S_.numel
  bcast_S_S2048x6 : S_.BroadcastsInDim S2048x6 (![] : Fin 0 → Fin S2048x6.rank)
  reducesTo_S2048x6_S_d0_1 : S2048x6.ReducesTo [0, 1] S_

variable [Facts]

def fn {F : FTy → Type} [FloatOps F] (main_arg0 : FVec F S2048x12288 .fp8e4m3) (main_arg1 : FVec F S2048 .f32) (main_arg2 : FVec F S12288x160 .bf16) (main_arg3 : IVec S2048x6 32) (main_arg4 : IVec S6 32) : IVec S_ 1 :=
  let main_v0 : IVec S5 32 := (extractStridedSlice S5 ![0] · slices_S6_S5_0) main_arg4
  let main_v1 : IVec S5 32 := (extractStridedSlice S5 ![1] · slices_S6_S5_1) main_arg4
  let main_v2 : IVec S5 1 := cmpi .sle main_v0 main_v1
  let main_c : IVec S_ 1 := constantI S_ 1 1#1
  let main_v3 : IVec S_ 1 := (fun x v => Host.reduce IntOp.andi x v reducesTo_S5_S_d0 h_S_) main_v2 main_c
  let main_c_0 : IVec S_ 32 := constantI S_ 32 0#32
  let main_v4 : IVec S2048x6 32 := broadcastInDim S2048x6 ![] bcast_S_S2048x6 main_c_0
  let main_v5 : IVec S2048x6 1 := cmpi .sge main_arg3 main_v4
  let main_c_1 : IVec S_ 32 := constantI S_ 32 160#32
  let main_v6 : IVec S2048x6 32 := broadcastInDim S2048x6 ![] bcast_S_S2048x6 main_c_1
  let main_v7 : IVec S2048x6 1 := cmpi .slt main_arg3 main_v6
  let main_v8 : IVec S2048x6 1 := andi main_v5 main_v7
  let main_c_2 : IVec S_ 1 := constantI S_ 1 1#1
  let main_v9 : IVec S_ 1 := (fun x v => Host.reduce IntOp.andi x v reducesTo_S2048x6_S_d0_1 h_S_) main_v8 main_c_2
  let main_v10 : IVec S_ 1 := andi main_v3 main_v9
  main_v10
-- ==== Kernel.lean ====
abbrev S2048x12288 : Shape := ⟨2, ![2048, 12288]⟩
abbrev S2048 : Shape := ⟨1, ![2048]⟩
abbrev S12288x160 : Shape := ⟨2, ![12288, 160]⟩
abbrev S2048x6 : Shape := ⟨2, ![2048, 6]⟩
abbrev S6 : Shape := ⟨1, ![6]⟩
abbrev S160x12288 : Shape := ⟨2, ![160, 12288]⟩
abbrev S1x2048 : Shape := ⟨2, ![1, 2048]⟩
abbrev S6x2048 : Shape := ⟨2, ![6, 2048]⟩
abbrev S160x2048 : Shape := ⟨2, ![160, 2048]⟩
abbrev S1x5 : Shape := ⟨2, ![1, 5]⟩
abbrev S5x160 : Shape := ⟨2, ![5, 160]⟩
abbrev S5x8 : Shape := ⟨2, ![5, 8]⟩
abbrev S512x12288 : Shape := ⟨2, ![512, 12288]⟩
abbrev S1x512 : Shape := ⟨2, ![1, 512]⟩
abbrev S160x512 : Shape := ⟨2, ![160, 512]⟩
abbrev S5x160x128 : Shape := ⟨3, ![5, 160, 128]⟩
abbrev S3x8x256 : Shape := ⟨3, ![3, 8, 256]⟩
abbrev S8x1 : Shape := ⟨2, ![8, 1]⟩
abbrev S1 : Shape := ⟨1, ![1]⟩
abbrev S8x256 : Shape := ⟨2, ![8, 256]⟩
abbrev S6x256 : Shape := ⟨2, ![6, 256]⟩
abbrev S256x256 : Shape := ⟨2, ![256, 256]⟩
abbrev S1x256 : Shape := ⟨2, ![1, 256]⟩
abbrev S8 : Shape := ⟨1, ![8]⟩
abbrev S1x8x256 : Shape := ⟨3, ![1, 8, 256]⟩
abbrev S256x8 : Shape := ⟨2, ![256, 8]⟩
abbrev S160x8 : Shape := ⟨2, ![160, 8]⟩
abbrev S160x1 : Shape := ⟨2, ![160, 1]⟩
abbrev S160x128 : Shape := ⟨2, ![160, 128]⟩
abbrev S1x160x128 : Shape := ⟨3, ![1, 160, 128]⟩
abbrev S1x128 : Shape := ⟨2, ![1, 128]⟩
abbrev S128 : Shape := ⟨1, ![128]⟩
abbrev S128x160 : Shape := ⟨2, ![128, 160]⟩
abbrev S160 : Shape := ⟨1, ![160]⟩
abbrev S1x160 : Shape := ⟨2, ![1, 160]⟩
abbrev S8x160 : Shape := ⟨2, ![8, 160]⟩
abbrev S8x128 : Shape := ⟨2, ![8, 128]⟩
abbrev S2048x160 : Shape := ⟨2, ![2048, 160]⟩
abbrev S5 : Shape := ⟨1, ![5]⟩

abbrev nBuf : Space → Nat
  | .hbm => 19
  | .vmem => 17
  | .smem => 1
  | _ => 0

abbrev bufTy : (tb : Table) → Fin (tcTables nBuf tb) → BufTy
  | .hbm, ⟨0, _⟩ => ⟨S2048x12288, .fp8e4m3⟩
  | .hbm, ⟨1, _⟩ => ⟨S2048, .f32⟩
  | .hbm, ⟨2, _⟩ => ⟨S12288x160, .bf16⟩
  | .hbm, ⟨3, _⟩ => ⟨S2048x6, .i32⟩
  | .hbm, ⟨4, _⟩ => ⟨S6, .i32⟩
  | .hbm, ⟨5, _⟩ => ⟨S160x12288, .bf16⟩
  | .hbm, ⟨6, _⟩ => ⟨S1x2048, .f32⟩
  | .hbm, ⟨7, _⟩ => ⟨S6x2048, .i32⟩
  | .hbm, ⟨8, _⟩ => ⟨S160x2048, .f32⟩
  | .hbm, ⟨9, _⟩ => ⟨S1x5, .f32⟩
  | .hbm, ⟨10, _⟩ => ⟨S1x5, .f32⟩
  | .hbm, ⟨11, _⟩ => ⟨S1x5, .f32⟩
  | .hbm, ⟨12, _⟩ => ⟨S5x160, .f32⟩
  | .hbm, ⟨13, _⟩ => ⟨S5x160, .i32⟩
  | .hbm, ⟨14, _⟩ => ⟨S5x8, .i32⟩
  | .hbm, ⟨15, _⟩ => ⟨S2048x160, .f32⟩
  | .hbm, ⟨16, _⟩ => ⟨S5, .f32⟩
  | .hbm, ⟨17, _⟩ => ⟨S5, .f32⟩
  | .hbm, ⟨18, _⟩ => ⟨S5, .f32⟩
  | .local _ .vmem, ⟨0, _⟩ => ⟨S160x12288, .bf16⟩
  | .local _ .vmem, ⟨1, _⟩ => ⟨S512x12288, .fp8e4m3⟩
  | .local _ .vmem, ⟨2, _⟩ => ⟨S512x12288, .fp8e4m3⟩
  | .local _ .vmem, ⟨3, _⟩ => ⟨S1x512, .f32⟩
  | .local _ .vmem, ⟨4, _⟩ => ⟨S1x512, .f32⟩
  | .local _ .vmem, ⟨5, _⟩ => ⟨S6x2048, .i32⟩
  | .local _ .vmem, ⟨6, _⟩ => ⟨S160x512, .f32⟩
  | .local _ .vmem, ⟨7, _⟩ => ⟨S160x512, .f32⟩
  | .local _ .vmem, ⟨8, _⟩ => ⟨S1x5, .f32⟩
  | .local _ .vmem, ⟨9, _⟩ => ⟨S1x5, .f32⟩
  | .local _ .vmem, ⟨10, _⟩ => ⟨S1x5, .f32⟩
  | .local _ .vmem, ⟨11, _⟩ => ⟨S5x160, .f32⟩
  | .local _ .vmem, ⟨12, _⟩ => ⟨S5x160, .i32⟩
  | .local _ .vmem, ⟨13, _⟩ => ⟨S5x8, .i32⟩
  | .local _ .vmem, ⟨14, _⟩ => ⟨S5x160x128, .f32⟩
  | .local _ .vmem, ⟨15, _⟩ => ⟨S5x160x128, .f32⟩
  | .local _ .vmem, ⟨16, _⟩ => ⟨S3x8x256, .f32⟩
  | .local _ .smem, ⟨0, _⟩ => ⟨S6, .i32⟩
  | _, _ => ⟨S2048x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev main_v3_6 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32_327 : BitVec 32 := 3#32
  let v693 : BitVec 1 := Scalar.cmpi .eq arg0 c3_i32_327
  let v694 : BitVec 32 := Scalar.extui v693
  let c0_i32_328 : BitVec 32 := 0#32
  let v695 : BitVec 1 := Scalar.cmpi .ne v694 c0_i32_328
  v695

def k0_cond1 (i : grid0.Coords) : BitVec 1 :=
  let arg0 : BitVec 32 := BitVec.ofNat 32 (i 0).val
  let c0_i32_5 : BitVec 32 := 0#32
  let v38 : BitVec 1 := Scalar.cmpi .eq arg0 c0_i32_5
  let v39 : BitVec 32 := Scalar.extui v38
  let c0_i32_6 : BitVec 32 := 0#32
  let v40 : BitVec 1 := Scalar.cmpi .ne v39 c0_i32_6
  v40

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S6 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S160x12288 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x12288 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x2048 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S160x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5x160 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5x160 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S5x8 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S2048x12288 : Shape := ⟨2, ![2048, 12288]⟩
abbrev S2048 : Shape := ⟨1, ![2048]⟩
abbrev S12288x160 : Shape := ⟨2, ![12288, 160]⟩
abbrev S2048x6 : Shape := ⟨2, ![2048, 6]⟩
abbrev S6 : Shape := ⟨1, ![6]⟩
abbrev S2048x160 : Shape := ⟨2, ![2048, 160]⟩
abbrev S2048x1 : Shape := ⟨2, ![2048, 1]⟩
abbrev S_ : Shape := ⟨0, ![]⟩
abbrev S1x6 : Shape := ⟨2, ![1, 6]⟩
abbrev S5 : Shape := ⟨1, ![5]⟩
abbrev S1x5 : Shape := ⟨2, ![1, 5]⟩
abbrev S2048x5 : Shape := ⟨2, ![2048, 5]⟩
abbrev S5x2048 : Shape := ⟨2, ![5, 2048]⟩
abbrev S5x2048x1 : Shape := ⟨3, ![5, 2048, 1]⟩
abbrev S1x2048x160 : Shape := ⟨3, ![1, 2048, 160]⟩
abbrev S5x2048x160 : Shape := ⟨3, ![5, 2048, 160]⟩
abbrev S5x160 : Shape := ⟨2, ![5, 160]⟩
abbrev S5x1 : Shape := ⟨2, ![5, 1]⟩
abbrev S2048x6x1 : Shape := ⟨3, ![2048, 6, 1]⟩
abbrev S160 : Shape := ⟨1, ![160]⟩
abbrev S1x1x160 : Shape := ⟨3, ![1, 1, 160]⟩
abbrev S2048x6x160 : Shape := ⟨3, ![2048, 6, 160]⟩
abbrev S8 : Shape := ⟨1, ![8]⟩
abbrev S1x1x8 : Shape := ⟨3, ![1, 1, 8]⟩
abbrev S2048x6x8 : Shape := ⟨3, ![2048, 6, 8]⟩
abbrev S2048x8 : Shape := ⟨2, ![2048, 8]⟩
abbrev S1x2048x8 : Shape := ⟨3, ![1, 2048, 8]⟩
abbrev S5x2048x8 : Shape := ⟨3, ![5, 2048, 8]⟩
abbrev S5x8 : Shape := ⟨2, ![5, 8]⟩
abbrev S5x8x20 : Shape := ⟨3, ![5, 8, 20]⟩
abbrev S5x8x1 : Shape := ⟨3, ![5, 8, 1]⟩
abbrev S2048x5x1 : Shape := ⟨3, ![2048, 5, 1]⟩
abbrev S1x5x160 : Shape := ⟨3, ![1, 5, 160]⟩
abbrev S2048x5x160 : Shape := ⟨3, ![2048, 5, 160]⟩

abbrev nBuf : Space → Nat
  | .hbm => 200
  | .vmem => 2
  | .smem => 0
  | _ => 0

abbrev hbmTy0_0 (i : Nat) : BufTy := match i % 128 with
  | 0 => ⟨S2048x12288, .fp8e4m3⟩
  | 1 => ⟨S2048, .f32⟩
  | 2 => ⟨S12288x160, .bf16⟩
  | 3 => ⟨S2048x6, .i32⟩
  | 4 => ⟨S6, .i32⟩
  | 5 => ⟨S2048x12288, .bf16⟩
  | 6 => ⟨S2048x160, .f32⟩
  | 7 => ⟨S2048x1, .f32⟩
  | 8 => ⟨S2048x160, .f32⟩
  | 9 => ⟨S2048x160, .f32⟩
  | 10 => ⟨S2048x160, .f32⟩
  | 11 => ⟨S2048x160, .f32⟩
  | 12 => ⟨S_, .f32⟩
  | 13 => ⟨S2048x160, .f32⟩
  | 14 => ⟨S2048x160, .f32⟩
  | 15 => ⟨S_, .f32⟩
  | 16 => ⟨S2048x160, .f32⟩
  | 17 => ⟨S2048x160, .f32⟩
  | 18 => ⟨S_, .f32⟩
  | 19 => ⟨S2048, .f32⟩
  | 20 => ⟨S2048x1, .f32⟩
  | 21 => ⟨S_, .f32⟩
  | 22 => ⟨S2048x1, .f32⟩
  | 23 => ⟨S2048x1, .f32⟩
  | 24 => ⟨S2048x160, .f32⟩
  | 25 => ⟨S2048x160, .f32⟩
  | 26 => ⟨S2048, .i32⟩
  | 27 => ⟨S1x6, .i32⟩
  | 28 => ⟨S2048x1, .i32⟩
  | 29 => ⟨S2048x6, .i32⟩
  | 30 => ⟨S2048x6, .i32⟩
  | 31 => ⟨S2048x6, .i1⟩
  | 32 => ⟨S2048x6, .i32⟩
  | 33 => ⟨S_, .i32⟩
  | 34 => ⟨S2048, .i32⟩
  | 35 => ⟨S_, .i32⟩
  | 36 => ⟨S2048, .i32⟩
  | 37 => ⟨S2048, .i32⟩
  | 38 => ⟨S2048x1, .i32⟩
  | 39 => ⟨S5, .i32⟩
  | 40 => ⟨S1x5, .i32⟩
  | 41 => ⟨S2048x5, .i32⟩
  | 42 => ⟨S2048x5, .i32⟩
  | 43 => ⟨S2048x5, .i1⟩
  | 44 => ⟨S5x2048, .i1⟩
  | 45 => ⟨S5x2048x1, .i1⟩
  | 46 => ⟨S5, .i32⟩
  | 47 => ⟨S5, .i32⟩
  | 48 => ⟨S5, .i32⟩
  | 49 => ⟨S5, .f32⟩
  | 50 => ⟨S1x2048x160, .f32⟩
  | 51 => ⟨S_, .f32⟩
  | 52 => ⟨S_, .f32⟩
  | 53 => ⟨S5x2048x160, .i1⟩
  | 54 => ⟨S5x2048x160, .f32⟩
  | 55 => ⟨S5x2048x160, .f32⟩
  | 56 => ⟨S5x2048x160, .f32⟩
  | 57 => ⟨S_, .f32⟩
  | 58 => ⟨S5x160, .f32⟩
  | 59 => ⟨S5x1, .f32⟩
  | 60 => ⟨S5x160, .f32⟩
  | 61 => ⟨S5x160, .f32⟩
  | 62 => ⟨S2048x6x1, .i32⟩
  | 63 => ⟨S160, .i32⟩
  | 64 => ⟨S1x1x160, .i32⟩
  | 65 => ⟨S2048x6x160, .i32⟩
  | 66 => ⟨S2048x6x160, .i32⟩
  | 67 => ⟨S2048x6x160, .i1⟩
  | 68 => ⟨S2048x6x160, .i32⟩
  | 69 => ⟨S_, .i32⟩
  | 70 => ⟨S2048x160, .i32⟩
  | 71 => ⟨S1x2048x160, .i32⟩
  | 72 => ⟨S_, .i32⟩
  | 73 => ⟨S_, .i32⟩
  | 74 => ⟨S5x2048x160, .i1⟩
  | 75 => ⟨S5x2048x160, .i32⟩
  | 76 => ⟨S5x2048x160, .i32⟩
  | 77 => ⟨S5x2048x160, .i32⟩
  | 78 => ⟨S_, .i32⟩
  | 79 => ⟨S5x160, .i32⟩
  | 80 => ⟨S_, .i32⟩
  | 81 => ⟨S_, .i32⟩
  | 82 => ⟨S2048x6, .i32⟩
  | 83 => ⟨S2048x6, .i32⟩
  | 84 => ⟨S2048x6, .i32⟩
  | 85 => ⟨S_, .i32⟩
  | 86 => ⟨S2048x6, .i32⟩
  | 87 => ⟨S2048x6, .i1⟩
  | 88 => ⟨S2048x6, .i32⟩
  | 89 => ⟨S2048x6, .i32⟩
  | 90 => ⟨S_, .i32⟩
  | 91 => ⟨S2048x6, .i32⟩
  | 92 => ⟨S2048x6, .i1⟩
  | 93 => ⟨S2048x6, .i1⟩
  | 94 => ⟨S_, .i32⟩
  | 95 => ⟨S2048x6, .i32⟩
  | 96 => ⟨S2048x6, .i32⟩
  | 97 => ⟨S2048x6, .i32⟩
  | 98 => ⟨S2048x6x1, .i32⟩
  | 99 => ⟨S8, .i32⟩
  | 100 => ⟨S1x1x8, .i32⟩
  | 101 => ⟨S2048x6x8, .i32⟩
  | 102 => ⟨S2048x6x8, .i32⟩
  | 103 => ⟨S2048x6x8, .i1⟩
  | 104 => ⟨S_, .i1⟩
  | 105 => ⟨S2048x8, .i1⟩
  | 106 => ⟨S2048x8, .i32⟩
  | 107 => ⟨S1x2048x8, .i32⟩
  | 108 => ⟨S_, .i32⟩
  | 109 => ⟨S_, .i32⟩
  | 110 => ⟨S5x2048x8, .i1⟩
  | 111 => ⟨S5x2048x8, .i32⟩
  | 112 => ⟨S5x2048x8, .i32⟩
  | 113 => ⟨S5x2048x8, .i32⟩
  | 114 => ⟨S_, .i32⟩
  | 115 => ⟨S5x8, .i32⟩
  | 116 => ⟨S5x160, .f32⟩
  | 117 => ⟨S_, .f32⟩
  | 118 => ⟨S5x160, .f32⟩
  | 119 => ⟨S5x160, .f32⟩
  | 120 => ⟨S5x1, .f32⟩
  | 121 => ⟨S5x160, .f32⟩
  | 122 => ⟨S5x160, .f32⟩
  | 123 => ⟨S5x8x20, .f32⟩
  | 124 => ⟨S_, .f32⟩
  | 125 => ⟨S5x8, .f32⟩
  | 126 => ⟨S_, .f32⟩
  | 127 => ⟨S5x8, .f32⟩
  | _ => ⟨S2048x12288, .fp8e4m3⟩

abbrev hbmTy0_1 (i : Nat) : BufTy := match i % 128 with
  | 0 => ⟨S5x8, .f32⟩
  | 1 => ⟨S5x8x20, .f32⟩
  | 2 => ⟨S_, .f32⟩
  | 3 => ⟨S5x8, .f32⟩
  | 4 => ⟨S5x8, .f32⟩
  | 5 => ⟨S_, .f32⟩
  | 6 => ⟨S5x8, .f32⟩
  | 7 => ⟨S5x8, .f32⟩
  | 8 => ⟨S5x1, .f32⟩
  | 9 => ⟨S5x8, .f32⟩
  | 10 => ⟨S5x8, .f32⟩
  | 11 => ⟨S5x160, .f32⟩
  | 12 => ⟨S_, .f32⟩
  | 13 => ⟨S5, .f32⟩
  | 14 => ⟨S_, .f32⟩
  | 15 => ⟨S5, .f32⟩
  | 16 => ⟨S5, .f32⟩
  | 17 => ⟨S5x8, .f32⟩
  | 18 => ⟨S_, .f32⟩
  | 19 => ⟨S5, .f32⟩
  | 20 => ⟨S_, .f32⟩
  | 21 => ⟨S5, .f32⟩
  | 22 => ⟨S5, .f32⟩
  | 23 => ⟨S5x8, .f32⟩
  | 24 => ⟨S_, .f32⟩
  | 25 => ⟨S5, .f32⟩
  | 26 => ⟨S_, .f32⟩
  | 27 => ⟨S5, .f32⟩
  | 28 => ⟨S5, .f32⟩
  | 29 => ⟨S_, .f32⟩
  | 30 => ⟨S5x8x20, .f32⟩
  | 31 => ⟨S5x8x20, .f32⟩
  | 32 => ⟨S_, .f32⟩
  | 33 => ⟨S5x8, .f32⟩
  | 34 => ⟨S5x8, .f32⟩
  | 35 => ⟨S_, .f32⟩
  | 36 => ⟨S5x8, .f32⟩
  | 37 => ⟨S5x8, .f32⟩
  | 38 => ⟨S5x8, .f32⟩
  | 39 => ⟨S5x8x1, .f32⟩
  | 40 => ⟨S5x8x20, .f32⟩
  | 41 => ⟨S5x8x20, .f32⟩
  | 42 => ⟨S5x160, .f32⟩
  | 43 => ⟨S5x1, .f32⟩
  | 44 => ⟨S_, .f32⟩
  | 45 => ⟨S5x1, .f32⟩
  | 46 => ⟨S5x1, .f32⟩
  | 47 => ⟨S5x160, .f32⟩
  | 48 => ⟨S5x160, .f32⟩
  | 49 => ⟨S2048x5x1, .i1⟩
  | 50 => ⟨S1x5x160, .f32⟩
  | 51 => ⟨S_, .f32⟩
  | 52 => ⟨S_, .f32⟩
  | 53 => ⟨S2048x5x160, .i1⟩
  | 54 => ⟨S2048x5x160, .f32⟩
  | 55 => ⟨S2048x5x160, .f32⟩
  | 56 => ⟨S2048x5x160, .f32⟩
  | 57 => ⟨S_, .f32⟩
  | 58 => ⟨S2048x160, .f32⟩
  | 59 => ⟨S_, .f32⟩
  | 60 => ⟨S2048x160, .f32⟩
  | 61 => ⟨S2048x160, .f32⟩
  | 62 => ⟨S2048x160, .f32⟩
  | 63 => ⟨S2048x160, .f32⟩
  | 64 => ⟨S_, .f32⟩
  | 65 => ⟨S2048, .f32⟩
  | 66 => ⟨S2048x1, .f32⟩
  | 67 => ⟨S2048x160, .f32⟩
  | 68 => ⟨S2048x160, .f32⟩
  | 69 => ⟨S2048x160, .f32⟩
  | 70 => ⟨S2048x160, .f32⟩
  | 71 => ⟨S2048x160, .f32⟩
  | _ => ⟨S2048x12288, .fp8e4m3⟩

abbrev hbmTy (i : Nat) : BufTy := match i / 128 with
  | 0 => hbmTy0_0 i
  | 1 => hbmTy0_1 i
  | _ => ⟨S2048x12288, .fp8e4m3⟩

abbrev bufTy : (tb : Table) → Fin (tcTables nBuf tb) → BufTy
  | .hbm, ⟨i, _⟩ => hbmTy i
  | .local _ .vmem, ⟨0, _⟩ => ⟨S2048x12288, .fp8e4m3⟩
  | .local _ .vmem, ⟨1, _⟩ => ⟨S2048x12288, .bf16⟩
  | _, _ => ⟨S2048x12288, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_v24 : Ref sig .tc := ⟨.hbm, 34, rfl⟩
abbrev main_c_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_6 : Ref sig .tc := ⟨.hbm, 69, rfl⟩
abbrev main_v52 : Ref sig .tc := ⟨.hbm, 70, rfl⟩
abbrev main_v53 : Ref sig .tc := ⟨.hbm, 71, rfl⟩
abbrev main_c_7 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_v54 : Ref sig .tc := ⟨.hbm, 77, rfl⟩
abbrev main_c_8 : Ref sig .tc := ⟨.hbm, 78, rfl⟩
abbrev main_v55 : Ref sig .tc := ⟨.hbm, 79, rfl⟩
abbrev main_c_9 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_c : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_c_0 : Ref sig .tc := ⟨.hbm, 94, rfl⟩
abbrev main_call2_v12 : Ref sig .tc := ⟨.hbm, 95, rfl⟩
abbrev main_call2_v13 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_c_10 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_c_11 : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_call3_v3 : Ref sig .tc := ⟨.hbm, 112, rfl⟩
abbrev main_v66 : Ref sig .tc := ⟨.hbm, 113, rfl⟩
abbrev main_c_12 : Ref sig .tc := ⟨.hbm, 114, rfl⟩
abbrev main_v67 : Ref sig .tc := ⟨.hbm, 115, rfl⟩
abbrev main_v68 : Ref sig .tc := ⟨.hbm, 116, rfl⟩
abbrev main_cst_13 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_cst_14 : Ref sig .tc := ⟨.hbm, 124, rfl⟩
abbrev main_v75 : Ref sig .tc := ⟨.hbm, 125, rfl⟩
abbrev main_cst_15 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_cst_16 : Ref sig .tc := ⟨.hbm, 130, rfl⟩
abbrev main_v79 : Ref sig .tc := ⟨.hbm, 131, rfl⟩
abbrev main_v80 : Ref sig .tc := ⟨.hbm, 132, rfl⟩
abbrev main_cst_17 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_18 : Ref sig .tc := ⟨.hbm, 140, rfl⟩
abbrev main_v87 : Ref sig .tc := ⟨.hbm, 141, rfl⟩
abbrev main_cst_19 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_cst_20 : Ref sig .tc := ⟨.hbm, 146, rfl⟩
abbrev main_v91 : Ref sig .tc := ⟨.hbm, 147, rfl⟩
abbrev main_cst_21 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_22 : Ref sig .tc := ⟨.hbm, 152, rfl⟩
abbrev main_v95 : Ref sig .tc := ⟨.hbm, 153, rfl⟩
abbrev main_cst_23 : Ref sig .tc := ⟨.hbm, 154, rfl⟩
abbrev main_v96 : Ref sig .tc := ⟨.hbm, 155, rfl⟩
abbrev main_v97 : Ref sig .tc := ⟨.hbm, 156, rfl⟩
abbrev main_cst_24 : Ref sig .tc := ⟨.hbm, 157, rfl⟩
abbrev main_v98 : Ref sig .tc := ⟨.hbm, 158, rfl⟩
abbrev main_v99 : Ref sig .tc := ⟨.hbm, 159, rfl⟩
abbrev main_cst_25 : Ref sig .tc := ⟨.hbm, 160, rfl⟩
abbrev main_v100 : Ref sig .tc := ⟨.hbm, 161, rfl⟩
abbrev main_v101 : Ref sig .tc := ⟨.hbm, 162, rfl⟩
abbrev main_cst_26 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_cst_27 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_cst_28 : Ref sig .tc := ⟨.hbm, 179, rfl⟩
abbrev main_call4_v0 : Ref sig .tc := ⟨.hbm, 180, rfl⟩
abbrev main_call4_v1 : Ref sig .tc := ⟨.hbm, 181, rfl⟩
abbrev main_call4_v2 : Ref sig .tc := ⟨.hbm, 182, rfl⟩
abbrev main_call4_v3 : Ref sig .tc := ⟨.hbm, 183, rfl⟩
abbrev main_v116 : Ref sig .tc := ⟨.hbm, 184, rfl⟩
abbrev main_cst_29 : Ref sig .tc := ⟨.hbm, 185, rfl⟩
abbrev main_v117 : Ref sig .tc := ⟨.hbm, 186, rfl⟩
abbrev main_cst_30 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_cst_31 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2048x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x12288 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Terms.lean ====
/- The kernel's arithmetic, each repeated piece written once: the segment of a token, the counts of a chunk of tokens, the
   fractions and the coefficients they give, the scores of a chunk of tokens with their gradients, and the closing losses. -/
module

public import proofs.«01_k».proof.Proof.Gen.KernelIdeal.Skeleton

@[expose] public section

set_option maxRecDepth 16384

noncomputable section

namespace Cert.KernelIdeal.Terms

open Cert.KernelIdeal Cert.KernelIdeal.Gen
open Idealize.ShloMosaic Idealize.ShloMosaic.TcCoe

variable {F : FTy → Type} [FloatOps F]

/-! ## Segments -/

/-- The segment of each token: −1 plus the number of the six offsets at or before it. -/
def segOf {s : Shape} (tok : IVec s 32) (o : Fin 6 → BitVec 32) : IVec s 32 :=
  addi (addi (addi (addi (addi (addi (broadcast s 4294967295#32)
    (extui 32 (cmpi .sle (broadcast s (o 0)) tok) natLt_1_32))
    (extui 32 (cmpi .sle (broadcast s (o 1)) tok) natLt_1_32))
    (extui 32 (cmpi .sle (broadcast s (o 2)) tok) natLt_1_32))
    (extui 32 (cmpi .sle (broadcast s (o 3)) tok) natLt_1_32))
    (extui 32 (cmpi .sle (broadcast s (o 4)) tok) natLt_1_32))
    (extui 32 (cmpi .sle (broadcast s (o 5)) tok) natLt_1_32)

/-- The 256 tokens from `n` on. -/
def tok256 (n : BitVec 32) : IVec S1x256 32 := addi (broadcast S1x256 n) (iota .tc S1x256 32 [1] iota_S1x256_d1_w32)

/-- The 128 tokens from `n` on. -/
def tok128 (n : BitVec 32) : IVec S1x128 32 := addi (broadcast S1x128 n) (iota .tc S1x128 32 [1] iota_S1x128_d1_w32)

/-! ## Counts -/

/-- The floor of the quotient by 20, from the truncated quotient. -/
def floor20 {s : Shape} (x : IVec s 32) : IVec s 32 :=
  select (andi (cmpi .ne (subi (extui 32 (cmpi .sgt x (broadcast s 0#32)) natLt_1_32)
      (extui 32 (cmpi .slt x (broadcast s 0#32)) natLt_1_32))
      (broadcast s (Scalar.subi (Scalar.extui (Scalar.cmpi .sgt 20#32 0#32)) (Scalar.extui (Scalar.cmpi .slt 20#32 0#32)))))
    (cmpi .ne (remsi x (broadcast s 20#32)) (broadcast s 0#32)))
    (subi (divsi x (broadcast s 20#32)) (broadcast s 1#32)) (divsi x (broadcast s 20#32))

/-- The `k`-th choice of each token of a chunk. -/
def choice (ids : IVec S6x256 32) (k : Fin 6) : IVec S1x256 32 :=
  extractStridedSlice S1x256 ![k.val, 0] ids (by revert k; decide)

/-- 1 where the row's number is the entry of the given line, 0 elsewhere. -/
def isRow (x : IVec S1x256 32) : FVec F S256x256 .f32 :=
  sitofp .f32 (extui 32 (cmpi .eq (iota .tc S256x256 32 [0] iota_S256x256_d0_w32) (broadcastTo S256x256 x)) natLt_1_32)

/-- How often each token chose each expert. -/
def hits (ids : IVec S6x256 32) : FVec F S256x256 .f32 :=
  addf (addf (addf (addf (addf (addf (broadcast S256x256 (Scalar.ofBits .f32 0x00000000#32))
    (isRow (choice ids 0))) (isRow (choice ids 1))) (isRow (choice ids 2))) (isRow (choice ids 3))) (isRow (choice ids 4)))
    (isRow (choice ids 5))

/-- The row of the device of a choice: 160 plus the device. -/
def devRow (ids : IVec S6x256 32) (k : Fin 6) : IVec S1x256 32 := addi (broadcast S1x256 160#32) (floor20 (choice ids k))

/-- Whether each token chose an expert of each device. -/
def devHits (ids : IVec S6x256 32) : FVec F S256x256 .f32 :=
  maximumf (maximumf (maximumf (maximumf (maximumf (maximumf (broadcast S256x256 (Scalar.ofBits .f32 0x00000000#32))
    (isRow (devRow ids 0))) (isRow (devRow ids 1))) (isRow (devRow ids 2))) (isRow (devRow ids 3))) (isRow (devRow ids 4)))
    (isRow (devRow ids 5))

/-- The segment of each token as a column of zeros and a one. -/
def oneHot (seg : IVec S1x256 32) : FVec F S8x256 .bf16 :=
  truncf .bf16 (sitofp .f32 (extui 32 (cmpi .eq (iota .tc S8x256 32 [0] iota_S8x256_d0_w32) (broadcastTo S8x256 seg)) natLt_1_32)) bitsLt_bf16_f32

/-- The counts with those of the 256 tokens from `n` on added. -/
def addCounts (n : BitVec 32) (ids : IVec S6x256 32) (o : Fin 6 → BitVec 32) (cnt : FVec F S8x256 .f32) : FVec F S8x256 .f32 :=
  addf cnt (matmul dot_S8x256_S256x256_S8x256_1_1_0_0_n_n none (oneHot (segOf (tok256 n) o))
    (truncf .bf16 (addf (hits ids) (devHits ids)) bitsLt_bf16_f32) (constant S8x256 .f32 0x00000000#32))

/-- The counts of all tokens, from the eight chunks of their choices. -/
def counts (ids : Fin 8 → IVec S6x256 32) (o : Fin 6 → BitVec 32) : FVec F S8x256 .f32 :=
  addCounts 1792#32 (ids 7) o (addCounts 1536#32 (ids 6) o (addCounts 1280#32 (ids 5) o (addCounts 1024#32 (ids 4) o
    (addCounts 768#32 (ids 3) o (addCounts 512#32 (ids 2) o (addCounts 256#32 (ids 1) o (addCounts 0#32 (ids 0) o
      (broadcast S8x256 (Scalar.ofBits .f32 0x00000000#32)))))))))

/-- The counts of the experts, as numbers. -/
def expertCounts (cnt : FVec F S8x256 .f32) : IVec S5x160 32 := fptosi 32 (extractStridedSlice S5x160 ![0, 0] cnt)

/-- The counts of the devices, as numbers. -/
def deviceCounts (cnt : FVec F S8x256 .f32) : IVec S5x8 32 := fptosi 32 (extractStridedSlice S5x8 ![0, 160] cnt)

/-! ## Fractions -/

/-- One step of the table of lengths. -/
def lenStep (q : BitVec 32) (a b : BitVec 32) (old : IVec S8x1 32) : IVec S8x1 32 :=
  select (cmpi .eq (iota .tc S8x1 32 [0] iota_S8x1_d0_w32) (broadcast S8x1 q)) (broadcast S8x1 (Scalar.subi a b)) old

/-- The length of each segment, 1 in the rows past the fifth. -/
def lengths (o : Fin 6 → BitVec 32) : FVec F S8x1 .f32 :=
  sitofp .f32 (lenStep 4#32 (o 5) (o 4) (lenStep 3#32 (o 4) (o 3) (lenStep 2#32 (o 3) (o 2) (lenStep 1#32 (o 2) (o 1)
    (lenStep 0#32 (o 1) (o 0) (broadcast S8x1 1#32))))))

/-- The number of each lane. -/
def lane : IVec S8x256 32 := iota .tc S8x256 32 [1] iota_S8x256_d1_w32

/-- The fraction of a segment's choices each expert got. -/
def frac (len : FVec F S8x1 .f32) (cnt : FVec F S8x256 .f32) : FVec F S8x256 .f32 :=
  divf (mulf (broadcast S8x256 (Scalar.ofBits .f32 0x41D55555#32))
    (select (cmpi .slt lane (broadcast S8x256 160#32)) cnt (broadcast S8x256 (Scalar.ofBits .f32 0x00000000#32))))
    (broadcastTo S8x256 len)

/-- The sum of each row. -/
def rowSum (x : FVec F S8x256 .f32) : FVec F S8x1 .f32 :=
  shapeCast S8x1 (multiReduction .add [1] S8 x 0x00000000#32 reduces_S8x256_S8 (.inl rfl) rfl)

/-- A value of each row put at the lanes of device `d`. -/
def putDev (d : BitVec 32) (v : FVec F S8x1 .f32) (old : FVec F S8x256 .f32) : FVec F S8x256 .f32 :=
  select (cmpi .eq (floor20 lane) (broadcast S8x256 d)) (broadcastTo S8x256 (shapeCast S8x1 v)) old

/-- The sum of the lanes of device `d`. -/
def devSum (d : BitVec 32) (f : FVec F S8x256 .f32) : FVec F S8x1 .f32 :=
  rowSum (select (cmpi .eq (floor20 lane) (broadcast S8x256 d)) f (broadcast S8x256 (Scalar.ofBits .f32 0x00000000#32)))

/-- The mean fraction of each device, at the lanes of the device. -/
def fracDev (f : FVec F S8x256 .f32) : FVec F S8x256 .f32 :=
  mulf (putDev 7#32 (devSum 7#32 f) (putDev 6#32 (devSum 6#32 f) (putDev 5#32 (devSum 5#32 f) (putDev 4#32 (devSum 4#32 f)
    (putDev 3#32 (devSum 3#32 f) (putDev 2#32 (devSum 2#32 f) (putDev 1#32 (devSum 1#32 f) (putDev 0#32 (devSum 0#32 f)
      (broadcast S8x256 (Scalar.ofBits .f32 0x00000000#32)))))))))) (broadcast S8x256 (Scalar.ofBits .f32 0x3D4CCCCD#32))

/-- The fraction of tokens sent to a device, from the count in lane `l`. -/
def commOf (l : BitVec 32) (len : FVec F S8x1 .f32) (cnt : FVec F S8x256 .f32) : FVec F S8x1 .f32 :=
  divf (mulf (broadcast S8x1 (Scalar.ofBits .f32 0x402AAAAB#32))
    (rowSum (select (cmpi .eq lane (broadcast S8x256 l)) cnt (broadcast S8x256 (Scalar.ofBits .f32 0x00000000#32))))) len

/-- The fraction of tokens sent to each device, at the lanes of the device. -/
def fracComm (len : FVec F S8x1 .f32) (cnt : FVec F S8x256 .f32) : FVec F S8x256 .f32 :=
  putDev 7#32 (commOf 167#32 len cnt) (putDev 6#32 (commOf 166#32 len cnt) (putDev 5#32 (commOf 165#32 len cnt)
    (putDev 4#32 (commOf 164#32 len cnt) (putDev 3#32 (commOf 163#32 len cnt) (putDev 2#32 (commOf 162#32 len cnt)
      (putDev 1#32 (commOf 161#32 len cnt) (putDev 0#32 (commOf 160#32 len cnt)
        (broadcast S8x256 (Scalar.ofBits .f32 0x00000000#32)))))))))

/-- The coefficient of each expert's score, one column a segment. -/
def coefCols (len : FVec F S8x1 .f32) (cnt : FVec F S8x256 .f32) : FVec F S160x8 .f32 :=
  extractStridedSlice S160x8 ![0, 0] (transpose S256x8 [1, 0] (divf
    (addf (mulf (broadcast S8x256 (Scalar.ofBits .f32 0x3B449BA6#32)) (frac len cnt))
      (addf (mulf (broadcast S8x256 (Scalar.ofBits .f32 0x3D4CCCCD#32)) (fracDev (frac len cnt)))
        (mulf (broadcast S8x256 (Scalar.ofBits .f32 0x3CA3D70A#32)) (fracComm len cnt))))
    (broadcastTo S8x256 (mulf (broadcast S8x1 (Scalar.ofBits .f32 0x40A00000#32)) len))))

/-- The coefficients of segment `q`, the same in every lane. -/
def coef (len : FVec F S8x1 .f32) (cnt : FVec F S8x256 .f32) (q : Fin 5) : FVec F S1x160x128 .f32 :=
  shapeCast S1x160x128 (broadcastTo S160x128 (shapeCast S160x1
    (extractStridedSlice S160x1 ![0, q.val] (coefCols len cnt) (by revert q; decide))))

/-! ## Scores and gradients -/

/-- The scores before scaling: the products of the weights and the codes of a block. -/
def scores (w : Vec F S160x12288 .bf16) (x : Vec F S512x12288 .fp8e4m3) : FVec F S160x512 .f32 :=
  matmul dot_S160x12288_S512x12288_S160x512_1_1_0_0_n_n none (shapeCast S160x12288 w) x (constant S160x512 .f32 0x00000000#32)

/-- The sigmoid of the scaled scores of a chunk. -/
def sig (z : FVec F S160x128 .f32) (sc : Vec F S1x128 .f32) : FVec F S160x128 .f32 :=
  divf (broadcast S160x128 (Scalar.ofBits .f32 0x3F800000#32)) (addf (broadcast S160x128 (Scalar.ofBits .f32 0x3F800000#32))
    (exp (subf (broadcast S160x128 (Scalar.ofBits .f32 0x00000000#32)) (mulf z (broadcastTo S160x128 (shapeCast S1x128 sc))))))

/-- The sum of each column. -/
def colSum (x : FVec F S160x128 .f32) : FVec F S1x128 .f32 :=
  shapeCast S1x128 (multiReduction .add [0] S128 x 0x00000000#32 reduces_S160x128_S128 (.inl rfl) rfl)

/-- The reciprocal of the sum of a token's scores. -/
def recip (a : FVec F S160x128 .f32) : FVec F S1x128 .f32 :=
  divf (broadcast S1x128 (Scalar.ofBits .f32 0x3F800000#32)) (colSum a)

/-- The normalised scores. -/
def norm (a : FVec F S160x128 .f32) : FVec F S160x128 .f32 := mulf a (broadcastTo S160x128 (recip a))

/-- Whether a token lies in segment `q`, the same for every expert. -/
def inSeg (q : BitVec 32) (seg : IVec S1x128 32) : IVec S160x128 1 :=
  broadcastTo S160x128 (shapeCast S1x128 (cmpi .eq seg (broadcast S1x128 q)))

/-- The coefficients of the tokens of a chunk, from those of the five segments. -/
def pick (seg : IVec S1x128 32) (c : Fin 5 → Vec F S1x160x128 .f32) : FVec F S160x128 .f32 :=
  select (inSeg 4#32 seg) (shapeCast S160x128 (c 4)) (select (inSeg 3#32 seg) (shapeCast S160x128 (c 3))
    (select (inSeg 2#32 seg) (shapeCast S160x128 (c 2)) (select (inSeg 1#32 seg) (shapeCast S160x128 (c 1))
      (select (inSeg 0#32 seg) (shapeCast S160x128 (c 0)) (broadcast S160x128 (Scalar.ofBits .f32 0x00000000#32))))))

/-- The running sum of a segment with the scores of a chunk added. -/
def accStep (q : BitVec 32) (seg : IVec S1x128 32) (s : FVec F S160x128 .f32) (old : Vec F S1x160x128 .f32) :
    FVec F S1x160x128 .f32 :=
  shapeCast S1x160x128 (addf (shapeCast S160x128 old)
    (select (inSeg q seg) s (broadcast S160x128 (Scalar.ofBits .f32 0x00000000#32))))

/-- The gradient of a chunk of tokens. -/
def grad (a : FVec F S160x128 .f32) (c : FVec F S160x128 .f32) : FVec F S160x128 .f32 :=
  mulf (mulf (mulf a (subf (broadcast S160x128 (Scalar.ofBits .f32 0x3F800000#32)) a))
    (subf c (broadcastTo S160x128 (colSum (mulf (norm a) c))))) (broadcastTo S160x128 (recip a))

/-- The scores of the chunk of 128 tokens from `128 k` on of a block. -/
def scoreCols (z : FVec F S160x512 .f32) (k : Fin 4) : FVec F S160x128 .f32 :=
  extractStridedSlice S160x128 ![0, 128 * k.val] z (by revert k; decide)

/-! ## Losses -/

/-- The sum over the lanes of a running sum, one row. -/
def laneSum (x : Vec F S1x160x128 .f32) : FVec F S1x160 .f32 :=
  shapeCast S1x160 (multiReduction .add [0] S160 (transpose S128x160 [1, 0] (shapeCast S160x128 x)) 0x00000000#32
    reduces_S128x160_S160 (.inl rfl) rfl)

/-- The mean normalised score of each segment and expert. -/
def meanScore (len : FVec F S8x1 .f32) (x : Fin 5 → Vec F S1x160x128 .f32) : FVec F S8x160 .f32 :=
  divf (concatenate S8x160 0 [⟨S1x160, laneSum (x 0)⟩, ⟨S1x160, laneSum (x 1)⟩, ⟨S1x160, laneSum (x 2)⟩,
      ⟨S1x160, laneSum (x 3)⟩, ⟨S1x160, laneSum (x 4)⟩, ⟨S1x160, broadcast S1x160 (Scalar.ofBits .f32 0x00000000#32)⟩,
      ⟨S1x160, broadcast S1x160 (Scalar.ofBits .f32 0x00000000#32)⟩,
      ⟨S1x160, broadcast S1x160 (Scalar.ofBits .f32 0x00000000#32)⟩]
      concatenates_S1x160_S1x160_S1x160_S1x160_S1x160_S1x160_S1x160_S1x160_S8x160_d0) (broadcastTo S8x160 len)

/-- The five rows of segments. -/
def meanRows (p : FVec F S8x160 .f32) : FVec F S5x160 .f32 := extractStridedSlice S5x160 ![0, 0] p

/-- A loss: `α` times the sum over the experts of fraction and mean score, the segments in a line. -/
def loss (α : BitVec 32) (f : Vec F S1x8x256 .f32) (p : FVec F S8x160 .f32) : FVec F S1x5 .f32 :=
  extractStridedSlice S1x5 ![0, 0] (shapeCast S1x128 (multiReduction .add [0] S128
    (select (cmpi .eq (iota .tc S8x128 32 [0] iota_S8x128_d0_w32) (iota .tc S8x128 32 [1] iota_S8x128_d1_w32))
      (broadcastTo S8x128 (shapeCast S8x1 (mulf (broadcast S8x1 (Scalar.ofBits .f32 α)) (shapeCast S8x1
        (multiReduction .add [1] S8 (mulf (extractStridedSlice S8x160 ![0, 0] (shapeCast S8x256 f)) p) 0x00000000#32
          reduces_S8x160_S8 (.inl rfl) rfl)))))
      (broadcast S8x128 (Scalar.ofBits .f32 0x00000000#32))) 0x00000000#32 reduces_S8x128_S128 (.inl rfl) rfl))

end Cert.KernelIdeal.Terms

end
-- ==== Proof.Staging.lean ====
/- Where the two conditionals of the kernel's body are taken, and the memrefs the body is called with: the twelve
   staging buffers of a point and the three scratch buffers. -/
module

public import proofs.«01_k».proof.Proof.Gen.KernelIdeal.Frame
public import proofs.«01_k».proof.Proof.Terms
public import Idealize.ShloMosaic.Lib.WordCmp
public import Idealize.ShloMosaic.Lib.Ring

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, k0_cond1, e0]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 4 = 3 :=
  (fun t => by
    have ht : t.val < 4 := Nat.lt_of_lt_of_eq t.isLt N_0
    have e0 : (grid0.coords t 0).val = t.val / 1 % 4 := Pipeline.Grid.coords_val t 0 (by decide) rfl
    simp only [cond0_1, k0_cond2, e0]
    word_cmp
   : ∀ t : Fin grid0.N, cond0_1 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S6 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S160x12288 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x12288 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6x2048 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S160x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x5 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x5 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x5 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S5x160 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S5x160 .i32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S5x8 .i32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S5x160x128 .f32 := Memref.whole cc0_scratch0
abbrev scM0_1 : Memref sig .tc .vmem S5x160x128 .f32 := Memref.whole cc0_scratch1
abbrev scM0_2 : Memref sig .tc .vmem S3x8x256 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Body

end
-- ==== Proof.Content.lean ====
/- What each point of the grid computes from the blocks it is handed and the contents of the scratch buffers, buffer by buffer:
   the gradients of a block of tokens, the running sums of the normalised scores, the tables of fractions and
   coefficients, and the closing losses. -/
module

public import proofs.«01_k».proof.Proof.Terms
public import Idealize.ShloMosaic.Lib.Pipeline.FrameBody
public import Idealize.ShloMosaic.Lib.Pointwise

@[expose] public section

set_option maxRecDepth 16384

noncomputable section

namespace Cert.KernelIdeal.Content

open Cert.KernelIdeal Cert.KernelIdeal.Gen Cert.KernelIdeal.Terms
open Idealize.ShloMosaic Idealize.ShloMosaic.TcCoe Idealize.ShloMosaic.Pointwise

variable {F : FTy → Type} [FloatOps F]

/-! ## Parts of the buffers -/

/-- The plane of segment `q` in a buffer of five planes. -/
abbrev plane (q : Fin 5) : Rect S5x160x128 := Rect.unit ![q.val, 0, 0] S1x160x128.size (by revert q; decide)

/-- The columns of chunk `k` in a block of gradients. -/
abbrev cols (k : Fin 4) : Rect S160x512 := Rect.unit ![0, 128 * k.val] S160x128.size (by revert k; decide)

/-- The table `i` of the three tables of fractions. -/
abbrev table (i : Fin 3) : Rect S3x8x256 := Rect.unit ![i.val, 0, 0] S1x8x256.size (by revert i; decide)

/-- The six offsets. -/
def offs (x0 : Vec F S6 .i32) (i : Fin 6) : BitVec 32 :=
  View.ld x0 (Rect.unit ![i.val] S1.size (by revert i; decide)) (Shape.Idx.first (show 0 < S1.numel by decide))

/-- The choices of the 256 tokens of chunk `n`. -/
def idsOf (x4 : Vec F S6x2048 .i32) (n : Fin 8) : IVec S6x256 32 :=
  shapeCast S6x256 (s := S6x256) (View.ld x4 (Rect.unit ![0, 256 * n.val] S6x256.size (by revert n; decide)))

/-- The scales of chunk `k` of a block. -/
def scaleOf (x3 : Vec F S1x512 .f32) (k : Fin 4) : Vec F S1x128 .f32 :=
  View.ld x3 (Rect.unit ![0, 128 * k.val] S1x128.size (by revert k; decide))

/-! ## What the first point puts in the tables -/

/-- The counts of all tokens. -/
def cntOf (x0 : Vec F S6 .i32) (x4 : Vec F S6x2048 .i32) : FVec F S8x256 .f32 := counts (idsOf x4) (offs x0)

/-- The coefficients, one plane a segment. -/
def coefs (x0 : Vec F S6 .i32) (x4 : Vec F S6x2048 .i32) : Vec F S5x160x128 .f32 :=
  fun j => coef (lengths (offs x0)) (cntOf x0 x4) (j 0) (ix3 0 (j 1) (j 2))

/-- The three tables of fractions. -/
def fracs (x0 : Vec F S6 .i32) (x4 : Vec F S6x2048 .i32) (i : Fin 3) : FVec F S8x256 .f32 := match i with
  | 0 => frac (lengths (offs x0)) (cntOf x0 x4)
  | 1 => fracDev (frac (lengths (offs x0)) (cntOf x0 x4))
  | 2 => fracComm (lengths (offs x0)) (cntOf x0 x4)

/-- The three tables as one buffer. -/
def tables (x0 : Vec F S6 .i32) (x4 : Vec F S6x2048 .i32) : Vec F S3x8x256 .f32 :=
  fun j => fracs x0 x4 (j 0) (ix2 (j 1) (j 2))

/-! ## What every point computes -/

/-- The segments of the tokens of chunk `k` of block `g`. -/
def segs (x0 : Vec F S6 .i32) (g : BitVec 32) (k : Fin 4) : IVec S1x128 32 :=
  segOf (tok128 (Scalar.addi (Scalar.muli g 512#32) (BitVec.ofNat 32 (128 * k.val)))) (offs x0)

/-- The sigmoids of chunk `k`. -/
def sigs (x1 : Vec F S160x12288 .bf16) (x2 : Vec F S512x12288 .fp8e4m3) (x3 : Vec F S1x512 .f32) (k : Fin 4) : FVec F S160x128 .f32 :=
  Terms.sig (scoreCols (scores x1 x2) k) (scaleOf x3 k)

/-- The running sum of segment `q` after the first `n` chunks. -/
def accVal (x0 : Vec F S6 .i32) (x1 : Vec F S160x12288 .bf16) (x2 : Vec F S512x12288 .fp8e4m3) (x3 : Vec F S1x512 .f32)
    (g : BitVec 32) (old : Vec F S5x160x128 .f32) (q : Fin 5) : Fin 5 → Vec F S1x160x128 .f32
  | 0 => View.ld old (plane q)
  | 1 => accStep (BitVec.ofNat 32 q.val) (segs x0 g 0) (norm (sigs x1 x2 x3 0)) (View.ld old (plane q))
  | 2 => accStep (BitVec.ofNat 32 q.val) (segs x0 g 1) (norm (sigs x1 x2 x3 1))
      (accStep (BitVec.ofNat 32 q.val) (segs x0 g 0) (norm (sigs x1 x2 x3 0)) (View.ld old (plane q)))
  | 3 => accStep (BitVec.ofNat 32 q.val) (segs x0 g 2) (norm (sigs x1 x2 x3 2))
      (accStep (BitVec.ofNat 32 q.val) (segs x0 g 1) (norm (sigs x1 x2 x3 1))
        (accStep (BitVec.ofNat 32 q.val) (segs x0 g 0) (norm (sigs x1 x2 x3 0)) (View.ld old (plane q))))
  | 4 => accStep (BitVec.ofNat 32 q.val) (segs x0 g 3) (norm (sigs x1 x2 x3 3))
      (accStep (BitVec.ofNat 32 q.val) (segs x0 g 2) (norm (sigs x1 x2 x3 2))
        (accStep (BitVec.ofNat 32 q.val) (segs x0 g 1) (norm (sigs x1 x2 x3 1))
          (accStep (BitVec.ofNat 32 q.val) (segs x0 g 0) (norm (sigs x1 x2 x3 0)) (View.ld old (plane q)))))

/-- The running sums after a point. -/
def accAfter (x0 : Vec F S6 .i32) (x1 : Vec F S160x12288 .bf16) (x2 : Vec F S512x12288 .fp8e4m3) (x3 : Vec F S1x512 .f32)
    (g : BitVec 32) (old : Vec F S5x160x128 .f32) : Vec F S5x160x128 .f32 :=
  fun j => accVal x0 x1 x2 x3 g old (j 0) 4 (ix3 0 (j 1) (j 2))

/-- The gradients of chunk `k`, given the buffer of coefficients. -/
def gradVal (x0 : Vec F S6 .i32) (x1 : Vec F S160x12288 .bf16) (x2 : Vec F S512x12288 .fp8e4m3) (x3 : Vec F S1x512 .f32)
    (g : BitVec 32) (cs : Vec F S5x160x128 .f32) (k : Fin 4) : FVec F S160x128 .f32 :=
  grad (sigs x1 x2 x3 k) (pick (segs x0 g k) fun q => View.ld cs (plane q))

/-- The gradients of a block. -/
def gradAfter (x0 : Vec F S6 .i32) (x1 : Vec F S160x12288 .bf16) (x2 : Vec F S512x12288 .fp8e4m3) (x3 : Vec F S1x512 .f32)
    (g : BitVec 32) (cs : Vec F S5x160x128 .f32) : Vec F S160x512 .f32 :=
  fun j => gradVal x0 x1 x2 x3 g cs ⟨(j 1).val / 128, Nat.div_lt_of_lt_mul (j 1).isLt⟩
    (ix2 (j 0) ⟨(j 1).val % 128, Nat.mod_lt _ (by decide)⟩)

/-! ## What the last point computes -/

/-- The mean normalised scores from the running sums. -/
def means (x0 : Vec F S6 .i32) (acc : Vec F S5x160x128 .f32) : FVec F S8x160 .f32 :=
  meanScore (lengths (offs x0)) fun q => View.ld acc (plane q)

/-- The loss of table `i`. -/
def lossOf (α : BitVec 32) (x0 : Vec F S6 .i32) (fs : Vec F S3x8x256 .f32) (acc : Vec F S5x160x128 .f32) (i : Fin 3) : FVec F S1x5 .f32 :=
  loss α (View.ld fs (table i)) (means x0 acc)

end Cert.KernelIdeal.Content

end
-- ==== Proof.Data.lean ====
/- The contents of every buffer at every point of the grid: what each point leaves in the staging buffers and what the scratch buffers carry from one point to the next. -/
module

public import proofs.«01_k».proof.Proof.Staging
public import proofs.«01_k».proof.Proof.Content

@[expose] public section

set_option maxRecDepth 16384

noncomputable section

namespace Cert.KernelIdeal.Body

open Cert.KernelIdeal Cert.KernelIdeal.Gen Cert.KernelIdeal.Content Cert.KernelIdeal.Terms
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets and the choices as the first point finds them. -/
def x0At (c : Dev nD) : Vec F S6 .i32 := iblk m c 0 t0_0
def x4At (c : Dev nD) : Vec F S6x2048 .i32 := iblk m c 4 t0_0

/-- The running sums before point `n`. -/
def accAt (c : Dev nD) : ℕ → Vec F S5x160x128 .f32
  | 0 => broadcast S5x160x128 (Scalar.ofBits .f32 0x00000000#32)
  | n + 1 => if h : n < cfg0.N then
      accAfter (iblk m c 0 ⟨n, h⟩) (iblk m c 1 ⟨n, h⟩) (iblk m c 2 ⟨n, h⟩) (iblk m c 3 ⟨n, h⟩)
        (BitVec.ofNat 32 (grid0.coords ⟨n, h⟩ 0).val) (accAt c n)
    else accAt c n

theorem accAt_succ (c : Dev nD) (t : Fin cfg0.N) : accAt m c (t.val + 1) =
    accAfter (iblk m c 0 t) (iblk m c 1 t) (iblk m c 2 t) (iblk m c 3 t) (BitVec.ofNat 32 (grid0.coords t 0).val) (accAt m c t.val) := by
  show (if h : t.val < cfg0.N then _ else _) = _
  rw [dif_pos t.isLt]

/-- What point `t` leaves in each output's staging buffer. -/
def gradAt (c : Dev nD) (t : Fin cfg0.N) : Vec F S160x512 .f32 :=
  gradAfter (iblk m c 0 t) (iblk m c 1 t) (iblk m c 2 t) (iblk m c 3 t) (BitVec.ofNat 32 (grid0.coords t 0).val) (coefs (x0At m c) (x4At m c))
def lossAt (α : BitVec 32) (i : Fin 3) (c : Dev nD) (t : Fin cfg0.N) : Vec F S1x5 .f32 :=
  lossOf α (iblk m c 0 t) (tables (x0At m c) (x4At m c)) (accAt m c (t.val + 1)) i
def meanAt (c : Dev nD) (t : Fin cfg0.N) : Vec F S5x160 .f32 := meanRows (means (iblk m c 0 t) (accAt m c (t.val + 1)))
def cntAt (c : Dev nD) : Vec F S5x160 .i32 := expertCounts (cntOf (x0At m c) (x4At m c))
def devAt (c : Dev nD) : Vec F S5x8 .i32 := deviceCounts (cntOf (x0At m c) (x4At m c))

/-- The invariant between points: before the first anything; afterwards the scratch buffers at the coefficients, the running
    sums and the tables, and the generator register at some state. -/
def PhiS (c : Dev nD) : (n : ℕ) → n ≤ cfg0.N → sProp 𝕄
  | 0, _ => Pipeline.ΦA spec0 c
  | n + 1, hn => iprop(iprop(owns (c : Thread nD τ) scM0_0 fullShare (coefs (x0At m c) (x4At m c)) ∗ owns (c : Thread nD τ) scM0_1 fullShare (accAt m c (n + 1))
      ∗ owns (c : Thread nD τ) scM0_2 fullShare (tables (x0At m c) (x4At m c))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (coefs (x0At m c) (x4At m c)) ∗ owns (c : Thread nD τ) scM0_1 fullShare (accAt m c (n + 1))
      ∗ owns (c : Thread nD τ) scM0_2 fullShare (tables (x0At m c) (x4At m c))) ∗ (∃ r, prngReg c r)) := rfl

theorem PhiS_pos (c : Dev nD) (n : ℕ) (h : n ≤ cfg0.N) (hz : n ≠ 0) :
    PhiS m c n h = iprop(iprop(owns (c : Thread nD τ) scM0_0 fullShare (coefs (x0At m c) (x4At m c)) ∗ owns (c : Thread nD τ) scM0_1 fullShare (accAt m c n)
      ∗ owns (c : Thread nD τ) scM0_2 fullShare (tables (x0At m c) (x4At m c))) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => gradAt m c t
    | ⟨6, _⟩ => lossAt m 0x3B449BA6 0 c t
    | ⟨7, _⟩ => lossAt m 0x3D4CCCCD 1 c t
    | ⟨8, _⟩ => lossAt m 0x3CA3D70A 2 c t
    | ⟨9, _⟩ => meanAt m c t
    | ⟨10, _⟩ => cntAt m c
    | ⟨11, _⟩ => devAt m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = gradAt m c t := by dsimp only [dats]
theorem after0_6 (c : Dev nD) (t : Fin cfg0.N) : (dats m 0 c).after 6 t = lossAt m 0x3B449BA6 0 c t := by dsimp only [dats]
theorem after0_7 (c : Dev nD) (t : Fin cfg0.N) : (dats m 0 c).after 7 t = lossAt m 0x3D4CCCCD 1 c t := by dsimp only [dats]
theorem after0_8 (c : Dev nD) (t : Fin cfg0.N) : (dats m 0 c).after 8 t = lossAt m 0x3CA3D70A 2 c t := by dsimp only [dats]
theorem after0_9 (c : Dev nD) (t : Fin cfg0.N) : (dats m 0 c).after 9 t = meanAt m c t := by dsimp only [dats]
theorem after0_10 (c : Dev nD) (t : Fin cfg0.N) : (dats m 0 c).after 10 t = cntAt m c := by dsimp only [dats]
theorem after0_11 (c : Dev nD) (t : Fin cfg0.N) : (dats m 0 c).after 11 t = devAt m c := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## Where the outputs are idle, and when they are written back -/

theorem idle_late : ∀ t : Fin cfg0.N, (t.val ≠ 3 → cfg0.idle 6 (grid0.coords t) = true ∧ cfg0.idle 7 (grid0.coords t) = true
      ∧ cfg0.idle 8 (grid0.coords t) = true ∧ cfg0.idle 9 (grid0.coords t) = true)
    ∧ (t.val = 3 → cfg0.idle 6 (grid0.coords t) = false ∧ cfg0.idle 7 (grid0.coords t) = false
      ∧ cfg0.idle 8 (grid0.coords t) = false ∧ cfg0.idle 9 (grid0.coords t) = false) :=
  (by decide +kernel : ∀ t : Fin grid0.N, _)

theorem idle_early : ∀ t : Fin cfg0.N, (t.val ≠ 0 → cfg0.idle 10 (grid0.coords t) = true ∧ cfg0.idle 11 (grid0.coords t) = true)
    ∧ (t.val = 0 → cfg0.idle 10 (grid0.coords t) = false ∧ cfg0.idle 11 (grid0.coords t) = false) :=
  (by decide +kernel : ∀ t : Fin grid0.N, _)

theorem flush_last : ∀ t : Fin cfg0.N, ∀ w : Fin cfg0.W, 6 ≤ w.val → ((cfg0.win w).flush t = true ↔ t.val = 3) :=
  (by decide +kernel : ∀ t : Fin grid0.N, ∀ w : Fin 12, _)

theorem flush_not (t : Fin cfg0.N) (w : Fin cfg0.W) (hw : 6 ≤ w.val) (h : t.val ≠ 3) : (cfg0.win w).flush t = false := by
  cases e : (cfg0.win w).flush t
  · rfl
  · exact absurd ((flush_last t w hw).mp e) h

/-- An output keeps from one point to the next what the point before left in its staging buffer. -/
theorem before_step (c : Dev nD) (w : Fin cfg0.W) (hw : 6 ≤ w.val) (n : ℕ) (h : n + 1 < cfg0.N) (hf : (cfg0.win w).fetch ⟨n + 1, h⟩ = false) (d) :
    (dats m 0 c).before w ⟨n + 1, h⟩ d = (dats m 0 c).left w ⟨n, Nat.lt_of_succ_lt h⟩ d := by
  have hne : n ≠ 3 := by have : cfg0.N = 4 := N_0; omega
  refine (Dat.before_of_pos _ _ _ (Nat.succ_ne_zero _) hf d).trans (if_neg ?_)
  show ¬ (cfg0.win w).flush ⟨n, _⟩ = true
  rw [flush_not ⟨n, Nat.lt_of_succ_lt h⟩ w hw hne]; decide

/-- After the first point the counts stay in their staging buffers. -/
theorem before0_10 (c : Dev nD) : ∀ (n : ℕ) (h : n + 1 < cfg0.N) (d), (dats m 0 c).before 10 ⟨n + 1, h⟩ d = cntAt m c := by
  intro n; induction n with
  | zero =>
    intro h d
    rw [before_step m c 10 (by decide) _ h rfl]
    unfold Dat.left; rw [show cfg0.idle 10 (cfg0.grid.coords ⟨0, Nat.lt_of_succ_lt h⟩) = false from ((idle_early _).2 rfl).1]
    rw [← after0_10 m c ⟨0, Nat.lt_of_succ_lt h⟩]; rfl
  | succ n ih =>
    intro h d
    rw [before_step m c 10 (by decide) _ h rfl]
    unfold Dat.left; rw [show cfg0.idle 10 (cfg0.grid.coords ⟨n + 1, Nat.lt_of_succ_lt h⟩) = true from ((idle_early _).1 (Nat.succ_ne_zero _)).1]
    exact ih _ d

theorem before0_11 (c : Dev nD) : ∀ (n : ℕ) (h : n + 1 < cfg0.N) (d), (dats m 0 c).before 11 ⟨n + 1, h⟩ d = devAt m c := by
  intro n; induction n with
  | zero =>
    intro h d
    rw [before_step m c 11 (by decide) _ h rfl]
    unfold Dat.left; rw [show cfg0.idle 11 (cfg0.grid.coords ⟨0, Nat.lt_of_succ_lt h⟩) = false from ((idle_early _).2 rfl).2]
    rw [← after0_11 m c ⟨0, Nat.lt_of_succ_lt h⟩]; rfl
  | succ n ih =>
    intro h d
    rw [before_step m c 11 (by decide) _ h rfl]
    unfold Dat.left; rw [show cfg0.idle 11 (cfg0.grid.coords ⟨n + 1, Nat.lt_of_succ_lt h⟩) = true from ((idle_early _).1 (Nat.succ_ne_zero _)).2]
    exact ih _ d

theorem before0_10' (c : Dev nD) (t : Fin cfg0.N) (h : t.val ≠ 0) (d) : (dats m 0 c).before 10 t d = cntAt m c := by
  obtain ⟨_ | n, ht⟩ := t
  · exact absurd rfl h
  · exact before0_10 m c n ht d
theorem before0_11' (c : Dev nD) (t : Fin cfg0.N) (h : t.val ≠ 0) (d) : (dats m 0 c).before 11 t d = devAt m c := by
  obtain ⟨_ | n, ht⟩ := t
  · exact absurd rfl h
  · exact before0_11 m c n ht d

/-! ## What the body must leave, window by window -/

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem leaves_flush (c : Dev nD) (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

end Cert.KernelIdeal.Body

end
-- ==== Proof.RunA.lean ====
/- The body of the kernel run as a whole at the first point (`scf.if` 0 taken, `scf.if` 1 not): the counts are taken, the three scratch buffers filled, two outputs stored. -/
module

public import proofs.«01_k».proof.Proof.Staging

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The stores the body makes at the first point (`scf.if` 0 taken, `scf.if` 1 not), for each buffer it writes as the list of its pieces (last first), with the
    proof that from the inputs' blocks and the scratch contents the body ends with exactly those pieces written, and every
    other buffer as it was. -/
def runA (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : cond0_0 i) (hc1 : ¬cond0_1 i)
    (x0 : Vec F S6 .i32) (x1 : Vec F S160x12288 .bf16) (x2 : Vec F S512x12288 .fp8e4m3) (x3 : Vec F S1x512 .f32) (x4 : Vec F S6x2048 .i32) (y6 : Vec F S1x5 .f32) (y7 : Vec F S1x5 .f32) (y8 : Vec F S1x5 .f32) (y9 : Vec F S5x160 .f32) :
    Σ' (L5 : List (View.Piece (Elt F) S160x512 .f32)),
      Σ' (L10 : List (View.Piece (Elt F) S5x160 .i32)),
      Σ' (L11 : List (View.Piece (Elt F) S5x8 .i32)),
      Σ' (LS0 : List (View.Piece (Elt F) S5x160x128 .f32)),
      Σ' (LS1 : List (View.Piece (Elt F) S5x160x128 .f32)),
      { LS2 : List (View.Piece (Elt F) S3x8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare y6 ∗ owns (c : Thread nD τ) arg8 fullShare y7 ∗ owns (c : Thread nD τ) arg9 fullShare y8 ∗ owns (c : Thread nD τ) arg10 fullShare y9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare y6 ∗ owns (c : Thread nD τ) arg8 fullShare y7 ∗ owns (c : Thread nD τ) arg9 fullShare y8 ∗ owns (c : Thread nD τ) arg10 fullShare y9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2)) -∗ K ⟨⟩))
          ⊢ wp frame (wpE (defs₀ (F := F)) Variants.none c none) E (cc0_seqwise_balance i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_seqwise_balance_eq_skeleton]; unfold cc0_seqwise_balance_skel
    simp only [k0_part73_eq_skeleton, k0_part56_eq_skeleton, k0_part57_eq_skeleton, k0_part53_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; exact harg3.read_unread _
    isplitl [H3]
    · iexists _; isplitr; swap; · iexact H3
      ipureintro; exact harg4.read_unread _
    isplitl [H4]
    · iexists _; isplitr; swap; · iexact H4
      ipureintro; exact harg5.read_unread _
    isplitl [H5]
    · iexists _; iexact H5
    isplitl [H6]
    · iexists _; isplitr; swap; · iexact H6
      ipureintro; exact hf6
    isplitl [H7]
    · iexists _; isplitr; swap; · iexact H7
      ipureintro; exact hf7
    isplitl [H8]
    · iexists _; isplitr; swap; · iexact H8
      ipureintro; exact hf8
    isplitl [H9]
    · iexists _; isplitr; swap; · iexact H9
      ipureintro; exact hf9
    isplitl [H10]
    · iexists _; iexact H10
    isplitl [H11]
    · iexists _; iexact H11
    isplitl [HS0]
    · iexists _; iexact HS0
    isplitl [HS1]
    · iexists _; iexact HS1
    iexists _; iexact HS2

end Cert.KernelIdeal.Body

end
-- ==== Proof.RunB.lean ====
/- The body of the kernel run as a whole at a middle point (neither `scf.if` taken): the scores of the block are added to the running sums. -/
module

public import proofs.«01_k».proof.Proof.RunA

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The stores the body makes at a middle point (neither `scf.if` taken), for each buffer it writes as the list of its pieces (last first), with the
    proof that from the inputs' blocks and the scratch contents the body ends with exactly those pieces written, and every
    other buffer as it was. -/
def runB (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : ¬cond0_0 i) (hc1 : ¬cond0_1 i)
    (x0 : Vec F S6 .i32) (x1 : Vec F S160x12288 .bf16) (x2 : Vec F S512x12288 .fp8e4m3) (x3 : Vec F S1x512 .f32) (x4 : Vec F S6x2048 .i32) (xs0 : Vec F S5x160x128 .f32) (xs1 : Vec F S5x160x128 .f32) (y6 : Vec F S1x5 .f32) (y7 : Vec F S1x5 .f32) (y8 : Vec F S1x5 .f32) (y9 : Vec F S5x160 .f32) (y10 : Vec F S5x160 .i32) (y11 : Vec F S5x8 .i32) (xs2 : Vec F S3x8x256 .f32) :
    Σ' (L5 : List (View.Piece (Elt F) S160x512 .f32)),
      { LS1 : List (View.Piece (Elt F) S5x160x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare y6 ∗ owns (c : Thread nD τ) arg8 fullShare y7 ∗ owns (c : Thread nD τ) arg9 fullShare y8 ∗ owns (c : Thread nD τ) arg10 fullShare y9 ∗ owns (c : Thread nD τ) arg11 fullShare y10 ∗ owns (c : Thread nD τ) arg12 fullShare y11 ∗ owns (c : Thread nD τ) arg13 fullShare xs0 ∗ owns (c : Thread nD τ) arg14 fullShare xs1 ∗ owns (c : Thread nD τ) arg15 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare y6 ∗ owns (c : Thread nD τ) arg8 fullShare y7 ∗ owns (c : Thread nD τ) arg9 fullShare y8 ∗ owns (c : Thread nD τ) arg10 fullShare y9 ∗ owns (c : Thread nD τ) arg11 fullShare y10 ∗ owns (c : Thread nD τ) arg12 fullShare y11 ∗ owns (c : Thread nD τ) arg13 fullShare xs0 ∗ (∃ f, arg14.view.loc (c : Thread nD τ) ↦[arg14.view.set]{fullShare} arg14.view.writes (Elt F) f LS1) ∗ owns (c : Thread nD τ) arg15 fullShare xs2) -∗ K ⟨⟩))
          ⊢ wp frame (wpE (defs₀ (F := F)) Variants.none c none) E (cc0_seqwise_balance i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_seqwise_balance_eq_skeleton]; unfold cc0_seqwise_balance_skel
    simp only [k0_part73_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg13.eq_unread hfs0; obtain rfl := harg14.eq_unread hfs1
    sl_exec (disch := first | sl_exact hc0 | sl_exact hc1)
    sl_step
    iapply Hk
    isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; exact harg3.read_unread _
    isplitl [H3]
    · iexists _; isplitr; swap; · iexact H3
      ipureintro; exact harg4.read_unread _
    isplitl [H4]
    · iexists _; isplitr; swap; · iexact H4
      ipureintro; exact harg5.read_unread _
    isplitl [H5]
    · iexists _; iexact H5
    isplitl [H6]
    · iexists _; isplitr; swap; · iexact H6
      ipureintro; exact hf6
    isplitl [H7]
    · iexists _; isplitr; swap; · iexact H7
      ipureintro; exact hf7
    isplitl [H8]
    · iexists _; isplitr; swap; · iexact H8
      ipureintro; exact hf8
    isplitl [H9]
    · iexists _; isplitr; swap; · iexact H9
      ipureintro; exact hf9
    isplitl [H10]
    · iexists _; isplitr; swap; · iexact H10
      ipureintro; exact hf10
    isplitl [H11]
    · iexists _; isplitr; swap; · iexact H11
      ipureintro; exact hf11
    isplitl [HS0]
    · iexists _; isplitr; swap; · iexact HS0
      ipureintro; exact harg13.read_unread _
    isplitl [HS1]
    · iexists _; iexact HS1
    iexists _; isplitr; swap; · iexact HS2
    ipureintro; exact hfs2

end Cert.KernelIdeal.Body

end
-- ==== Proof.RunC.lean ====
/- The body of the kernel run as a whole at the last point (`scf.if` 1 taken, `scf.if` 0 not): the scores of the block are added and the four closing outputs stored. -/
module

public import proofs.«01_k».proof.Proof.RunB

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The stores the body makes at the last point (`scf.if` 1 taken, `scf.if` 0 not), for each buffer it writes as the list of its pieces (last first), with the
    proof that from the inputs' blocks and the scratch contents the body ends with exactly those pieces written, and every
    other buffer as it was. -/
def runC (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : ¬cond0_0 i) (hc1 : cond0_1 i)
    (x0 : Vec F S6 .i32) (x1 : Vec F S160x12288 .bf16) (x2 : Vec F S512x12288 .fp8e4m3) (x3 : Vec F S1x512 .f32) (x4 : Vec F S6x2048 .i32) (xs0 : Vec F S5x160x128 .f32) (xs1 : Vec F S5x160x128 .f32) (xs2 : Vec F S3x8x256 .f32) (y10 : Vec F S5x160 .i32) (y11 : Vec F S5x8 .i32) :
    Σ' (L5 : List (View.Piece (Elt F) S160x512 .f32)),
      Σ' (L6 : List (View.Piece (Elt F) S1x5 .f32)),
      Σ' (L7 : List (View.Piece (Elt F) S1x5 .f32)),
      Σ' (L8 : List (View.Piece (Elt F) S1x5 .f32)),
      Σ' (L9 : List (View.Piece (Elt F) S5x160 .f32)),
      { LS1 : List (View.Piece (Elt F) S5x160x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare y10 ∗ owns (c : Thread nD τ) arg12 fullShare y11 ∗ owns (c : Thread nD τ) arg13 fullShare xs0 ∗ owns (c : Thread nD τ) arg14 fullShare xs1 ∗ owns (c : Thread nD τ) arg15 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare y10 ∗ owns (c : Thread nD τ) arg12 fullShare y11 ∗ owns (c : Thread nD τ) arg13 fullShare xs0 ∗ (∃ f, arg14.view.loc (c : Thread nD τ) ↦[arg14.view.set]{fullShare} arg14.view.writes (Elt F) f LS1) ∗ owns (c : Thread nD τ) arg15 fullShare xs2) -∗ K ⟨⟩))
          ⊢ wp frame (wpE (defs₀ (F := F)) Variants.none c none) E (cc0_seqwise_balance i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_seqwise_balance_eq_skeleton]; unfold cc0_seqwise_balance_skel
    simp only [k0_part73_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part54_eq_skeleton, k0_part55_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%f10, %hf10, H10⟩, ⟨%f11, %hf11, H11⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg13.eq_unread hfs0; obtain rfl := harg14.eq_unread hfs1; obtain rfl := harg15.eq_unread hfs2
    sl_exec (disch := first | sl_exact hc0 | sl_exact hc1)
    sl_step
    iapply Hk
    isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; exact harg3.read_unread _
    isplitl [H3]
    · iexists _; isplitr; swap; · iexact H3
      ipureintro; exact harg4.read_unread _
    isplitl [H4]
    · iexists _; isplitr; swap; · iexact H4
      ipureintro; exact harg5.read_unread _
    isplitl [H5]
    · iexists _; iexact H5
    isplitl [H6]
    · iexists _; iexact H6
    isplitl [H7]
    · iexists _; iexact H7
    isplitl [H8]
    · iexists _; iexact H8
    isplitl [H9]
    · iexists _; iexact H9
    isplitl [H10]
    · iexists _; isplitr; swap; · iexact H10
      ipureintro; exact hf10
    isplitl [H11]
    · iexists _; isplitr; swap; · iexact H11
      ipureintro; exact hf11
    isplitl [HS0]
    · iexists _; isplitr; swap; · iexact HS0
      ipureintro; exact harg13.read_unread _
    isplitl [HS1]
    · iexists _; iexact HS1
    iexists _; isplitr; swap; · iexact HS2
    ipureintro; exact harg15.read_unread _

end Cert.KernelIdeal.Body

end
-- ==== Proof.Covers.lean ====
/- The stores of a point cover the buffers it writes. -/
module

public import proofs.«01_k».proof.Proof.RunC

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem runA_cover_grad  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : cond0_0 i) (hc1 : ¬cond0_1 i) (x0 : Vec F S6 .i32) (x1 : Vec F S160x12288 .bf16) (x2 : Vec F S512x12288 .fp8e4m3) (x3 : Vec F S1x512 .f32) (x4 : Vec F S6x2048 .i32) (y6 : Vec F S1x5 .f32) (y7 : Vec F S1x5 .f32) (y8 : Vec F S1x5 .f32) (y9 : Vec F S5x160 .f32) (y : S160x512.Idx) :
    ∃ p ∈ (runA c i harg1 harg2 harg3 harg4 harg5 harg6 harg7 harg8 harg9 harg10 harg11 harg12 harg13 harg14 harg15 hc0 hc1 x0 x1 x2 x3 x4 y6 y7 y8 y9).1, y ∈ p.1.set :=
  View.cover_of_tiledL (runA c i harg1 harg2 harg3 harg4 harg5 harg6 harg7 harg8 harg9 harg10 harg11 harg12 harg13 harg14 harg15 hc0 hc1 x0 x1 x2 x3 x4 y6 y7 y8 y9).1 S160x128.size (by sl_kernel_rfl) y

theorem runA_cover_cnt  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : cond0_0 i) (hc1 : ¬cond0_1 i) (x0 : Vec F S6 .i32) (x1 : Vec F S160x12288 .bf16) (x2 : Vec F S512x12288 .fp8e4m3) (x3 : Vec F S1x512 .f32) (x4 : Vec F S6x2048 .i32) (y6 : Vec F S1x5 .f32) (y7 : Vec F S1x5 .f32) (y8 : Vec F S1x5 .f32) (y9 : Vec F S5x160 .f32) (y : S5x160.Idx) :
    ∃ p ∈ (runA c i harg1 harg2 harg3 harg4 harg5 harg6 harg7 harg8 harg9 harg10 harg11 harg12 harg13 harg14 harg15 hc0 hc1 x0 x1 x2 x3 x4 y6 y7 y8 y9).2.1, y ∈ p.1.set :=
  View.cover_of_tiledL (runA c i harg1 harg2 harg3 harg4 harg5 harg6 harg7 harg8 harg9 harg10 harg11 harg12 harg13 harg14 harg15 hc0 hc1 x0 x1 x2 x3 x4 y6 y7 y8 y9).2.1 S5x160.size (by sl_kernel_rfl) y

theorem runA_cover_dev  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : cond0_0 i) (hc1 : ¬cond0_1 i) (x0 : Vec F S6 .i32) (x1 : Vec F S160x12288 .bf16) (x2 : Vec F S512x12288 .fp8e4m3) (x3 : Vec F S1x512 .f32) (x4 : Vec F S6x2048 .i32) (y6 : Vec F S1x5 .f32) (y7 : Vec F S1x5 .f32) (y8 : Vec F S1x5 .f32) (y9 : Vec F S5x160 .f32) (y : S5x8.Idx) :
    ∃ p ∈ (runA c i harg1 harg2 harg3 harg4 harg5 harg6 harg7 harg8 harg9 harg10 harg11 harg12 harg13 harg14 harg15 hc0 hc1 x0 x1 x2 x3 x4 y6 y7 y8 y9).2.2.1, y ∈ p.1.set :=
  View.cover_of_tiledL (runA c i harg1 harg2 harg3 harg4 harg5 harg6 harg7 harg8 harg9 harg10 harg11 harg12 harg13 harg14 harg15 hc0 hc1 x0 x1 x2 x3 x4 y6 y7 y8 y9).2.2.1 S5x8.size (by sl_kernel_rfl) y

theorem runA_cover_coefs  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : cond0_0 i) (hc1 : ¬cond0_1 i) (x0 : Vec F S6 .i32) (x1 : Vec F S160x12288 .bf16) (x2 : Vec F S512x12288 .fp8e4m3) (x3 : Vec F S1x512 .f32) (x4 : Vec F S6x2048 .i32) (y6 : Vec F S1x5 .f32) (y7 : Vec F S1x5 .f32) (y8 : Vec F S1x5 .f32) (y9 : Vec F S5x160 .f32) (y : S5x160x128.Idx) :
    ∃ p ∈ (runA c i harg1 harg2 harg3 harg4 harg5 harg6 harg7 harg8 harg9 harg10 harg11 harg12 harg13 harg14 harg15 hc0 hc1 x0 x1 x2 x3 x4 y6 y7 y8 y9).2.2.2.1, y ∈ p.1.set :=
  View.cover_of_tiledL (runA c i harg1 harg2 harg3 harg4 harg5 harg6 harg7 harg8 harg9 harg10 harg11 harg12 harg13 harg14 harg15 hc0 hc1 x0 x1 x2 x3 x4 y6 y7 y8 y9).2.2.2.1 S1x160x128.size (by sl_kernel_rfl) y

theorem runA_cover_acc  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : cond0_0 i) (hc1 : ¬cond0_1 i) (x0 : Vec F S6 .i32) (x1 : Vec F S160x12288 .bf16) (x2 : Vec F S512x12288 .fp8e4m3) (x3 : Vec F S1x512 .f32) (x4 : Vec F S6x2048 .i32) (y6 : Vec F S1x5 .f32) (y7 : Vec F S1x5 .f32) (y8 : Vec F S1x5 .f32) (y9 : Vec F S5x160 .f32) (y : S5x160x128.Idx) :
    ∃ p ∈ (runA c i harg1 harg2 harg3 harg4 harg5 harg6 harg7 harg8 harg9 harg10 harg11 harg12 harg13 harg14 harg15 hc0 hc1 x0 x1 x2 x3 x4 y6 y7 y8 y9).2.2.2.2.1, y ∈ p.1.set :=
  View.cover_of_wholeMem (runA c i harg1 harg2 harg3 harg4 harg5 harg6 harg7 harg8 harg9 harg10 harg11 harg12 harg13 harg14 harg15 hc0 hc1 x0 x1 x2 x3 x4 y6 y7 y8 y9).2.2.2.2.1 (by sl_whole_mem) y

theorem runA_cover_tables  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : cond0_0 i) (hc1 : ¬cond0_1 i) (x0 : Vec F S6 .i32) (x1 : Vec F S160x12288 .bf16) (x2 : Vec F S512x12288 .fp8e4m3) (x3 : Vec F S1x512 .f32) (x4 : Vec F S6x2048 .i32) (y6 : Vec F S1x5 .f32) (y7 : Vec F S1x5 .f32) (y8 : Vec F S1x5 .f32) (y9 : Vec F S5x160 .f32) (y : S3x8x256.Idx) :
    ∃ p ∈ (runA c i harg1 harg2 harg3 harg4 harg5 harg6 harg7 harg8 harg9 harg10 harg11 harg12 harg13 harg14 harg15 hc0 hc1 x0 x1 x2 x3 x4 y6 y7 y8 y9).2.2.2.2.2.1, y ∈ p.1.set :=
  View.cover_of_tiledL (runA c i harg1 harg2 harg3 harg4 harg5 harg6 harg7 harg8 harg9 harg10 harg11 harg12 harg13 harg14 harg15 hc0 hc1 x0 x1 x2 x3 x4 y6 y7 y8 y9).2.2.2.2.2.1 S1x8x256.size (by sl_kernel_rfl) y

theorem runB_cover_grad  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : ¬cond0_0 i) (hc1 : ¬cond0_1 i) (x0 : Vec F S6 .i32) (x1 : Vec F S160x12288 .bf16) (x2 : Vec F S512x12288 .fp8e4m3) (x3 : Vec F S1x512 .f32) (x4 : Vec F S6x2048 .i32) (xs0 : Vec F S5x160x128 .f32) (xs1 : Vec F S5x160x128 .f32) (y6 : Vec F S1x5 .f32) (y7 : Vec F S1x5 .f32) (y8 : Vec F S1x5 .f32) (y9 : Vec F S5x160 .f32) (y10 : Vec F S5x160 .i32) (y11 : Vec F S5x8 .i32) (xs2 : Vec F S3x8x256 .f32) (y : S160x512.Idx) :
    ∃ p ∈ (runB c i harg1 harg2 harg3 harg4 harg5 harg6 harg7 harg8 harg9 harg10 harg11 harg12 harg13 harg14 harg15 hc0 hc1 x0 x1 x2 x3 x4 xs0 xs1 y6 y7 y8 y9 y10 y11 xs2).1, y ∈ p.1.set :=
  View.cover_of_tiledL (runB c i harg1 harg2 harg3 harg4 harg5 harg6 harg7 harg8 harg9 harg10 harg11 harg12 harg13 harg14 harg15 hc0 hc1 x0 x1 x2 x3 x4 xs0 xs1 y6 y7 y8 y9 y10 y11 xs2).1 S160x128.size (by sl_kernel_rfl) y

theorem runB_cover_acc  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : ¬cond0_0 i) (hc1 : ¬cond0_1 i) (x0 : Vec F S6 .i32) (x1 : Vec F S160x12288 .bf16) (x2 : Vec F S512x12288 .fp8e4m3) (x3 : Vec F S1x512 .f32) (x4 : Vec F S6x2048 .i32) (xs0 : Vec F S5x160x128 .f32) (xs1 : Vec F S5x160x128 .f32) (y6 : Vec F S1x5 .f32) (y7 : Vec F S1x5 .f32) (y8 : Vec F S1x5 .f32) (y9 : Vec F S5x160 .f32) (y10 : Vec F S5x160 .i32) (y11 : Vec F S5x8 .i32) (xs2 : Vec F S3x8x256 .f32) (y : S5x160x128.Idx) :
    ∃ p ∈ (runB c i harg1 harg2 harg3 harg4 harg5 harg6 harg7 harg8 harg9 harg10 harg11 harg12 harg13 harg14 harg15 hc0 hc1 x0 x1 x2 x3 x4 xs0 xs1 y6 y7 y8 y9 y10 y11 xs2).2.1, y ∈ p.1.set :=
  View.cover_of_tiledL (runB c i harg1 harg2 harg3 harg4 harg5 harg6 harg7 harg8 harg9 harg10 harg11 harg12 harg13 harg14 harg15 hc0 hc1 x0 x1 x2 x3 x4 xs0 xs1 y6 y7 y8 y9 y10 y11 xs2).2.1 S1x160x128.size (by sl_kernel_rfl) y

theorem runC_cover_grad  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : ¬cond0_0 i) (hc1 : cond0_1 i) (x0 : Vec F S6 .i32) (x1 : Vec F S160x12288 .bf16) (x2 : Vec F S512x12288 .fp8e4m3) (x3 : Vec F S1x512 .f32) (x4 : Vec F S6x2048 .i32) (xs0 : Vec F S5x160x128 .f32) (xs1 : Vec F S5x160x128 .f32) (xs2 : Vec F S3x8x256 .f32) (y10 : Vec F S5x160 .i32) (y11 : Vec F S5x8 .i32) (y : S160x512.Idx) :
    ∃ p ∈ (runC c i harg1 harg2 harg3 harg4 harg5 harg6 harg7 harg8 harg9 harg10 harg11 harg12 harg13 harg14 harg15 hc0 hc1 x0 x1 x2 x3 x4 xs0 xs1 xs2 y10 y11).1, y ∈ p.1.set :=
  View.cover_of_tiledL (runC c i harg1 harg2 harg3 harg4 harg5 harg6 harg7 harg8 harg9 harg10 harg11 harg12 harg13 harg14 harg15 hc0 hc1 x0 x1 x2 x3 x4 xs0 xs1 xs2 y10 y11).1 S160x128.size (by sl_kernel_rfl) y

theorem runC_cover_expert  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : ¬cond0_0 i) (hc1 : cond0_1 i) (x0 : Vec F S6 .i32) (x1 : Vec F S160x12288 .bf16) (x2 : Vec F S512x12288 .fp8e4m3) (x3 : Vec F S1x512 .f32) (x4 : Vec F S6x2048 .i32) (xs0 : Vec F S5x160x128 .f32) (xs1 : Vec F S5x160x128 .f32) (xs2 : Vec F S3x8x256 .f32) (y10 : Vec F S5x160 .i32) (y11 : Vec F S5x8 .i32) (y : S1x5.Idx) :
    ∃ p ∈ (runC c i harg1 harg2 harg3 harg4 harg5 harg6 harg7 harg8 harg9 harg10 harg11 harg12 harg13 harg14 harg15 hc0 hc1 x0 x1 x2 x3 x4 xs0 xs1 xs2 y10 y11).2.1, y ∈ p.1.set :=
  View.cover_of_tiledL (runC c i harg1 harg2 harg3 harg4 harg5 harg6 harg7 harg8 harg9 harg10 harg11 harg12 harg13 harg14 harg15 hc0 hc1 x0 x1 x2 x3 x4 xs0 xs1 xs2 y10 y11).2.1 S1x5.size (by sl_kernel_rfl) y

theorem runC_cover_device  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : ¬cond0_0 i) (hc1 : cond0_1 i) (x0 : Vec F S6 .i32) (x1 : Vec F S160x12288 .bf16) (x2 : Vec F S512x12288 .fp8e4m3) (x3 : Vec F S1x512 .f32) (x4 : Vec F S6x2048 .i32) (xs0 : Vec F S5x160x128 .f32) (xs1 : Vec F S5x160x128 .f32) (xs2 : Vec F S3x8x256 .f32) (y10 : Vec F S5x160 .i32) (y11 : Vec F S5x8 .i32) (y : S1x5.Idx) :
    ∃ p ∈ (runC c i harg1 harg2 harg3 harg4 harg5 harg6 harg7 harg8 harg9 harg10 harg11 harg12 harg13 harg14 harg15 hc0 hc1 x0 x1 x2 x3 x4 xs0 xs1 xs2 y10 y11).2.2.1, y ∈ p.1.set :=
  View.cover_of_tiledL (runC c i harg1 harg2 harg3 harg4 harg5 harg6 harg7 harg8 harg9 harg10 harg11 harg12 harg13 harg14 harg15 hc0 hc1 x0 x1 x2 x3 x4 xs0 xs1 xs2 y10 y11).2.2.1 S1x5.size (by sl_kernel_rfl) y

theorem runC_cover_comm  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : ¬cond0_0 i) (hc1 : cond0_1 i) (x0 : Vec F S6 .i32) (x1 : Vec F S160x12288 .bf16) (x2 : Vec F S512x12288 .fp8e4m3) (x3 : Vec F S1x512 .f32) (x4 : Vec F S6x2048 .i32) (xs0 : Vec F S5x160x128 .f32) (xs1 : Vec F S5x160x128 .f32) (xs2 : Vec F S3x8x256 .f32) (y10 : Vec F S5x160 .i32) (y11 : Vec F S5x8 .i32) (y : S1x5.Idx) :
    ∃ p ∈ (runC c i harg1 harg2 harg3 harg4 harg5 harg6 harg7 harg8 harg9 harg10 harg11 harg12 harg13 harg14 harg15 hc0 hc1 x0 x1 x2 x3 x4 xs0 xs1 xs2 y10 y11).2.2.2.1, y ∈ p.1.set :=
  View.cover_of_tiledL (runC c i harg1 harg2 harg3 harg4 harg5 harg6 harg7 harg8 harg9 harg10 harg11 harg12 harg13 harg14 harg15 hc0 hc1 x0 x1 x2 x3 x4 xs0 xs1 xs2 y10 y11).2.2.2.1 S1x5.size (by sl_kernel_rfl) y

theorem runC_cover_mean  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : ¬cond0_0 i) (hc1 : cond0_1 i) (x0 : Vec F S6 .i32) (x1 : Vec F S160x12288 .bf16) (x2 : Vec F S512x12288 .fp8e4m3) (x3 : Vec F S1x512 .f32) (x4 : Vec F S6x2048 .i32) (xs0 : Vec F S5x160x128 .f32) (xs1 : Vec F S5x160x128 .f32) (xs2 : Vec F S3x8x256 .f32) (y10 : Vec F S5x160 .i32) (y11 : Vec F S5x8 .i32) (y : S5x160.Idx) :
    ∃ p ∈ (runC c i harg1 harg2 harg3 harg4 harg5 harg6 harg7 harg8 harg9 harg10 harg11 harg12 harg13 harg14 harg15 hc0 hc1 x0 x1 x2 x3 x4 xs0 xs1 xs2 y10 y11).2.2.2.2.1, y ∈ p.1.set :=
  View.cover_of_tiledL (runC c i harg1 harg2 harg3 harg4 harg5 harg6 harg7 harg8 harg9 harg10 harg11 harg12 harg13 harg14 harg15 hc0 hc1 x0 x1 x2 x3 x4 xs0 xs1 xs2 y10 y11).2.2.2.2.1 S5x160.size (by sl_kernel_rfl) y

theorem runC_cover_acc  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : ¬cond0_0 i) (hc1 : cond0_1 i) (x0 : Vec F S6 .i32) (x1 : Vec F S160x12288 .bf16) (x2 : Vec F S512x12288 .fp8e4m3) (x3 : Vec F S1x512 .f32) (x4 : Vec F S6x2048 .i32) (xs0 : Vec F S5x160x128 .f32) (xs1 : Vec F S5x160x128 .f32) (xs2 : Vec F S3x8x256 .f32) (y10 : Vec F S5x160 .i32) (y11 : Vec F S5x8 .i32) (y : S5x160x128.Idx) :
    ∃ p ∈ (runC c i harg1 harg2 harg3 harg4 harg5 harg6 harg7 harg8 harg9 harg10 harg11 harg12 harg13 harg14 harg15 hc0 hc1 x0 x1 x2 x3 x4 xs0 xs1 xs2 y10 y11).2.2.2.2.2.1, y ∈ p.1.set :=
  View.cover_of_tiledL (runC c i harg1 harg2 harg3 harg4 harg5 harg6 harg7 harg8 harg9 harg10 harg11 harg12 harg13 harg14 harg15 hc0 hc1 x0 x1 x2 x3 x4 xs0 xs1 xs2 y10 y11).2.2.2.2.2.1 S1x160x128.size (by sl_kernel_rfl) y

end Cert.KernelIdeal.Body

end
-- ==== Proof.Pieces.lean ====
/- How the pieces stored into a buffer make it up: five planes, four groups of columns, three tables. -/
module

public import proofs.«01_k».proof.Proof.Content
public import Idealize.ShloMosaic.Lib.Pipeline.ReadBack
public import Idealize.ShloMosaic.Lib.Tactic
public import Idealize.ShloMosaic.Lib.Pipeline.FrameSuffix
public import Idealize.ShloMosaic.Lib.Ring

@[expose] public section

set_option maxRecDepth 16384

noncomputable section

namespace Cert.KernelIdeal.Body

open Cert.KernelIdeal Cert.KernelIdeal.Gen Cert.KernelIdeal.Content Cert.KernelIdeal.Terms
open Idealize.ShloMosaic Idealize.ShloMosaic.TcCoe Idealize.ShloMosaic.Pointwise
open Idealize.ShloMosaic.Tactic
open Idealize.ShloMosaic.Pipeline (Dat Cfg Window BodyObligation cellOf)

variable {F : FTy → Type} [FloatOps F]

section Planes

variable (x0 : Vec F S6 .i32) (x1 : Vec F S160x12288 .bf16) (x2 : Vec F S512x12288 .fp8e4m3) (x3 : Vec F S1x512 .f32)
  (x4 : Vec F S6x2048 .i32) (g : BitVec 32)

/-- The place of an entry of a plane. -/
theorem plane_emb (q : Fin 5) (x : (plane q).shape.Idx) :
    (plane q).emb x 0 = q ∧ ix3 0 ((plane q).emb x 1) ((plane q).emb x 2) = x := by
  have h : (x 0).val < 1 := (x 0).isLt
  refine ⟨Fin.ext ?_, ?_⟩
  · show q.val + 1 * (x 0).val = q.val; omega
  · funext a; refine Fin.ext ?_
    fin_cases a
    · show 0 = (x 0).val; omega
    · show 0 + 1 * (x 1).val = (x 1).val; omega
    · show 0 + 1 * (x 2).val = (x 2).val; omega

/-- A buffer given plane by plane, read at a plane. -/
theorem planes_emb (f : Fin 5 → Vec F S1x160x128 .f32) (q : Fin 5) (x : (plane q).shape.Idx) :
    (fun j : S5x160x128.Idx => f (j 0) (ix3 0 (j 1) (j 2))) ((plane q).emb x) = f q x := by
  show f ((plane q).emb x 0) (ix3 0 ((plane q).emb x 1) ((plane q).emb x 2)) = _
  rw [(plane_emb q x).1]; exact congrArg _ (plane_emb q x).2

/-- The load of all the weights, and of all the codes of a block. -/
theorem ld_w : View.ld x1 (Rect.unit ![0, 0] ![160, 12288] inb_S160x12288_S160x12288_0_0) = x1 :=
  View.ld_unit_lit (S := S160x12288) _ x1 (by decide)
theorem ld_x : View.ld x2 (Rect.unit ![0, 0] ![512, 12288] inb_S512x12288_S512x12288_0_0) = x2 :=
  View.ld_unit_lit (S := S512x12288) _ x2 (by decide)

theorem accAfter_plane (old : Vec F S5x160x128 .f32) (q : Fin 5) (x : (plane q).shape.Idx) :
    accAfter x0 x1 x2 x3 g old ((plane q).emb x) = accVal x0 x1 x2 x3 g old q 4 x :=
  planes_emb (fun q => accVal x0 x1 x2 x3 g old q 4) q x

theorem coefs_plane (q : Fin 5) (x : (plane q).shape.Idx) :
    coefs x0 x4 ((plane q).emb x) = coef (lengths (offs x0)) (cntOf x0 x4) q x :=
  planes_emb (fun q => coef (lengths (offs x0)) (cntOf x0 x4) q) q x

theorem ld_coefs (q : Fin 5) : View.ld (coefs x0 x4) (plane q) = coef (lengths (offs x0)) (cntOf x0 x4) q :=
  funext (coefs_plane x0 x4 q)

/-- Five planes stored last make the buffer. -/
theorem canon_planes (G : Vec F S5x160x128 .f32) (p0 p1 p2 p3 p4 : Vec F S1x160x128 .f32) (L : List (View.Piece (Elt F) S5x160x128 .f32))
    (h0 : ∀ x, p0 x = G ((plane 0).emb x)) (h1 : ∀ x, p1 x = G ((plane 1).emb x)) (h2 : ∀ x, p2 x = G ((plane 2).emb x))
    (h3 : ∀ x, p3 x = G ((plane 3).emb x)) (h4 : ∀ x, p4 x = G ((plane 4).emb x)) :
    View.canon ((⟨plane 4, p4⟩ : View.Piece (Elt F) S5x160x128 .f32) :: ⟨plane 3, p3⟩ :: ⟨plane 2, p2⟩ :: ⟨plane 1, p1⟩ :: ⟨plane 0, p0⟩ :: L) = G := by
  funext j
  exact View.canon_append_of_piecesOf G L [⟨plane 4, p4⟩, ⟨plane 3, p3⟩, ⟨plane 2, p2⟩, ⟨plane 1, p1⟩, ⟨plane 0, p0⟩]
    ⟨h4, h3, h2, h1, h0, trivial⟩ j (View.cover_of_tiledL [⟨plane 4, p4⟩, ⟨plane 3, p3⟩, ⟨plane 2, p2⟩, ⟨plane 1, p1⟩, ⟨plane 0, p0⟩] S1x160x128.size (by sl_kernel_rfl) j)

/-- The gradients of a block, read at the columns of a chunk. -/
theorem gradAfter_cols (cs : Vec F S5x160x128 .f32) (k : Fin 4) (x : (cols k).shape.Idx) :
    gradAfter x0 x1 x2 x3 g cs ((cols k).emb x) = gradVal x0 x1 x2 x3 g cs k x := by
  have hx : (x 1).val < 128 := (x 1).isLt
  have e : ((cols k).emb x 1).val = 128 * k.val + (x 1).val := by show 128 * k.val + 1 * (x 1).val = _; omega
  have hk : (⟨((cols k).emb x 1).val / 128, Nat.div_lt_of_lt_mul ((cols k).emb x 1).isLt⟩ : Fin 4) = k :=
    Fin.ext (by show ((cols k).emb x 1).val / 128 = k.val; rw [e]; omega)
  have hj : (ix2 ((cols k).emb x 0) (⟨((cols k).emb x 1).val % 128, Nat.mod_lt _ (by decide)⟩ : Fin 128) : S160x128.Idx) = x := by
    funext a; refine Fin.ext ?_
    fin_cases a
    · show 0 + 1 * (x 0).val = (x 0).val; omega
    · show ((cols k).emb x 1).val % 128 = (x 1).val; rw [e]; omega
  show gradVal x0 x1 x2 x3 g cs ⟨((cols k).emb x 1).val / 128, _⟩ (ix2 ((cols k).emb x 0) ⟨((cols k).emb x 1).val % 128, _⟩) = _
  rw [hk, hj]

/-- Four groups of columns make the block. -/
theorem canon_cols (G : Vec F S160x512 .f32) (p0 p1 p2 p3 : Vec F S160x128 .f32)
    (h0 : ∀ x, p0 x = G ((cols 0).emb x)) (h1 : ∀ x, p1 x = G ((cols 1).emb x)) (h2 : ∀ x, p2 x = G ((cols 2).emb x))
    (h3 : ∀ x, p3 x = G ((cols 3).emb x)) :
    View.canon [(⟨cols 3, p3⟩ : View.Piece (Elt F) S160x512 .f32), ⟨cols 2, p2⟩, ⟨cols 1, p1⟩, ⟨cols 0, p0⟩] = G := by
  funext j
  exact View.canon_append_of_piecesOf G [] [⟨cols 3, p3⟩, ⟨cols 2, p2⟩, ⟨cols 1, p1⟩, ⟨cols 0, p0⟩]
    ⟨h3, h2, h1, h0, trivial⟩ j (View.cover_of_tiledL [⟨cols 3, p3⟩, ⟨cols 2, p2⟩, ⟨cols 1, p1⟩, ⟨cols 0, p0⟩] S160x128.size (by sl_kernel_rfl) j)

/-- The three tables, read at a table. -/
theorem tables_table (i : Fin 3) (x : (table i).shape.Idx) :
    tables x0 x4 ((table i).emb x) = shapeCast S1x8x256 (s := S8x256) (fracs x0 x4 i) rfl x := by
  have h : (x 0).val < 1 := (x 0).isLt
  have h0 : (table i).emb x 0 = i := Fin.ext (by show i.val + 1 * (x 0).val = i.val; omega)
  show fracs x0 x4 ((table i).emb x 0) (ix2 ((table i).emb x 1) ((table i).emb x 2)) = _
  rw [h0]
  pointwise
  congr 1
  funext a; refine Fin.ext ?_
  fin_cases a
  · show 0 + 1 * (x 1).val = (x 1).val; omega
  · show 0 + 1 * (x 2).val = (x 2).val; omega

/-- Three tables make the buffer. -/
theorem canon_tables (G : Vec F S3x8x256 .f32) (p0 p1 p2 : Vec F S1x8x256 .f32)
    (h0 : ∀ x, p0 x = G ((table 0).emb x)) (h1 : ∀ x, p1 x = G ((table 1).emb x)) (h2 : ∀ x, p2 x = G ((table 2).emb x)) :
    View.canon [(⟨table 2, p2⟩ : View.Piece (Elt F) S3x8x256 .f32), ⟨table 1, p1⟩, ⟨table 0, p0⟩] = G := by
  funext j
  exact View.canon_append_of_piecesOf G [] [⟨table 2, p2⟩, ⟨table 1, p1⟩, ⟨table 0, p0⟩]
    ⟨h2, h1, h0, trivial⟩ j (View.cover_of_tiledL [⟨table 2, p2⟩, ⟨table 1, p1⟩, ⟨table 0, p0⟩] S1x8x256.size (by sl_kernel_rfl) j)

end Planes

end Cert.KernelIdeal.Body

end
-- ==== Proof.PiecesA.lean ====
/- What the first point leaves in the buffers it fills once: the counts, the coefficients and the tables of fractions. -/
module

public import proofs.«01_k».proof.Proof.RunA
public import proofs.«01_k».proof.Proof.Pieces

@[expose] public section

set_option maxRecDepth 16384

noncomputable section

namespace Cert.KernelIdeal.Body

open Cert.KernelIdeal Cert.KernelIdeal.Gen Cert.KernelIdeal.Content Cert.KernelIdeal.Terms
open Idealize.ShloMosaic Idealize.ShloMosaic.TcCoe Idealize.ShloMosaic.Pointwise
open Idealize.ShloMosaic.Tactic
open Idealize.ShloMosaic.Pipeline (Dat Cfg Window BodyObligation cellOf)

variable {F : FTy → Type} [FloatOps F]

/-- The coefficients stored before the first chunk, as a list of planes. -/
theorem runA_coef_words (c : Dev nD) {arg1 : Memref sig .tc .smem S6 .i32} (harg1 : arg1.IsWhole) {arg5 : Memref sig .tc .vmem S6x2048 .i32} (harg5 : arg5.IsWhole)
    (x0 : Vec F S6 .i32) (x4 : Vec F S6x2048 .i32) :
    runA.sl.r_6 c harg1 x0 = lengths (offs x0) ∧ runA.sl.r_151 c harg1 harg5 x0 x4 = cntOf x0 x4
      ∧ runA.sl.r_164 c harg1 harg5 x0 x4 = coefCols (lengths (offs x0)) (cntOf x0 x4) := by
  refine ⟨?_, ?_, ?_⟩
  all_goals
    simp only [
      runA.sl.r, runA.sl.r_1, runA.sl.r_2, runA.sl.r_3, runA.sl.r_4, runA.sl.r_5, runA.sl.r_6, runA.sl.r_7, runA.sl.r_8, runA.sl.r_9, runA.sl.r_10,
      runA.sl.r_11, runA.sl.r_12, runA.sl.r_13, runA.sl.r_14, runA.sl.r_15, runA.sl.r_16, runA.sl.r_17, runA.sl.r_18, runA.sl.r_19, runA.sl.r_20,
      runA.sl.r_21, runA.sl.r_22, runA.sl.r_23, runA.sl.r_24, runA.sl.r_25, runA.sl.r_26, runA.sl.r_27, runA.sl.r_28, runA.sl.r_29, runA.sl.r_30,
      runA.sl.r_31, runA.sl.r_32, runA.sl.r_33, runA.sl.r_34, runA.sl.r_35, runA.sl.r_36, runA.sl.r_37, runA.sl.r_38, runA.sl.r_39, runA.sl.r_40,
      runA.sl.r_41, runA.sl.r_42, runA.sl.r_43, runA.sl.r_44, runA.sl.r_45, runA.sl.r_46, runA.sl.r_47, runA.sl.r_48, runA.sl.r_49, runA.sl.r_50,
      runA.sl.r_51, runA.sl.r_52, runA.sl.r_53, runA.sl.r_54, runA.sl.r_55, runA.sl.r_56, runA.sl.r_57, runA.sl.r_58, runA.sl.r_59, runA.sl.r_60,
      runA.sl.r_61, runA.sl.r_62, runA.sl.r_63, runA.sl.r_64, runA.sl.r_65, runA.sl.r_66, runA.sl.r_67, runA.sl.r_68, runA.sl.r_69, runA.sl.r_70,
      runA.sl.r_71, runA.sl.r_72, runA.sl.r_73, runA.sl.r_74, runA.sl.r_75, runA.sl.r_76, runA.sl.r_77, runA.sl.r_78, runA.sl.r_79, runA.sl.r_80,
      runA.sl.r_81, runA.sl.r_82, runA.sl.r_83, runA.sl.r_84, runA.sl.r_85, runA.sl.r_86, runA.sl.r_87, runA.sl.r_88, runA.sl.r_89, runA.sl.r_90,
      runA.sl.r_91, runA.sl.r_92, runA.sl.r_93, runA.sl.r_94, runA.sl.r_95, runA.sl.r_96, runA.sl.r_97, runA.sl.r_98, runA.sl.r_99, runA.sl.r_100,
      runA.sl.r_101, runA.sl.r_102, runA.sl.r_103, runA.sl.r_104, runA.sl.r_105, runA.sl.r_106, runA.sl.r_107, runA.sl.r_108, runA.sl.r_109,
      runA.sl.r_110, runA.sl.r_111, runA.sl.r_112, runA.sl.r_113, runA.sl.r_114, runA.sl.r_115, runA.sl.r_116, runA.sl.r_117, runA.sl.r_118,
      runA.sl.r_119, runA.sl.r_120, runA.sl.r_121, runA.sl.r_122, runA.sl.r_123, runA.sl.r_124, runA.sl.r_125, runA.sl.r_126, runA.sl.r_127,
      runA.sl.r_128, runA.sl.r_129, runA.sl.r_130, runA.sl.r_131, runA.sl.r_132, runA.sl.r_133, runA.sl.r_134, runA.sl.r_135, runA.sl.r_136,
      runA.sl.r_137, runA.sl.r_138, runA.sl.r_139, runA.sl.r_140, runA.sl.r_141, runA.sl.r_142, runA.sl.r_143, runA.sl.r_144, runA.sl.r_145,
      runA.sl.r_146, runA.sl.r_147, runA.sl.r_148, runA.sl.r_149, runA.sl.r_150, runA.sl.r_151, runA.sl.r_152, runA.sl.r_153, runA.sl.r_154,
      runA.sl.r_155, runA.sl.r_156, runA.sl.r_157, runA.sl.r_158, runA.sl.r_159, runA.sl.r_160, runA.sl.r_161, runA.sl.r_162, runA.sl.r_163,
      runA.sl.r_164, runA.sl.r_165, runA.sl.v699, runA.sl.v932,
      View.readAt_eq_ld, harg1.read_unread, harg5.read_unread]
    rfl

/-- The first point: the coefficients. -/
theorem runA_coefs  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : cond0_0 i) (hc1 : ¬cond0_1 i) (x0 : Vec F S6 .i32) (x1 : Vec F S160x12288 .bf16) (x2 : Vec F S512x12288 .fp8e4m3) (x3 : Vec F S1x512 .f32) (x4 : Vec F S6x2048 .i32) (y6 : Vec F S1x5 .f32) (y7 : Vec F S1x5 .f32) (y8 : Vec F S1x5 .f32) (y9 : Vec F S5x160 .f32) :
    View.canon (runA c i harg1 harg2 harg3 harg4 harg5 harg6 harg7 harg8 harg9 harg10 harg11 harg12 harg13 harg14 harg15 hc0 hc1 x0 x1 x2 x3 x4 y6 y7 y8 y9).2.2.2.1 = coefs x0 x4 := by
  refine canon_planes _ _ _ _ _ _ [] ?_ ?_ ?_ ?_ ?_
  all_goals
    intro x; rw [coefs_plane]; refine congrFun ?_ x
    simp only [
      runA.sl.r, runA.sl.r_1, runA.sl.r_2, runA.sl.r_3, runA.sl.r_4, runA.sl.r_5, runA.sl.r_6, runA.sl.r_7, runA.sl.r_8, runA.sl.r_9, runA.sl.r_10,
      runA.sl.r_11, runA.sl.r_12, runA.sl.r_13, runA.sl.r_14, runA.sl.r_15, runA.sl.r_16, runA.sl.r_17, runA.sl.r_18, runA.sl.r_19, runA.sl.r_20,
      runA.sl.r_21, runA.sl.r_22, runA.sl.r_23, runA.sl.r_24, runA.sl.r_25, runA.sl.r_26, runA.sl.r_27, runA.sl.r_28, runA.sl.r_29, runA.sl.r_30,
      runA.sl.r_31, runA.sl.r_32, runA.sl.r_33, runA.sl.r_34, runA.sl.r_35, runA.sl.r_36, runA.sl.r_37, runA.sl.r_38, runA.sl.r_39, runA.sl.r_40,
      runA.sl.r_41, runA.sl.r_42, runA.sl.r_43, runA.sl.r_44, runA.sl.r_45, runA.sl.r_46, runA.sl.r_47, runA.sl.r_48, runA.sl.r_49, runA.sl.r_50,
      runA.sl.r_51, runA.sl.r_52, runA.sl.r_53, runA.sl.r_54, runA.sl.r_55, runA.sl.r_56, runA.sl.r_57, runA.sl.r_58, runA.sl.r_59, runA.sl.r_60,
      runA.sl.r_61, runA.sl.r_62, runA.sl.r_63, runA.sl.r_64, runA.sl.r_65, runA.sl.r_66, runA.sl.r_67, runA.sl.r_68, runA.sl.r_69, runA.sl.r_70,
      runA.sl.r_71, runA.sl.r_72, runA.sl.r_73, runA.sl.r_74, runA.sl.r_75, runA.sl.r_76, runA.sl.r_77, runA.sl.r_78, runA.sl.r_79, runA.sl.r_80,
      runA.sl.r_81, runA.sl.r_82, runA.sl.r_83, runA.sl.r_84, runA.sl.r_85, runA.sl.r_86, runA.sl.r_87, runA.sl.r_88, runA.sl.r_89, runA.sl.r_90,
      runA.sl.r_91, runA.sl.r_92, runA.sl.r_93, runA.sl.r_94, runA.sl.r_95, runA.sl.r_96, runA.sl.r_97, runA.sl.r_98, runA.sl.r_99, runA.sl.r_100,
      runA.sl.r_101, runA.sl.r_102, runA.sl.r_103, runA.sl.r_104, runA.sl.r_105, runA.sl.r_106, runA.sl.r_107, runA.sl.r_108, runA.sl.r_109,
      runA.sl.r_110, runA.sl.r_111, runA.sl.r_112, runA.sl.r_113, runA.sl.r_114, runA.sl.r_115, runA.sl.r_116, runA.sl.r_117, runA.sl.r_118,
      runA.sl.r_119, runA.sl.r_120, runA.sl.r_121, runA.sl.r_122, runA.sl.r_123, runA.sl.r_124, runA.sl.r_125, runA.sl.r_126, runA.sl.r_127,
      runA.sl.r_128, runA.sl.r_129, runA.sl.r_130, runA.sl.r_131, runA.sl.r_132, runA.sl.r_133, runA.sl.r_134, runA.sl.r_135, runA.sl.r_136,
      runA.sl.r_137, runA.sl.r_138, runA.sl.r_139, runA.sl.r_140, runA.sl.r_141, runA.sl.r_142, runA.sl.r_143, runA.sl.r_144, runA.sl.r_145,
      runA.sl.r_146, runA.sl.r_147, runA.sl.r_148, runA.sl.r_149, runA.sl.r_150, runA.sl.r_151, runA.sl.r_152, runA.sl.r_153, runA.sl.r_154,
      runA.sl.r_155, runA.sl.r_156, runA.sl.r_157, runA.sl.r_158, runA.sl.r_159, runA.sl.r_160, runA.sl.r_161, runA.sl.r_162, runA.sl.r_163,
      runA.sl.r_164, runA.sl.r_165, runA.sl.v699, runA.sl.v932, runA.sl.HS0_5,
      View.readAt_eq_ld, harg1.read_unread, harg5.read_unread]
    rfl

/-- The first point: the tables of fractions. -/
theorem runA_tables  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : cond0_0 i) (hc1 : ¬cond0_1 i) (x0 : Vec F S6 .i32) (x1 : Vec F S160x12288 .bf16) (x2 : Vec F S512x12288 .fp8e4m3) (x3 : Vec F S1x512 .f32) (x4 : Vec F S6x2048 .i32) (y6 : Vec F S1x5 .f32) (y7 : Vec F S1x5 .f32) (y8 : Vec F S1x5 .f32) (y9 : Vec F S5x160 .f32) :
    View.canon (runA c i harg1 harg2 harg3 harg4 harg5 harg6 harg7 harg8 harg9 harg10 harg11 harg12 harg13 harg14 harg15 hc0 hc1 x0 x1 x2 x3 x4 y6 y7 y8 y9).2.2.2.2.2.1 = tables x0 x4 := by
  refine canon_tables _ _ _ _ ?_ ?_ ?_
  all_goals
    intro x; rw [tables_table]; refine congrFun ?_ x
    simp only [
      runA.sl.r, runA.sl.r_1, runA.sl.r_2, runA.sl.r_3, runA.sl.r_4, runA.sl.r_5, runA.sl.r_6, runA.sl.r_7, runA.sl.r_8, runA.sl.r_9, runA.sl.r_10,
      runA.sl.r_11, runA.sl.r_12, runA.sl.r_13, runA.sl.r_14, runA.sl.r_15, runA.sl.r_16, runA.sl.r_17, runA.sl.r_18, runA.sl.r_19, runA.sl.r_20,
      runA.sl.r_21, runA.sl.r_22, runA.sl.r_23, runA.sl.r_24, runA.sl.r_25, runA.sl.r_26, runA.sl.r_27, runA.sl.r_28, runA.sl.r_29, runA.sl.r_30,
      runA.sl.r_31, runA.sl.r_32, runA.sl.r_33, runA.sl.r_34, runA.sl.r_35, runA.sl.r_36, runA.sl.r_37, runA.sl.r_38, runA.sl.r_39, runA.sl.r_40,
      runA.sl.r_41, runA.sl.r_42, runA.sl.r_43, runA.sl.r_44, runA.sl.r_45, runA.sl.r_46, runA.sl.r_47, runA.sl.r_48, runA.sl.r_49, runA.sl.r_50,
      runA.sl.r_51, runA.sl.r_52, runA.sl.r_53, runA.sl.r_54, runA.sl.r_55, runA.sl.r_56, runA.sl.r_57, runA.sl.r_58, runA.sl.r_59, runA.sl.r_60,
      runA.sl.r_61, runA.sl.r_62, runA.sl.r_63, runA.sl.r_64, runA.sl.r_65, runA.sl.r_66, runA.sl.r_67, runA.sl.r_68, runA.sl.r_69, runA.sl.r_70,
      runA.sl.r_71, runA.sl.r_72, runA.sl.r_73, runA.sl.r_74, runA.sl.r_75, runA.sl.r_76, runA.sl.r_77, runA.sl.r_78, runA.sl.r_79, runA.sl.r_80,
      runA.sl.r_81, runA.sl.r_82, runA.sl.r_83, runA.sl.r_84, runA.sl.r_85, runA.sl.r_86, runA.sl.r_87, runA.sl.r_88, runA.sl.r_89, runA.sl.r_90,
      runA.sl.r_91, runA.sl.r_92, runA.sl.r_93, runA.sl.r_94, runA.sl.r_95, runA.sl.r_96, runA.sl.r_97, runA.sl.r_98, runA.sl.r_99, runA.sl.r_100,
      runA.sl.r_101, runA.sl.r_102, runA.sl.r_103, runA.sl.r_104, runA.sl.r_105, runA.sl.r_106, runA.sl.r_107, runA.sl.r_108, runA.sl.r_109,
      runA.sl.r_110, runA.sl.r_111, runA.sl.r_112, runA.sl.r_113, runA.sl.r_114, runA.sl.r_115, runA.sl.r_116, runA.sl.r_117, runA.sl.r_118,
      runA.sl.r_119, runA.sl.r_120, runA.sl.r_121, runA.sl.r_122, runA.sl.r_123, runA.sl.r_124, runA.sl.r_125, runA.sl.r_126, runA.sl.r_127,
      runA.sl.r_128, runA.sl.r_129, runA.sl.r_130, runA.sl.r_131, runA.sl.r_132, runA.sl.r_133, runA.sl.r_134, runA.sl.r_135, runA.sl.r_136,
      runA.sl.r_137, runA.sl.r_138, runA.sl.r_139, runA.sl.r_140, runA.sl.r_141, runA.sl.r_142, runA.sl.r_143, runA.sl.r_144, runA.sl.r_145,
      runA.sl.r_146, runA.sl.r_147, runA.sl.r_148, runA.sl.r_149, runA.sl.r_150, runA.sl.r_151, runA.sl.r_152, runA.sl.r_153, runA.sl.r_154,
      runA.sl.r_155, runA.sl.r_156, runA.sl.r_157, runA.sl.r_158, runA.sl.r_159, runA.sl.r_160, runA.sl.r_161, runA.sl.r_162, runA.sl.r_163,
      runA.sl.r_164, runA.sl.r_165, runA.sl.v699, runA.sl.v932, runA.sl.HS0_5,
      View.readAt_eq_ld, harg1.read_unread, harg5.read_unread]
    rfl

/-- The first point: the counts of the experts. -/
theorem runA_cnt  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : cond0_0 i) (hc1 : ¬cond0_1 i) (x0 : Vec F S6 .i32) (x1 : Vec F S160x12288 .bf16) (x2 : Vec F S512x12288 .fp8e4m3) (x3 : Vec F S1x512 .f32) (x4 : Vec F S6x2048 .i32) (y6 : Vec F S1x5 .f32) (y7 : Vec F S1x5 .f32) (y8 : Vec F S1x5 .f32) (y9 : Vec F S5x160 .f32) :
    View.canon (runA c i harg1 harg2 harg3 harg4 harg5 harg6 harg7 harg8 harg9 harg10 harg11 harg12 harg13 harg14 harg15 hc0 hc1 x0 x1 x2 x3 x4 y6 y7 y8 y9).2.1 = expertCounts (cntOf x0 x4) := by
  refine (View.canon_cons_unit_lit _ _ _ (by decide)).trans ?_
  simp only [
      runA.sl.r, runA.sl.r_1, runA.sl.r_2, runA.sl.r_3, runA.sl.r_4, runA.sl.r_5, runA.sl.r_6, runA.sl.r_7, runA.sl.r_8, runA.sl.r_9, runA.sl.r_10,
      runA.sl.r_11, runA.sl.r_12, runA.sl.r_13, runA.sl.r_14, runA.sl.r_15, runA.sl.r_16, runA.sl.r_17, runA.sl.r_18, runA.sl.r_19, runA.sl.r_20,
      runA.sl.r_21, runA.sl.r_22, runA.sl.r_23, runA.sl.r_24, runA.sl.r_25, runA.sl.r_26, runA.sl.r_27, runA.sl.r_28, runA.sl.r_29, runA.sl.r_30,
      runA.sl.r_31, runA.sl.r_32, runA.sl.r_33, runA.sl.r_34, runA.sl.r_35, runA.sl.r_36, runA.sl.r_37, runA.sl.r_38, runA.sl.r_39, runA.sl.r_40,
      runA.sl.r_41, runA.sl.r_42, runA.sl.r_43, runA.sl.r_44, runA.sl.r_45, runA.sl.r_46, runA.sl.r_47, runA.sl.r_48, runA.sl.r_49, runA.sl.r_50,
      runA.sl.r_51, runA.sl.r_52, runA.sl.r_53, runA.sl.r_54, runA.sl.r_55, runA.sl.r_56, runA.sl.r_57, runA.sl.r_58, runA.sl.r_59, runA.sl.r_60,
      runA.sl.r_61, runA.sl.r_62, runA.sl.r_63, runA.sl.r_64, runA.sl.r_65, runA.sl.r_66, runA.sl.r_67, runA.sl.r_68, runA.sl.r_69, runA.sl.r_70,
      runA.sl.r_71, runA.sl.r_72, runA.sl.r_73, runA.sl.r_74, runA.sl.r_75, runA.sl.r_76, runA.sl.r_77, runA.sl.r_78, runA.sl.r_79, runA.sl.r_80,
      runA.sl.r_81, runA.sl.r_82, runA.sl.r_83, runA.sl.r_84, runA.sl.r_85, runA.sl.r_86, runA.sl.r_87, runA.sl.r_88, runA.sl.r_89, runA.sl.r_90,
      runA.sl.r_91, runA.sl.r_92, runA.sl.r_93, runA.sl.r_94, runA.sl.r_95, runA.sl.r_96, runA.sl.r_97, runA.sl.r_98, runA.sl.r_99, runA.sl.r_100,
      runA.sl.r_101, runA.sl.r_102, runA.sl.r_103, runA.sl.r_104, runA.sl.r_105, runA.sl.r_106, runA.sl.r_107, runA.sl.r_108, runA.sl.r_109,
      runA.sl.r_110, runA.sl.r_111, runA.sl.r_112, runA.sl.r_113, runA.sl.r_114, runA.sl.r_115, runA.sl.r_116, runA.sl.r_117, runA.sl.r_118,
      runA.sl.r_119, runA.sl.r_120, runA.sl.r_121, runA.sl.r_122, runA.sl.r_123, runA.sl.r_124, runA.sl.r_125, runA.sl.r_126, runA.sl.r_127,
      runA.sl.r_128, runA.sl.r_129, runA.sl.r_130, runA.sl.r_131, runA.sl.r_132, runA.sl.r_133, runA.sl.r_134, runA.sl.r_135, runA.sl.r_136,
      runA.sl.r_137, runA.sl.r_138, runA.sl.r_139, runA.sl.r_140, runA.sl.r_141, runA.sl.r_142, runA.sl.r_143, runA.sl.r_144, runA.sl.r_145,
      runA.sl.r_146, runA.sl.r_147, runA.sl.r_148, runA.sl.r_149, runA.sl.r_150, runA.sl.r_151, runA.sl.r_152, runA.sl.r_153, runA.sl.r_154,
      runA.sl.r_155, runA.sl.r_156, runA.sl.r_157, runA.sl.r_158, runA.sl.r_159, runA.sl.r_160, runA.sl.r_161, runA.sl.r_162, runA.sl.r_163,
      runA.sl.r_164, runA.sl.r_165, runA.sl.v699, runA.sl.v932,
      View.readAt_eq_ld, harg1.read_unread, harg5.read_unread]
  rfl

/-- The first point: the counts of the devices. -/
theorem runA_dev  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : cond0_0 i) (hc1 : ¬cond0_1 i) (x0 : Vec F S6 .i32) (x1 : Vec F S160x12288 .bf16) (x2 : Vec F S512x12288 .fp8e4m3) (x3 : Vec F S1x512 .f32) (x4 : Vec F S6x2048 .i32) (y6 : Vec F S1x5 .f32) (y7 : Vec F S1x5 .f32) (y8 : Vec F S1x5 .f32) (y9 : Vec F S5x160 .f32) :
    View.canon (runA c i harg1 harg2 harg3 harg4 harg5 harg6 harg7 harg8 harg9 harg10 harg11 harg12 harg13 harg14 harg15 hc0 hc1 x0 x1 x2 x3 x4 y6 y7 y8 y9).2.2.1 = deviceCounts (cntOf x0 x4) := by
  refine (View.canon_cons_unit_lit _ _ _ (by decide)).trans ?_
  simp only [
      runA.sl.r, runA.sl.r_1, runA.sl.r_2, runA.sl.r_3, runA.sl.r_4, runA.sl.r_5, runA.sl.r_6, runA.sl.r_7, runA.sl.r_8, runA.sl.r_9, runA.sl.r_10,
      runA.sl.r_11, runA.sl.r_12, runA.sl.r_13, runA.sl.r_14, runA.sl.r_15, runA.sl.r_16, runA.sl.r_17, runA.sl.r_18, runA.sl.r_19, runA.sl.r_20,
      runA.sl.r_21, runA.sl.r_22, runA.sl.r_23, runA.sl.r_24, runA.sl.r_25, runA.sl.r_26, runA.sl.r_27, runA.sl.r_28, runA.sl.r_29, runA.sl.r_30,
      runA.sl.r_31, runA.sl.r_32, runA.sl.r_33, runA.sl.r_34, runA.sl.r_35, runA.sl.r_36, runA.sl.r_37, runA.sl.r_38, runA.sl.r_39, runA.sl.r_40,
      runA.sl.r_41, runA.sl.r_42, runA.sl.r_43, runA.sl.r_44, runA.sl.r_45, runA.sl.r_46, runA.sl.r_47, runA.sl.r_48, runA.sl.r_49, runA.sl.r_50,
      runA.sl.r_51, runA.sl.r_52, runA.sl.r_53, runA.sl.r_54, runA.sl.r_55, runA.sl.r_56, runA.sl.r_57, runA.sl.r_58, runA.sl.r_59, runA.sl.r_60,
      runA.sl.r_61, runA.sl.r_62, runA.sl.r_63, runA.sl.r_64, runA.sl.r_65, runA.sl.r_66, runA.sl.r_67, runA.sl.r_68, runA.sl.r_69, runA.sl.r_70,
      runA.sl.r_71, runA.sl.r_72, runA.sl.r_73, runA.sl.r_74, runA.sl.r_75, runA.sl.r_76, runA.sl.r_77, runA.sl.r_78, runA.sl.r_79, runA.sl.r_80,
      runA.sl.r_81, runA.sl.r_82, runA.sl.r_83, runA.sl.r_84, runA.sl.r_85, runA.sl.r_86, runA.sl.r_87, runA.sl.r_88, runA.sl.r_89, runA.sl.r_90,
      runA.sl.r_91, runA.sl.r_92, runA.sl.r_93, runA.sl.r_94, runA.sl.r_95, runA.sl.r_96, runA.sl.r_97, runA.sl.r_98, runA.sl.r_99, runA.sl.r_100,
      runA.sl.r_101, runA.sl.r_102, runA.sl.r_103, runA.sl.r_104, runA.sl.r_105, runA.sl.r_106, runA.sl.r_107, runA.sl.r_108, runA.sl.r_109,
      runA.sl.r_110, runA.sl.r_111, runA.sl.r_112, runA.sl.r_113, runA.sl.r_114, runA.sl.r_115, runA.sl.r_116, runA.sl.r_117, runA.sl.r_118,
      runA.sl.r_119, runA.sl.r_120, runA.sl.r_121, runA.sl.r_122, runA.sl.r_123, runA.sl.r_124, runA.sl.r_125, runA.sl.r_126, runA.sl.r_127,
      runA.sl.r_128, runA.sl.r_129, runA.sl.r_130, runA.sl.r_131, runA.sl.r_132, runA.sl.r_133, runA.sl.r_134, runA.sl.r_135, runA.sl.r_136,
      runA.sl.r_137, runA.sl.r_138, runA.sl.r_139, runA.sl.r_140, runA.sl.r_141, runA.sl.r_142, runA.sl.r_143, runA.sl.r_144, runA.sl.r_145,
      runA.sl.r_146, runA.sl.r_147, runA.sl.r_148, runA.sl.r_149, runA.sl.r_150, runA.sl.r_151, runA.sl.r_152, runA.sl.r_153, runA.sl.r_154,
      runA.sl.r_155, runA.sl.r_156, runA.sl.r_157, runA.sl.r_158, runA.sl.r_159, runA.sl.r_160, runA.sl.r_161, runA.sl.r_162, runA.sl.r_163,
      runA.sl.r_164, runA.sl.r_165, runA.sl.v699, runA.sl.v932,
      View.readAt_eq_ld, harg1.read_unread, harg5.read_unread]
  rfl

end Cert.KernelIdeal.Body

end
-- ==== Proof.PiecesA2.lean ====
/- What the first point leaves in the running sums and the gradients. -/
module

public import proofs.«01_k».proof.Proof.PiecesA

@[expose] public section

set_option maxRecDepth 16384

noncomputable section

namespace Cert.KernelIdeal.Body

open Cert.KernelIdeal Cert.KernelIdeal.Gen Cert.KernelIdeal.Content Cert.KernelIdeal.Terms
open Idealize.ShloMosaic Idealize.ShloMosaic.TcCoe Idealize.ShloMosaic.Pointwise
open Idealize.ShloMosaic.Tactic
open Idealize.ShloMosaic.Pipeline (Dat Cfg Window BodyObligation cellOf)

variable {F : FTy → Type} [FloatOps F]

set_option maxHeartbeats 4000000 in
/-- The first point: the running sums it leaves. -/
theorem runA_acc  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : cond0_0 i) (hc1 : ¬cond0_1 i) (x0 : Vec F S6 .i32) (x1 : Vec F S160x12288 .bf16) (x2 : Vec F S512x12288 .fp8e4m3) (x3 : Vec F S1x512 .f32) (x4 : Vec F S6x2048 .i32) (y6 : Vec F S1x5 .f32) (y7 : Vec F S1x5 .f32) (y8 : Vec F S1x5 .f32) (y9 : Vec F S5x160 .f32) :
    View.canon (runA c i harg1 harg2 harg3 harg4 harg5 harg6 harg7 harg8 harg9 harg10 harg11 harg12 harg13 harg14 harg15 hc0 hc1 x0 x1 x2 x3 x4 y6 y7 y8 y9).2.2.2.2.1 = accAfter x0 x1 x2 x3 (BitVec.ofNat 32 (i 0).val) (broadcast S5x160x128 (Scalar.ofBits .f32 0x00000000#32)) := by
  have h : (runA c i harg1 harg2 harg3 harg4 harg5 harg6 harg7 harg8 harg9 harg10 harg11 harg12 harg13 harg14 harg15 hc0 hc1 x0 x1 x2 x3 x4 y6 y7 y8 y9).2.2.2.2.1 = ((⟨plane 4, k0_pay281 (runA.sl.r_206 c i harg1 x0) (runA.sl.r_209 c harg2 harg3 harg4 x1 x2 x3) (runA.sl.v669 c i harg1 harg2 harg3 harg4 x0 x1 x2 x3)⟩ : View.Piece (Elt F) S5x160x128 .f32) :: runA.sl.HS1_20 c i harg1 harg2 harg3 harg4 x0 x1 x2 x3) := rfl
  rw [h]
  refine canon_planes _ _ _ _ _ _ _ ?_ ?_ ?_ ?_ ?_
  all_goals
    intro x; rw [accAfter_plane]; refine congrFun ?_ x
    simp (disch := first | rfl | decide) only [
      runA.sl.HS1_1, runA.sl.HS1_2, runA.sl.HS1_3, runA.sl.HS1_4, runA.sl.HS1_5, runA.sl.HS1_6, runA.sl.HS1_7, runA.sl.HS1_8, runA.sl.HS1_9,
      runA.sl.HS1_10, runA.sl.HS1_11, runA.sl.HS1_12, runA.sl.HS1_13, runA.sl.HS1_14, runA.sl.HS1_15, runA.sl.HS1_16, runA.sl.HS1_17, runA.sl.HS1_18,
      runA.sl.HS1_19, runA.sl.HS1_20, runA.sl.cst_161, runA.sl.r, runA.sl.r_1, runA.sl.r_2, runA.sl.r_3, runA.sl.r_4, runA.sl.r_5, runA.sl.r_166,
      runA.sl.r_167, runA.sl.r_168, runA.sl.r_169, runA.sl.r_170, runA.sl.r_171, runA.sl.r_172, runA.sl.r_173, runA.sl.r_174, runA.sl.r_175,
      runA.sl.r_176, runA.sl.r_177, runA.sl.r_178, runA.sl.r_179, runA.sl.r_180, runA.sl.r_181, runA.sl.r_182, runA.sl.r_183, runA.sl.r_184,
      runA.sl.r_185, runA.sl.r_186, runA.sl.r_187, runA.sl.r_188, runA.sl.r_189, runA.sl.r_190, runA.sl.r_191, runA.sl.r_192, runA.sl.r_193,
      runA.sl.r_194, runA.sl.r_195, runA.sl.r_196, runA.sl.r_197, runA.sl.r_198, runA.sl.r_199, runA.sl.r_200, runA.sl.r_201, runA.sl.r_202,
      runA.sl.r_203, runA.sl.r_204, runA.sl.r_205, runA.sl.r_206, runA.sl.r_207, runA.sl.r_208, runA.sl.r_209, runA.sl.r_210, runA.sl.r_211,
      runA.sl.r_212, runA.sl.r_213, runA.sl.r_214, runA.sl.r_215, runA.sl.v102, runA.sl.v107, runA.sl.v121, runA.sl.v126, runA.sl.v140, runA.sl.v145,
      runA.sl.v159, runA.sl.v164, runA.sl.v178, runA.sl.v183, runA.sl.v269, runA.sl.v288, runA.sl.v307, runA.sl.v326, runA.sl.v345, runA.sl.v431,
      runA.sl.v450, runA.sl.v469, runA.sl.v488, runA.sl.v507, runA.sl.v593, runA.sl.v612, runA.sl.v631, runA.sl.v650, runA.sl.v669,
      ↓View.readCov_skip, ld_w, ld_x, View.readCov_cons_toLoadRect, View.readAt_eq_ld, harg1.read_unread, harg2.read_unread, harg3.read_unread, harg4.read_unread, harg5.read_unread, ↓View.readCov_fill]
    rfl

set_option maxHeartbeats 4000000 in
/-- The first point: the gradients it leaves. -/
theorem runA_grad  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : cond0_0 i) (hc1 : ¬cond0_1 i) (x0 : Vec F S6 .i32) (x1 : Vec F S160x12288 .bf16) (x2 : Vec F S512x12288 .fp8e4m3) (x3 : Vec F S1x512 .f32) (x4 : Vec F S6x2048 .i32) (y6 : Vec F S1x5 .f32) (y7 : Vec F S1x5 .f32) (y8 : Vec F S1x5 .f32) (y9 : Vec F S5x160 .f32) :
    View.canon (runA c i harg1 harg2 harg3 harg4 harg5 harg6 harg7 harg8 harg9 harg10 harg11 harg12 harg13 harg14 harg15 hc0 hc1 x0 x1 x2 x3 x4 y6 y7 y8 y9).1 = gradAfter x0 x1 x2 x3 (BitVec.ofNat 32 (i 0).val) (coefs x0 x4) := by
  have hco := runA_coefs c i harg1 harg2 harg3 harg4 harg5 harg6 harg7 harg8 harg9 harg10 harg11 harg12 harg13 harg14 harg15 hc0 hc1 x0 x1 x2 x3 x4 y6 y7 y8 y9
  change View.canon (runA.sl.HS0_5 c harg1 harg5 x0 x4) = _ at hco
  refine canon_cols _ _ _ _ _ ?_ ?_ ?_ ?_
  all_goals
    intro x; rw [gradAfter_cols]; refine congrFun ?_ x
    simp only [
      runA.sl.HS1_1, runA.sl.HS1_2, runA.sl.HS1_3, runA.sl.HS1_4, runA.sl.HS1_5, runA.sl.HS1_6, runA.sl.HS1_7, runA.sl.HS1_8, runA.sl.HS1_9,
      runA.sl.HS1_10, runA.sl.HS1_11, runA.sl.HS1_12, runA.sl.HS1_13, runA.sl.HS1_14, runA.sl.HS1_15, runA.sl.HS1_16, runA.sl.HS1_17, runA.sl.HS1_18,
      runA.sl.HS1_19, runA.sl.HS1_20, runA.sl.cst_161, runA.sl.r, runA.sl.r_1, runA.sl.r_2, runA.sl.r_3, runA.sl.r_4, runA.sl.r_5, runA.sl.r_166,
      runA.sl.r_167, runA.sl.r_168, runA.sl.r_169, runA.sl.r_170, runA.sl.r_171, runA.sl.r_172, runA.sl.r_173, runA.sl.r_174, runA.sl.r_175,
      runA.sl.r_176, runA.sl.r_177, runA.sl.r_178, runA.sl.r_179, runA.sl.r_180, runA.sl.r_181, runA.sl.r_182, runA.sl.r_183, runA.sl.r_184,
      runA.sl.r_185, runA.sl.r_186, runA.sl.r_187, runA.sl.r_188, runA.sl.r_189, runA.sl.r_190, runA.sl.r_191, runA.sl.r_192, runA.sl.r_193,
      runA.sl.r_194, runA.sl.r_195, runA.sl.r_196, runA.sl.r_197, runA.sl.r_198, runA.sl.r_199, runA.sl.r_200, runA.sl.r_201, runA.sl.r_202,
      runA.sl.r_203, runA.sl.r_204, runA.sl.r_205, runA.sl.r_206, runA.sl.r_207, runA.sl.r_208, runA.sl.r_209, runA.sl.r_210, runA.sl.r_211,
      runA.sl.r_212, runA.sl.r_213, runA.sl.r_214, runA.sl.r_215, runA.sl.v102, runA.sl.v107, runA.sl.v121, runA.sl.v126, runA.sl.v140, runA.sl.v145,
      runA.sl.v159, runA.sl.v164, runA.sl.v178, runA.sl.v183, runA.sl.v269, runA.sl.v288, runA.sl.v307, runA.sl.v326, runA.sl.v345, runA.sl.v431,
      runA.sl.v450, runA.sl.v469, runA.sl.v488, runA.sl.v507, runA.sl.v593, runA.sl.v612, runA.sl.v631, runA.sl.v650, runA.sl.v669,
      ld_w, ld_x, View.readCov_eq_canon', hco, View.readAt_eq_ld, harg1.read_unread, harg2.read_unread, harg3.read_unread, harg4.read_unread, harg5.read_unread]
    rfl

end Cert.KernelIdeal.Body

end
-- ==== Proof.PiecesB.lean ====
/- What a middle point leaves in the buffers it writes. -/
module

public import proofs.«01_k».proof.Proof.RunB
public import proofs.«01_k».proof.Proof.Pieces

@[expose] public section

set_option maxRecDepth 16384

noncomputable section

namespace Cert.KernelIdeal.Body

open Cert.KernelIdeal Cert.KernelIdeal.Gen Cert.KernelIdeal.Content Cert.KernelIdeal.Terms
open Idealize.ShloMosaic Idealize.ShloMosaic.TcCoe Idealize.ShloMosaic.Pointwise
open Idealize.ShloMosaic.Tactic
open Idealize.ShloMosaic.Pipeline (Dat Cfg Window BodyObligation cellOf)

variable {F : FTy → Type} [FloatOps F]

set_option maxHeartbeats 4000000 in
/-- A middle point: the running sums it leaves. -/
theorem runB_acc  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : ¬cond0_0 i) (hc1 : ¬cond0_1 i) (x0 : Vec F S6 .i32) (x1 : Vec F S160x12288 .bf16) (x2 : Vec F S512x12288 .fp8e4m3) (x3 : Vec F S1x512 .f32) (x4 : Vec F S6x2048 .i32) (xs0 : Vec F S5x160x128 .f32) (xs1 : Vec F S5x160x128 .f32) (y6 : Vec F S1x5 .f32) (y7 : Vec F S1x5 .f32) (y8 : Vec F S1x5 .f32) (y9 : Vec F S5x160 .f32) (y10 : Vec F S5x160 .i32) (y11 : Vec F S5x8 .i32) (xs2 : Vec F S3x8x256 .f32) :
    View.canon (runB c i harg1 harg2 harg3 harg4 harg5 harg6 harg7 harg8 harg9 harg10 harg11 harg12 harg13 harg14 harg15 hc0 hc1 x0 x1 x2 x3 x4 xs0 xs1 y6 y7 y8 y9 y10 y11 xs2).2.1 = accAfter x0 x1 x2 x3 (BitVec.ofNat 32 (i 0).val) xs1 := by
  have h : (runB c i harg1 harg2 harg3 harg4 harg5 harg6 harg7 harg8 harg9 harg10 harg11 harg12 harg13 harg14 harg15 hc0 hc1 x0 x1 x2 x3 x4 xs0 xs1 y6 y7 y8 y9 y10 y11 xs2).2.1 = ((⟨plane 4, k0_pay281 (runB.sl.r_47 c i harg1 x0) (runB.sl.r_50 c harg2 harg3 harg4 x1 x2 x3) (runB.sl.v669 c i harg1 harg2 harg3 harg4 harg14 x0 x1 x2 x3 xs1)⟩ : View.Piece (Elt F) S5x160x128 .f32) :: runB.sl.HS1_19 c i harg1 harg2 harg3 harg4 harg14 x0 x1 x2 x3 xs1) := rfl
  rw [h]
  refine canon_planes _ _ _ _ _ _ _ ?_ ?_ ?_ ?_ ?_
  all_goals
    intro x; rw [accAfter_plane]; refine congrFun ?_ x
    simp (disch := first | rfl | decide) only [
      runB.sl.HS1_5, runB.sl.HS1_6, runB.sl.HS1_7, runB.sl.HS1_8, runB.sl.HS1_9, runB.sl.HS1_10, runB.sl.HS1_11, runB.sl.HS1_12, runB.sl.HS1_13,
      runB.sl.HS1_14, runB.sl.HS1_15, runB.sl.HS1_16, runB.sl.HS1_17, runB.sl.HS1_18, runB.sl.HS1_19, runB.sl.cst_161, runB.sl.r, runB.sl.r_1,
      runB.sl.r_2, runB.sl.r_3, runB.sl.r_4, runB.sl.r_5, runB.sl.r_6, runB.sl.r_7, runB.sl.r_8, runB.sl.r_9, runB.sl.r_10, runB.sl.r_11,
      runB.sl.r_12, runB.sl.r_13, runB.sl.r_14, runB.sl.r_15, runB.sl.r_16, runB.sl.r_17, runB.sl.r_18, runB.sl.r_19, runB.sl.r_20, runB.sl.r_21,
      runB.sl.r_22, runB.sl.r_23, runB.sl.r_24, runB.sl.r_25, runB.sl.r_26, runB.sl.r_27, runB.sl.r_28, runB.sl.r_29, runB.sl.r_30, runB.sl.r_31,
      runB.sl.r_32, runB.sl.r_33, runB.sl.r_34, runB.sl.r_35, runB.sl.r_36, runB.sl.r_37, runB.sl.r_38, runB.sl.r_39, runB.sl.r_40, runB.sl.r_41,
      runB.sl.r_42, runB.sl.r_43, runB.sl.r_44, runB.sl.r_45, runB.sl.r_46, runB.sl.r_47, runB.sl.r_48, runB.sl.r_49, runB.sl.r_50, runB.sl.r_51,
      runB.sl.r_52, runB.sl.r_53, runB.sl.r_54, runB.sl.r_55, runB.sl.r_56, runB.sl.r_57, runB.sl.v126, runB.sl.v145, runB.sl.v164, runB.sl.v183,
      runB.sl.v269, runB.sl.v288, runB.sl.v307, runB.sl.v326, runB.sl.v345, runB.sl.v431, runB.sl.v450, runB.sl.v469, runB.sl.v488, runB.sl.v507,
      runB.sl.v593, runB.sl.v612, runB.sl.v631, runB.sl.v650, runB.sl.v669,
      ↓View.readCov_skip, ld_w, ld_x, View.readCov_cons_toLoadRect, View.readAt_eq_ld, harg1.read_unread, harg2.read_unread, harg3.read_unread, harg4.read_unread, harg13.read_unread, harg14.read_unread]
    rfl

set_option maxHeartbeats 4000000 in
/-- A middle point: the gradients it leaves. -/
theorem runB_grad  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : ¬cond0_0 i) (hc1 : ¬cond0_1 i) (x0 : Vec F S6 .i32) (x1 : Vec F S160x12288 .bf16) (x2 : Vec F S512x12288 .fp8e4m3) (x3 : Vec F S1x512 .f32) (x4 : Vec F S6x2048 .i32) (xs0 : Vec F S5x160x128 .f32) (xs1 : Vec F S5x160x128 .f32) (y6 : Vec F S1x5 .f32) (y7 : Vec F S1x5 .f32) (y8 : Vec F S1x5 .f32) (y9 : Vec F S5x160 .f32) (y10 : Vec F S5x160 .i32) (y11 : Vec F S5x8 .i32) (xs2 : Vec F S3x8x256 .f32) :
    View.canon (runB c i harg1 harg2 harg3 harg4 harg5 harg6 harg7 harg8 harg9 harg10 harg11 harg12 harg13 harg14 harg15 hc0 hc1 x0 x1 x2 x3 x4 xs0 xs1 y6 y7 y8 y9 y10 y11 xs2).1 = gradAfter x0 x1 x2 x3 (BitVec.ofNat 32 (i 0).val) xs0 := by
  refine canon_cols _ _ _ _ _ ?_ ?_ ?_ ?_
  all_goals
    intro x; rw [gradAfter_cols]; refine congrFun ?_ x
    simp (disch := first | rfl | decide) only [
      runB.sl.HS1_5, runB.sl.HS1_6, runB.sl.HS1_7, runB.sl.HS1_8, runB.sl.HS1_9, runB.sl.HS1_10, runB.sl.HS1_11, runB.sl.HS1_12, runB.sl.HS1_13,
      runB.sl.HS1_14, runB.sl.HS1_15, runB.sl.HS1_16, runB.sl.HS1_17, runB.sl.HS1_18, runB.sl.HS1_19, runB.sl.cst_161, runB.sl.r, runB.sl.r_1,
      runB.sl.r_2, runB.sl.r_3, runB.sl.r_4, runB.sl.r_5, runB.sl.r_6, runB.sl.r_7, runB.sl.r_8, runB.sl.r_9, runB.sl.r_10, runB.sl.r_11,
      runB.sl.r_12, runB.sl.r_13, runB.sl.r_14, runB.sl.r_15, runB.sl.r_16, runB.sl.r_17, runB.sl.r_18, runB.sl.r_19, runB.sl.r_20, runB.sl.r_21,
      runB.sl.r_22, runB.sl.r_23, runB.sl.r_24, runB.sl.r_25, runB.sl.r_26, runB.sl.r_27, runB.sl.r_28, runB.sl.r_29, runB.sl.r_30, runB.sl.r_31,
      runB.sl.r_32, runB.sl.r_33, runB.sl.r_34, runB.sl.r_35, runB.sl.r_36, runB.sl.r_37, runB.sl.r_38, runB.sl.r_39, runB.sl.r_40, runB.sl.r_41,
      runB.sl.r_42, runB.sl.r_43, runB.sl.r_44, runB.sl.r_45, runB.sl.r_46, runB.sl.r_47, runB.sl.r_48, runB.sl.r_49, runB.sl.r_50, runB.sl.r_51,
      runB.sl.r_52, runB.sl.r_53, runB.sl.r_54, runB.sl.r_55, runB.sl.r_56, runB.sl.r_57, runB.sl.v126, runB.sl.v145, runB.sl.v164, runB.sl.v183,
      runB.sl.v269, runB.sl.v288, runB.sl.v307, runB.sl.v326, runB.sl.v345, runB.sl.v431, runB.sl.v450, runB.sl.v469, runB.sl.v488, runB.sl.v507,
      runB.sl.v593, runB.sl.v612, runB.sl.v631, runB.sl.v650, runB.sl.v669,
      ↓View.readCov_skip, ld_w, ld_x, View.readCov_cons_toLoadRect, View.readAt_eq_ld, harg1.read_unread, harg2.read_unread, harg3.read_unread, harg4.read_unread, harg13.read_unread, harg14.read_unread]
    rfl

end Cert.KernelIdeal.Body

end
-- ==== Proof.PiecesC.lean ====
/- What the last point leaves in the buffers it writes. -/
module

public import proofs.«01_k».proof.Proof.RunC
public import proofs.«01_k».proof.Proof.Pieces

@[expose] public section

set_option maxRecDepth 16384

noncomputable section

namespace Cert.KernelIdeal.Body

open Cert.KernelIdeal Cert.KernelIdeal.Gen Cert.KernelIdeal.Content Cert.KernelIdeal.Terms
open Idealize.ShloMosaic Idealize.ShloMosaic.TcCoe Idealize.ShloMosaic.Pointwise
open Idealize.ShloMosaic.Tactic
open Idealize.ShloMosaic.Pipeline (Dat Cfg Window BodyObligation cellOf)

variable {F : FTy → Type} [FloatOps F]

set_option maxHeartbeats 4000000 in
/-- The last point: the running sums it leaves. -/
theorem runC_acc  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : ¬cond0_0 i) (hc1 : cond0_1 i) (x0 : Vec F S6 .i32) (x1 : Vec F S160x12288 .bf16) (x2 : Vec F S512x12288 .fp8e4m3) (x3 : Vec F S1x512 .f32) (x4 : Vec F S6x2048 .i32) (xs0 : Vec F S5x160x128 .f32) (xs1 : Vec F S5x160x128 .f32) (xs2 : Vec F S3x8x256 .f32) (y10 : Vec F S5x160 .i32) (y11 : Vec F S5x8 .i32) :
    View.canon (runC c i harg1 harg2 harg3 harg4 harg5 harg6 harg7 harg8 harg9 harg10 harg11 harg12 harg13 harg14 harg15 hc0 hc1 x0 x1 x2 x3 x4 xs0 xs1 xs2 y10 y11).2.2.2.2.2.1 = accAfter x0 x1 x2 x3 (BitVec.ofNat 32 (i 0).val) xs1 := by
  have h : (runC c i harg1 harg2 harg3 harg4 harg5 harg6 harg7 harg8 harg9 harg10 harg11 harg12 harg13 harg14 harg15 hc0 hc1 x0 x1 x2 x3 x4 xs0 xs1 xs2 y10 y11).2.2.2.2.2.1 = (runC.sl.HS1_20 c i harg1 harg2 harg3 harg4 harg14 x0 x1 x2 x3 xs1) := rfl
  rw [h]
  refine canon_planes _ _ _ _ _ _ _ ?_ ?_ ?_ ?_ ?_
  all_goals
    intro x; rw [accAfter_plane]; refine congrFun ?_ x
    simp (disch := first | rfl | decide) only [
      runC.sl.HS1_5, runC.sl.HS1_6, runC.sl.HS1_7, runC.sl.HS1_8, runC.sl.HS1_9, runC.sl.HS1_10, runC.sl.HS1_11, runC.sl.HS1_12, runC.sl.HS1_13,
      runC.sl.HS1_14, runC.sl.HS1_15, runC.sl.HS1_16, runC.sl.HS1_17, runC.sl.HS1_18, runC.sl.HS1_19, runC.sl.cst_161, runC.sl.r, runC.sl.r_1,
      runC.sl.r_2, runC.sl.r_3, runC.sl.r_4, runC.sl.r_5, runC.sl.r_7, runC.sl.r_8, runC.sl.r_9, runC.sl.r_10, runC.sl.r_11, runC.sl.r_12,
      runC.sl.r_13, runC.sl.r_14, runC.sl.r_15, runC.sl.r_16, runC.sl.r_17, runC.sl.r_18, runC.sl.r_19, runC.sl.r_20, runC.sl.r_21, runC.sl.r_22,
      runC.sl.r_23, runC.sl.r_24, runC.sl.r_25, runC.sl.r_26, runC.sl.r_27, runC.sl.r_28, runC.sl.r_29, runC.sl.r_30, runC.sl.r_31, runC.sl.r_32,
      runC.sl.r_33, runC.sl.r_34, runC.sl.r_35, runC.sl.r_36, runC.sl.r_37, runC.sl.r_38, runC.sl.r_39, runC.sl.r_40, runC.sl.r_41, runC.sl.r_42,
      runC.sl.r_43, runC.sl.r_44, runC.sl.r_45, runC.sl.r_46, runC.sl.r_47, runC.sl.r_48, runC.sl.r_49, runC.sl.r_50, runC.sl.r_51, runC.sl.r_52,
      runC.sl.r_53, runC.sl.r_54, runC.sl.r_55, runC.sl.r_56, runC.sl.r_57, runC.sl.v126, runC.sl.v145, runC.sl.v164, runC.sl.v183, runC.sl.v269,
      runC.sl.v288, runC.sl.v307, runC.sl.v326, runC.sl.v345, runC.sl.v431, runC.sl.v450, runC.sl.v469, runC.sl.v488, runC.sl.v507, runC.sl.v593,
      runC.sl.v612, runC.sl.v631, runC.sl.v650, runC.sl.v669,
      ↓View.readCov_skip, ld_w, ld_x, View.readCov_cons_toLoadRect, View.readAt_eq_ld, harg1.read_unread, harg2.read_unread, harg3.read_unread, harg4.read_unread, harg13.read_unread, harg14.read_unread]
    rfl

set_option maxHeartbeats 4000000 in
/-- The last point: the gradients it leaves. -/
theorem runC_grad  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : ¬cond0_0 i) (hc1 : cond0_1 i) (x0 : Vec F S6 .i32) (x1 : Vec F S160x12288 .bf16) (x2 : Vec F S512x12288 .fp8e4m3) (x3 : Vec F S1x512 .f32) (x4 : Vec F S6x2048 .i32) (xs0 : Vec F S5x160x128 .f32) (xs1 : Vec F S5x160x128 .f32) (xs2 : Vec F S3x8x256 .f32) (y10 : Vec F S5x160 .i32) (y11 : Vec F S5x8 .i32) :
    View.canon (runC c i harg1 harg2 harg3 harg4 harg5 harg6 harg7 harg8 harg9 harg10 harg11 harg12 harg13 harg14 harg15 hc0 hc1 x0 x1 x2 x3 x4 xs0 xs1 xs2 y10 y11).1 = gradAfter x0 x1 x2 x3 (BitVec.ofNat 32 (i 0).val) xs0 := by
  refine canon_cols _ _ _ _ _ ?_ ?_ ?_ ?_
  all_goals
    intro x; rw [gradAfter_cols]; refine congrFun ?_ x
    simp (disch := first | rfl | decide) only [
      runC.sl.HS1_5, runC.sl.HS1_6, runC.sl.HS1_7, runC.sl.HS1_8, runC.sl.HS1_9, runC.sl.HS1_10, runC.sl.HS1_11, runC.sl.HS1_12, runC.sl.HS1_13,
      runC.sl.HS1_14, runC.sl.HS1_15, runC.sl.HS1_16, runC.sl.HS1_17, runC.sl.HS1_18, runC.sl.HS1_19, runC.sl.cst_161, runC.sl.r, runC.sl.r_1,
      runC.sl.r_2, runC.sl.r_3, runC.sl.r_4, runC.sl.r_5, runC.sl.r_7, runC.sl.r_8, runC.sl.r_9, runC.sl.r_10, runC.sl.r_11, runC.sl.r_12,
      runC.sl.r_13, runC.sl.r_14, runC.sl.r_15, runC.sl.r_16, runC.sl.r_17, runC.sl.r_18, runC.sl.r_19, runC.sl.r_20, runC.sl.r_21, runC.sl.r_22,
      runC.sl.r_23, runC.sl.r_24, runC.sl.r_25, runC.sl.r_26, runC.sl.r_27, runC.sl.r_28, runC.sl.r_29, runC.sl.r_30, runC.sl.r_31, runC.sl.r_32,
      runC.sl.r_33, runC.sl.r_34, runC.sl.r_35, runC.sl.r_36, runC.sl.r_37, runC.sl.r_38, runC.sl.r_39, runC.sl.r_40, runC.sl.r_41, runC.sl.r_42,
      runC.sl.r_43, runC.sl.r_44, runC.sl.r_45, runC.sl.r_46, runC.sl.r_47, runC.sl.r_48, runC.sl.r_49, runC.sl.r_50, runC.sl.r_51, runC.sl.r_52,
      runC.sl.r_53, runC.sl.r_54, runC.sl.r_55, runC.sl.r_56, runC.sl.r_57, runC.sl.v126, runC.sl.v145, runC.sl.v164, runC.sl.v183, runC.sl.v269,
      runC.sl.v288, runC.sl.v307, runC.sl.v326, runC.sl.v345, runC.sl.v431, runC.sl.v450, runC.sl.v469, runC.sl.v488, runC.sl.v507, runC.sl.v593,
      runC.sl.v612, runC.sl.v631, runC.sl.v650, runC.sl.v669,
      ↓View.readCov_skip, ld_w, ld_x, View.readCov_cons_toLoadRect, View.readAt_eq_ld, harg1.read_unread, harg2.read_unread, harg3.read_unread, harg4.read_unread, harg13.read_unread, harg14.read_unread]
    rfl

/-- The last point: the expert loss. -/
theorem runC_expert  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : ¬cond0_0 i) (hc1 : cond0_1 i) (x0 : Vec F S6 .i32) (x1 : Vec F S160x12288 .bf16) (x2 : Vec F S512x12288 .fp8e4m3) (x3 : Vec F S1x512 .f32) (x4 : Vec F S6x2048 .i32) (xs0 : Vec F S5x160x128 .f32) (xs1 : Vec F S5x160x128 .f32) (xs2 : Vec F S3x8x256 .f32) (y10 : Vec F S5x160 .i32) (y11 : Vec F S5x8 .i32) :
    View.canon (runC c i harg1 harg2 harg3 harg4 harg5 harg6 harg7 harg8 harg9 harg10 harg11 harg12 harg13 harg14 harg15 hc0 hc1 x0 x1 x2 x3 x4 xs0 xs1 xs2 y10 y11).2.1 = lossOf 0x3B449BA6 x0 xs2 (accAfter x0 x1 x2 x3 (BitVec.ofNat 32 (i 0).val) xs1) 0 := by
  have hacc := runC_acc c i harg1 harg2 harg3 harg4 harg5 harg6 harg7 harg8 harg9 harg10 harg11 harg12 harg13 harg14 harg15 hc0 hc1 x0 x1 x2 x3 x4 xs0 xs1 xs2 y10 y11
  change View.canon (runC.sl.HS1_20 c i harg1 harg2 harg3 harg4 harg14 x0 x1 x2 x3 xs1) = _ at hacc
  refine (View.canon_cons_unit_lit _ _ _ (by decide)).trans ?_
  simp only [runC.sl.v696, runC.sl.v701, runC.sl.v706, runC.sl.v711, runC.sl.v716, runC.sl.r, runC.sl.r_1, runC.sl.r_2, runC.sl.r_3, runC.sl.r_4, runC.sl.r_5, runC.sl.r_6, runC.sl.r_58, runC.sl.r_59, View.readCov_eq_canon', hacc, View.readAt_eq_ld, harg1.read_unread, harg15.read_unread]
  rfl

/-- The last point: the device loss. -/
theorem runC_device  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : ¬cond0_0 i) (hc1 : cond0_1 i) (x0 : Vec F S6 .i32) (x1 : Vec F S160x12288 .bf16) (x2 : Vec F S512x12288 .fp8e4m3) (x3 : Vec F S1x512 .f32) (x4 : Vec F S6x2048 .i32) (xs0 : Vec F S5x160x128 .f32) (xs1 : Vec F S5x160x128 .f32) (xs2 : Vec F S3x8x256 .f32) (y10 : Vec F S5x160 .i32) (y11 : Vec F S5x8 .i32) :
    View.canon (runC c i harg1 harg2 harg3 harg4 harg5 harg6 harg7 harg8 harg9 harg10 harg11 harg12 harg13 harg14 harg15 hc0 hc1 x0 x1 x2 x3 x4 xs0 xs1 xs2 y10 y11).2.2.1 = lossOf 0x3D4CCCCD x0 xs2 (accAfter x0 x1 x2 x3 (BitVec.ofNat 32 (i 0).val) xs1) 1 := by
  have hacc := runC_acc c i harg1 harg2 harg3 harg4 harg5 harg6 harg7 harg8 harg9 harg10 harg11 harg12 harg13 harg14 harg15 hc0 hc1 x0 x1 x2 x3 x4 xs0 xs1 xs2 y10 y11
  change View.canon (runC.sl.HS1_20 c i harg1 harg2 harg3 harg4 harg14 x0 x1 x2 x3 xs1) = _ at hacc
  refine (View.canon_cons_unit_lit _ _ _ (by decide)).trans ?_
  simp only [runC.sl.v696, runC.sl.v701, runC.sl.v706, runC.sl.v711, runC.sl.v716, runC.sl.r, runC.sl.r_1, runC.sl.r_2, runC.sl.r_3, runC.sl.r_4, runC.sl.r_5, runC.sl.r_6, runC.sl.r_58, runC.sl.r_59, View.readCov_eq_canon', hacc, View.readAt_eq_ld, harg1.read_unread, harg15.read_unread]
  rfl

/-- The last point: the communication loss. -/
theorem runC_comm  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : ¬cond0_0 i) (hc1 : cond0_1 i) (x0 : Vec F S6 .i32) (x1 : Vec F S160x12288 .bf16) (x2 : Vec F S512x12288 .fp8e4m3) (x3 : Vec F S1x512 .f32) (x4 : Vec F S6x2048 .i32) (xs0 : Vec F S5x160x128 .f32) (xs1 : Vec F S5x160x128 .f32) (xs2 : Vec F S3x8x256 .f32) (y10 : Vec F S5x160 .i32) (y11 : Vec F S5x8 .i32) :
    View.canon (runC c i harg1 harg2 harg3 harg4 harg5 harg6 harg7 harg8 harg9 harg10 harg11 harg12 harg13 harg14 harg15 hc0 hc1 x0 x1 x2 x3 x4 xs0 xs1 xs2 y10 y11).2.2.2.1 = lossOf 0x3CA3D70A x0 xs2 (accAfter x0 x1 x2 x3 (BitVec.ofNat 32 (i 0).val) xs1) 2 := by
  have hacc := runC_acc c i harg1 harg2 harg3 harg4 harg5 harg6 harg7 harg8 harg9 harg10 harg11 harg12 harg13 harg14 harg15 hc0 hc1 x0 x1 x2 x3 x4 xs0 xs1 xs2 y10 y11
  change View.canon (runC.sl.HS1_20 c i harg1 harg2 harg3 harg4 harg14 x0 x1 x2 x3 xs1) = _ at hacc
  refine (View.canon_cons_unit_lit _ _ _ (by decide)).trans ?_
  simp only [runC.sl.v696, runC.sl.v701, runC.sl.v706, runC.sl.v711, runC.sl.v716, runC.sl.r, runC.sl.r_1, runC.sl.r_2, runC.sl.r_3, runC.sl.r_4, runC.sl.r_5, runC.sl.r_6, runC.sl.r_58, runC.sl.r_59, View.readCov_eq_canon', hacc, View.readAt_eq_ld, harg1.read_unread, harg15.read_unread]
  rfl

/-- The last point: the mean scores. -/
theorem runC_mean  (c : Dev nD) (i : grid0.Coords) {arg1 : Memref sig .tc .smem S6 .i32} (harg1 : arg1.IsWhole) {arg2 : Memref sig .tc .vmem S160x12288 .bf16} (harg2 : arg2.IsWhole) {arg3 : Memref sig .tc .vmem S512x12288 .fp8e4m3} (harg3 : arg3.IsWhole) {arg4 : Memref sig .tc .vmem S1x512 .f32} (harg4 : arg4.IsWhole) {arg5 : Memref sig .tc .vmem S6x2048 .i32} (harg5 : arg5.IsWhole) {arg6 : Memref sig .tc .vmem S160x512 .f32} (harg6 : arg6.IsWhole) {arg7 : Memref sig .tc .vmem S1x5 .f32} (harg7 : arg7.IsWhole) {arg8 : Memref sig .tc .vmem S1x5 .f32} (harg8 : arg8.IsWhole) {arg9 : Memref sig .tc .vmem S1x5 .f32} (harg9 : arg9.IsWhole) {arg10 : Memref sig .tc .vmem S5x160 .f32} (harg10 : arg10.IsWhole) {arg11 : Memref sig .tc .vmem S5x160 .i32} (harg11 : arg11.IsWhole) {arg12 : Memref sig .tc .vmem S5x8 .i32} (harg12 : arg12.IsWhole) {arg13 : Memref sig .tc .vmem S5x160x128 .f32} (harg13 : arg13.IsWhole) {arg14 : Memref sig .tc .vmem S5x160x128 .f32} (harg14 : arg14.IsWhole) {arg15 : Memref sig .tc .vmem S3x8x256 .f32} (harg15 : arg15.IsWhole) (hc0 : ¬cond0_0 i) (hc1 : cond0_1 i) (x0 : Vec F S6 .i32) (x1 : Vec F S160x12288 .bf16) (x2 : Vec F S512x12288 .fp8e4m3) (x3 : Vec F S1x512 .f32) (x4 : Vec F S6x2048 .i32) (xs0 : Vec F S5x160x128 .f32) (xs1 : Vec F S5x160x128 .f32) (xs2 : Vec F S3x8x256 .f32) (y10 : Vec F S5x160 .i32) (y11 : Vec F S5x8 .i32) :
    View.canon (runC c i harg1 harg2 harg3 harg4 harg5 harg6 harg7 harg8 harg9 harg10 harg11 harg12 harg13 harg14 harg15 hc0 hc1 x0 x1 x2 x3 x4 xs0 xs1 xs2 y10 y11).2.2.2.2.1 = meanRows (means x0 (accAfter x0 x1 x2 x3 (BitVec.ofNat 32 (i 0).val) xs1)) := by
  have hacc := runC_acc c i harg1 harg2 harg3 harg4 harg5 harg6 harg7 harg8 harg9 harg10 harg11 harg12 harg13 harg14 harg15 hc0 hc1 x0 x1 x2 x3 x4 xs0 xs1 xs2 y10 y11
  change View.canon (runC.sl.HS1_20 c i harg1 harg2 harg3 harg4 harg14 x0 x1 x2 x3 xs1) = _ at hacc
  refine (View.canon_cons_unit_lit _ _ _ (by decide)).trans ?_
  simp only [runC.sl.v696, runC.sl.v701, runC.sl.v706, runC.sl.v711, runC.sl.v716, runC.sl.r, runC.sl.r_1, runC.sl.r_2, runC.sl.r_3, runC.sl.r_4, runC.sl.r_5, runC.sl.r_6, runC.sl.r_58, runC.sl.r_59, View.readCov_eq_canon', hacc, View.readAt_eq_ld, harg1.read_unread, harg15.read_unread]
  rfl

end Cert.KernelIdeal.Body

end
-- ==== Proof.Body.lean ====
/- The body of the kernel at every point, with the contents it leaves; the launch; and the contents every buffer ends with. -/
module

public import proofs.«01_k».proof.Proof.Data
public import proofs.«01_k».proof.Proof.Covers
public import proofs.«01_k».proof.Proof.PiecesA2
public import proofs.«01_k».proof.Proof.PiecesB
public import proofs.«01_k».proof.Proof.PiecesC

@[expose] public section

set_option maxRecDepth 16384

noncomputable section

namespace Cert.KernelIdeal.Body

open Cert.KernelIdeal Cert.KernelIdeal.Gen Cert.KernelIdeal.Content Cert.KernelIdeal.Terms
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4000000 in
/-- The body at the first point. -/
theorem sound_runA (c : Dev nD) (t : Fin cfg0.N) (h0 : t.val = 0) (h1 : t.val ≠ 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  have hN : t.val < 4 := lt_of_lt_of_eq t.isLt (show cfg0.N = 4 from N_0)
  rw [show (dats m 0 c).owesAt () t.succ = (dats m 0 c).owesAt () t.castSucc from rfl]
  rw [show (dats m 0 c).Φ t.succ = PhiS m c (t.val + 1) t.isLt from rfl, PhiS_succ]
  rw [leaves_live m c 0 t (liveAt0_0 t), after0_0]
  rw [leaves_live m c 1 t (liveAt0_1 t), after0_1]
  rw [leaves_live m c 2 t (liveAt0_2 t), after0_2]
  rw [leaves_live m c 3 t (liveAt0_3 t), after0_3]
  rw [leaves_live m c 4 t (liveAt0_4 t), after0_4]
  rw [leaves_live m c 5 t rfl, after0_5]
  rw [leaves_live m c 10 t ((idle_early t).2 h0).1, after0_10]
  rw [leaves_live m c 11 t ((idle_early t).2 h0).2, after0_11]
  rw [Dat.leavesExact_idle (dats m 0 c) 6 t ((idle_late t).1 h1).1 (flush_not t 6 (by decide) h1)]
  rw [Dat.leavesExact_idle (dats m 0 c) 7 t ((idle_late t).1 h1).2.1 (flush_not t 7 (by decide) h1)]
  rw [Dat.leavesExact_idle (dats m 0 c) 8 t ((idle_late t).1 h1).2.2.1 (flush_not t 8 (by decide) h1)]
  rw [Dat.leavesExact_idle (dats m 0 c) 9 t ((idle_late t).1 h1).2.2.2 (flush_not t 9 (by decide) h1)]
  rw [PhiS_castSucc m c t, PhiS_zero m c _ _ h0, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runA c (grid0.coords t) _ _ _ _ _ _ _ _ _ _ _ _ _ _ _ ((hcond0_0 t).mpr (by omega)) (fun h => h1 (by have := (hcond0_1 t).mp h; omega)) (iblk m c 0 t) (iblk m c 1 t) (iblk m c 2 t) (iblk m c 3 t) (iblk m c 4 t) _ _ _ _).2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS0]; · iexact HS0
  isplitl [HS1]; · iexact HS1
  isplitl [HS2]; · iexact HS2
  iintro ⟨H0, H1, H2, H3, H4, ⟨%e5, H5⟩, H6, H7, H8, H9, ⟨%e10, H10⟩, ⟨%e11, H11⟩, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; refine (View.read_writes_eq_canon _ _ _ (runA_cover_coefs _ _ _ _ _ _ _ _ _ _ _ _ _ _ _ _ _ _ _ _ _ _ _ _ _ _ _ _)).trans ((runA_coefs _ _ _ _ _ _ _ _ _ _ _ _ _ _ _ _ _ _ _ _ _ _ _ _ _ _ _ _).trans ?_)
        have ht : t = t0_0 := Fin.ext h0; subst ht; rfl
      isplitl [HS1]
      · unfold owns; iexists _; isplitr
        swap; · iexact HS1
        ipureintro; refine (View.read_writes_eq_canon _ _ _ (runA_cover_acc _ _ _ _ _ _ _ _ _ _ _ _ _ _ _ _ _ _ _ _ _ _ _ _ _ _ _ _)).trans ((runA_acc _ _ _ _ _ _ _ _ _ _ _ _ _ _ _ _ _ _ _ _ _ _ _ _ _ _ _ _).trans ?_)
        rw [accAt_succ]; rw [show accAt m c t.val = accAt m c 0 from congrArg _ h0]; rfl
      · unfold owns; iexists _; isplitr
        swap; · iexact HS2
        ipureintro; refine (View.read_writes_eq_canon _ _ _ (runA_cover_tables _ _ _ _ _ _ _ _ _ _ _ _ _ _ _ _ _ _ _ _ _ _ _ _ _ _ _ _)).trans ((runA_tables _ _ _ _ _ _ _ _ _ _ _ _ _ _ _ _ _ _ _ _ _ _ _ _ _ _ _ _).trans ?_)
        have ht : t = t0_0 := Fin.ext h0; subst ht; rfl
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · unfold owns; iexists _; isplitr
    swap; · iexact H5
    ipureintro; refine (View.read_writes_eq_canon _ _ _ (runA_cover_grad _ _ _ _ _ _ _ _ _ _ _ _ _ _ _ _ _ _ _ _ _ _ _ _ _ _ _ _)).trans ((runA_grad _ _ _ _ _ _ _ _ _ _ _ _ _ _ _ _ _ _ _ _ _ _ _ _ _ _ _ _).trans ?_)
    have ht : t = t0_0 := Fin.ext h0; subst ht; rfl
  isplitl [H6]
  · iexists _; iexact H6
  isplitl [H7]
  · iexists _; iexact H7
  isplitl [H8]
  · iexists _; iexact H8
  isplitl [H9]
  · iexists _; iexact H9
  isplitl [H10]
  · unfold owns; iexists _; isplitr
    swap; · iexact H10
    ipureintro; refine (View.read_writes_eq_canon _ _ _ (runA_cover_cnt _ _ _ _ _ _ _ _ _ _ _ _ _ _ _ _ _ _ _ _ _ _ _ _ _ _ _ _)).trans ((runA_cnt _ _ _ _ _ _ _ _ _ _ _ _ _ _ _ _ _ _ _ _ _ _ _ _ _ _ _ _).trans ?_)
    have ht : t = t0_0 := Fin.ext h0; subst ht; rfl
  · unfold owns; iexists _; isplitr
    swap; · iexact H11
    ipureintro; refine (View.read_writes_eq_canon _ _ _ (runA_cover_dev _ _ _ _ _ _ _ _ _ _ _ _ _ _ _ _ _ _ _ _ _ _ _ _ _ _ _ _)).trans ((runA_dev _ _ _ _ _ _ _ _ _ _ _ _ _ _ _ _ _ _ _ _ _ _ _ _ _ _ _ _).trans ?_)
    have ht : t = t0_0 := Fin.ext h0; subst ht; rfl

set_option maxHeartbeats 4000000 in
/-- The body at a middle point. -/
theorem sound_runB (c : Dev nD) (t : Fin cfg0.N) (h0 : t.val ≠ 0) (h1 : t.val ≠ 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  have hN : t.val < 4 := lt_of_lt_of_eq t.isLt (show cfg0.N = 4 from N_0)
  rw [show (dats m 0 c).owesAt () t.succ = (dats m 0 c).owesAt () t.castSucc from rfl]
  rw [show (dats m 0 c).Φ t.succ = PhiS m c (t.val + 1) t.isLt from rfl, PhiS_succ]
  rw [leaves_live m c 0 t (liveAt0_0 t), after0_0]
  rw [leaves_live m c 1 t (liveAt0_1 t), after0_1]
  rw [leaves_live m c 2 t (liveAt0_2 t), after0_2]
  rw [leaves_live m c 3 t (liveAt0_3 t), after0_3]
  rw [leaves_live m c 4 t (liveAt0_4 t), after0_4]
  rw [leaves_live m c 5 t rfl, after0_5]
  rw [Dat.leavesExact_idle (dats m 0 c) 6 t ((idle_late t).1 h1).1 (flush_not t 6 (by decide) h1)]
  rw [Dat.leavesExact_idle (dats m 0 c) 7 t ((idle_late t).1 h1).2.1 (flush_not t 7 (by decide) h1)]
  rw [Dat.leavesExact_idle (dats m 0 c) 8 t ((idle_late t).1 h1).2.2.1 (flush_not t 8 (by decide) h1)]
  rw [Dat.leavesExact_idle (dats m 0 c) 9 t ((idle_late t).1 h1).2.2.2 (flush_not t 9 (by decide) h1)]
  rw [Dat.leavesExact_idle (dats m 0 c) 10 t ((idle_early t).1 h0).1 (flush_not t 10 (by decide) h1)]
  rw [Dat.leavesExact_idle (dats m 0 c) 11 t ((idle_early t).1 h0).2 (flush_not t 11 (by decide) h1)]
  rw [PhiS_castSucc m c t, PhiS_pos m c _ _ h0]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runB c (grid0.coords t) _ _ _ _ _ _ _ _ _ _ _ _ _ _ _ (fun h => h0 (by have := (hcond0_0 t).mp h; omega)) (fun h => h1 (by have := (hcond0_1 t).mp h; omega)) (iblk m c 0 t) (iblk m c 1 t) (iblk m c 2 t) (iblk m c 3 t) (iblk m c 4 t) _ _ _ _ _ _ _ _ _).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  iintro ⟨H0, H1, H2, H3, H4, ⟨%e5, H5⟩, H6, H7, H8, H9, H10, H11, HS0, ⟨%es1, HS1⟩, HS2⟩
  isplitl [HS0 HS1 HS2 Hg]
  · isplitl [HS0 HS1 HS2]
    · isplitl [HS0]
      · iexact HS0
      isplitl [HS1]
      · unfold owns; iexists _; isplitr
        swap; · iexact HS1
        ipureintro; refine (View.read_writes_eq_canon _ _ _ (runB_cover_acc _ _ _ _ _ _ _ _ _ _ _ _ _ _ _ _ _ _ _ _ _ _ _ _ _ _ _ _ _ _ _ _ _)).trans ((runB_acc _ _ _ _ _ _ _ _ _ _ _ _ _ _ _ _ _ _ _ _ _ _ _ _ _ _ _ _ _ _ _ _ _).trans ?_)
        rw [accAt_succ]
      · iexact HS2
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · unfold owns; iexists _; isplitr
    swap; · iexact H5
    ipureintro; refine (View.read_writes_eq_canon _ _ _ (runB_cover_grad _ _ _ _ _ _ _ _ _ _ _ _ _ _ _ _ _ _ _ _ _ _ _ _ _ _ _ _ _ _ _ _ _)).trans ((runB_grad _ _ _ _ _ _ _ _ _ _ _ _ _ _ _ _ _ _ _ _ _ _ _ _ _ _ _ _ _ _ _ _ _).trans ?_)
    rfl
  isplitl [H6]
  · iexists _; iexact H6
  isplitl [H7]
  · iexists _; iexact H7
  isplitl [H8]
  · iexists _; iexact H8
  isplitl [H9]
  · iexists _; iexact H9
  isplitl [H10]
  · iexists _; iexact H10
  · iexists _; iexact H11

set_option maxHeartbeats 4000000 in
/-- The body at the last point. -/
theorem sound_runC (c : Dev nD) (t : Fin cfg0.N) (h0 : t.val ≠ 0) (h1 : t.val = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  have hN : t.val < 4 := lt_of_lt_of_eq t.isLt (show cfg0.N = 4 from N_0)
  rw [show (dats m 0 c).owesAt () t.succ = (dats m 0 c).owesAt () t.castSucc from rfl]
  rw [show (dats m 0 c).Φ t.succ = PhiS m c (t.val + 1) t.isLt from rfl, PhiS_succ]
  rw [leaves_live m c 0 t (liveAt0_0 t), after0_0]
  rw [leaves_live m c 1 t (liveAt0_1 t), after0_1]
  rw [leaves_live m c 2 t (liveAt0_2 t), after0_2]
  rw [leaves_live m c 3 t (liveAt0_3 t), after0_3]
  rw [leaves_live m c 4 t (liveAt0_4 t), after0_4]
  rw [leaves_live m c 5 t rfl, after0_5]
  rw [leaves_live m c 6 t ((idle_late t).2 h1).1, after0_6]
  rw [leaves_live m c 7 t ((idle_late t).2 h1).2.1, after0_7]
  rw [leaves_live m c 8 t ((idle_late t).2 h1).2.2.1, after0_8]
  rw [leaves_live m c 9 t ((idle_late t).2 h1).2.2.2, after0_9]
  rw [leaves_flush m c 10 t ((idle_early t).1 h0).1 ((flush_last t 10 (by decide)).mpr h1), after0_10]
  simp only [before0_10' m c t h0]
  rw [leaves_flush m c 11 t ((idle_early t).1 h0).2 ((flush_last t 11 (by decide)).mpr h1), after0_11]
  simp only [before0_11' m c t h0]
  rw [PhiS_castSucc m c t, PhiS_pos m c _ _ h0]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runC c (grid0.coords t) _ _ _ _ _ _ _ _ _ _ _ _ _ _ _ (fun h => h0 (by have := (hcond0_0 t).mp h; omega)) ((hcond0_1 t).mpr (by omega)) (iblk m c 0 t) (iblk m c 1 t) (iblk m c 2 t) (iblk m c 3 t) (iblk m c 4 t) _ _ _ _ _).2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexact H10
  isplitl [H11]; · iexact H11
  isplitl [HS0]; · iexact HS0
  isplitl [HS1]; · iexact HS1
  isplitl [HS2]; · iexact HS2
  iintro ⟨H0, H1, H2, H3, H4, ⟨%e5, H5⟩, ⟨%e6, H6⟩, ⟨%e7, H7⟩, ⟨%e8, H8⟩, ⟨%e9, H9⟩, H10, H11, HS0, ⟨%es1, HS1⟩, HS2⟩
  isplitl [HS0 HS1 HS2 Hg]
  · isplitl [HS0 HS1 HS2]
    · isplitl [HS0]
      · iexact HS0
      isplitl [HS1]
      · unfold owns; iexists _; isplitr
        swap; · iexact HS1
        ipureintro; refine (View.read_writes_eq_canon _ _ _ (runC_cover_acc _ _ _ _ _ _ _ _ _ _ _ _ _ _ _ _ _ _ _ _ _ _ _ _ _ _ _ _ _)).trans ((runC_acc _ _ _ _ _ _ _ _ _ _ _ _ _ _ _ _ _ _ _ _ _ _ _ _ _ _ _ _ _).trans ?_)
        rw [accAt_succ]
      · iexact HS2
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · unfold owns; iexists _; isplitr
    swap; · iexact H5
    ipureintro; refine (View.read_writes_eq_canon _ _ _ (runC_cover_grad _ _ _ _ _ _ _ _ _ _ _ _ _ _ _ _ _ _ _ _ _ _ _ _ _ _ _ _ _)).trans ((runC_grad _ _ _ _ _ _ _ _ _ _ _ _ _ _ _ _ _ _ _ _ _ _ _ _ _ _ _ _ _).trans ?_)
    rfl
  isplitl [H6]
  · unfold owns; iexists _; isplitr
    swap; · iexact H6
    ipureintro; refine (View.read_writes_eq_canon _ _ _ (runC_cover_expert _ _ _ _ _ _ _ _ _ _ _ _ _ _ _ _ _ _ _ _ _ _ _ _ _ _ _ _ _)).trans ((runC_expert _ _ _ _ _ _ _ _ _ _ _ _ _ _ _ _ _ _ _ _ _ _ _ _ _ _ _ _ _).trans ?_)
    unfold lossAt; rw [accAt_succ]
  isplitl [H7]
  · unfold owns; iexists _; isplitr
    swap; · iexact H7
    ipureintro; refine (View.read_writes_eq_canon _ _ _ (runC_cover_device _ _ _ _ _ _ _ _ _ _ _ _ _ _ _ _ _ _ _ _ _ _ _ _ _ _ _ _ _)).trans ((runC_device _ _ _ _ _ _ _ _ _ _ _ _ _ _ _ _ _ _ _ _ _ _ _ _ _ _ _ _ _).trans ?_)
    unfold lossAt; rw [accAt_succ]
  isplitl [H8]
  · unfold owns; iexists _; isplitr
    swap; · iexact H8
    ipureintro; refine (View.read_writes_eq_canon _ _ _ (runC_cover_comm _ _ _ _ _ _ _ _ _ _ _ _ _ _ _ _ _ _ _ _ _ _ _ _ _ _ _ _ _)).trans ((runC_comm _ _ _ _ _ _ _ _ _ _ _ _ _ _ _ _ _ _ _ _ _ _ _ _ _ _ _ _ _).trans ?_)
    unfold lossAt; rw [accAt_succ]
  isplitl [H9]
  · unfold owns; iexists _; isplitr
    swap; · iexact H9
    ipureintro; refine (View.read_writes_eq_canon _ _ _ (runC_cover_mean _ _ _ _ _ _ _ _ _ _ _ _ _ _ _ _ _ _ _ _ _ _ _ _ _ _ _ _ _)).trans ((runC_mean _ _ _ _ _ _ _ _ _ _ _ _ _ _ _ _ _ _ _ _ _ _ _ _ _ _ _ _ _).trans ?_)
    unfold meanAt; rw [accAt_succ]
  isplitl [H10]
  · iexact H10
  · iexact H11

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_runA m c t h0 (by omega)
  · by_cases h1 : t.val = 3
    · exact sound_runC m c t h0 h1
    · exact sound_runB m c t h0 h1

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiS_pos m c _ _ (by have : cfg0.N = 4 := N_0; omega), PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
set_option maxHeartbeats 800000 in
/-- The launch: every buffer ends at the contents the data names, every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Body

end
-- ==== Proof.KernelFrame.lean ====
/- The kernel's frame: the kernel as printed is the text of its idealization, so the run of the one is that of the other. -/
module

public import proofs.«01_k».proof.Proof.Body
public import proofs.«01_k».proof.Proof.Gen.Kernel.Frame
public import proofs.«01_k».proof.Proof.Gen.KernelIdeal.Frame
public import Idealize.ShloMosaic.Lib.Claim
public import proofs.«01_k».proof.Defs

@[expose] public section

set_option maxRecDepth 16384

noncomputable section

namespace Cert.KernelIdeal.Body

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The kernel runs, its arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Body

namespace Cert.Kernel

open Idealize.ShloMosaic

variable {F : FTy → Type} [FloatOps F]

set_option maxHeartbeats 0 in
/-- The kernel's body and its idealization's are one text. -/
theorem cc0_eq : @Cert.Kernel.cc0_seqwise_balance F _ Gen.facts = @Cert.KernelIdeal.cc0_seqwise_balance F _ Cert.KernelIdeal.Gen.facts := rfl

/-- The two tables of bodies are one text. -/
theorem defs₀_eq : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun cc0_eq _) _) _) _) _) _) _) _) _) _) _) _) _) _) _) _) _) _) _) _) _) _) _) _) _) _) _) _) _) _) _
set_option maxHeartbeats 2000000 in
/-- The two programs' tables are one. -/
theorem defs_eq : Cert.Kernel.defs (F := F) = Cert.KernelIdeal.defs (F := F) := by
  exact congrArg (fun d => Pipeline.defs Cert.Kernel.pcfgs d) defs₀_eq

/-- The two entry points are one text. -/
theorem main_eq : Cert.Kernel.main (F := F) = Cert.KernelIdeal.main (F := F) := rfl

/-- The kernel runs at machine floats, its arguments end unchanged and every counter at zero. -/
theorem frame : Cert.quiescent_Kernel := fun m g _ => by
  have h := Cert.KernelIdeal.Body.frame (F := Bits) m g
  rw [← defs_eq, ← main_eq] at h
  exact h

end Cert.Kernel

end
-- ==== Proof.Spec.lean ====
/- The mathematics of the problem, element by element: the sigmoid scores and their normalisation, the segment of each
   token, the counts, the fractions and coefficients they give, the mean scores, the losses and the gradients. -/
module

public import Idealize.ShloMosaic.Lib.Pointwise

@[expose] public section

noncomputable section

namespace Cert.Spec

open Idealize.ShloMosaic

/-- The five inputs: the codes and the scales of the tokens, the weights, the choices and the offsets. -/
structure Inputs where
  x : Fin 2048 → Fin 12288 → EReal
  sc : Fin 2048 → EReal
  w : Fin 12288 → Fin 160 → EReal
  id : Fin 2048 → Fin 6 → BitVec 32
  off : Fin 6 → BitVec 32

variable (I : Inputs)

/-- The constants of the problem, as the words the programs print. -/
abbrev kOne : EReal := Ideal.ofBits .f32 0x3F800000#32
abbrev kExpert : EReal := Ideal.ofBits .f32 0x3B449BA6#32
abbrev kDevice : EReal := Ideal.ofBits .f32 0x3D4CCCCD#32
abbrev kComm : EReal := Ideal.ofBits .f32 0x3CA3D70A#32
abbrev kFrac : EReal := Ideal.ofBits .f32 0x41D55555#32
abbrev kSent : EReal := Ideal.ofBits .f32 0x402AAAAB#32
abbrev kFive : EReal := Ideal.ofBits .f32 0x40A00000#32

/-- The scaled score of token `t` for expert `e`. -/
def z (t : Fin 2048) (e : Fin 160) : EReal := (∑ k, I.x t k * I.w k e) * I.sc t

/-- Its sigmoid. -/
def sg (t : Fin 2048) (e : Fin 160) : EReal := Ideal.div kOne (kOne + Ideal.exp (-(z I t e)))

/-- The reciprocal of the sum of a token's sigmoids. -/
def inv (t : Fin 2048) : EReal := Ideal.div kOne (∑ e, sg I t e)

/-- The normalised score. -/
def s (t : Fin 2048) (e : Fin 160) : EReal := sg I t e * inv I t

/-- The number of the offsets at or before token `t`. -/
def before (t : Fin 2048) : ℕ := ∑ i, if (I.off i).sle (BitVec.ofNat 32 t.val) then 1 else 0

/-- The segment of token `t`: the number of the offsets at or before it, less one. -/
def seg (t : Fin 2048) : BitVec 32 := BitVec.ofNat 32 (before I t) - 1#32

/-- Whether token `t` lies in segment `q`. -/
def mem (q : Fin 5) (t : Fin 2048) : Prop := seg I t = BitVec.ofNat 32 q.val

instance (q : Fin 5) (t : Fin 2048) : Decidable (mem I q t) := inferInstanceAs (Decidable (_ = _))

/-- The length of segment `q`. -/
def len (q : Fin 5) : EReal := (((I.off q.succ - I.off q.castSucc).toInt : ℝ) : EReal)

/-- The mean normalised score of segment `q` and expert `e`. -/
def P (q : Fin 5) (e : Fin 160) : EReal := Ideal.div (∑ t, if mem I q t then s I t e else 0) (len I q)

/-- How often the tokens of segment `q` chose expert `e`. -/
def N (q : Fin 5) (e : Fin 160) : ℕ := ∑ t, if mem I q t then (∑ j, if I.id t j = BitVec.ofNat 32 e.val then 1 else 0) else 0

/-- How many tokens of segment `q` chose an expert of device `d`. -/
def D (q : Fin 5) (d : Fin 8) : ℕ := ∑ t, if mem I q t then (if ∃ j, (I.id t j).toNat / 20 = d.val then 1 else 0) else 0

/-- The counts are small. -/
theorem N_le (q : Fin 5) (e : Fin 160) : N I q e ≤ 2048 * 6 := by
  refine le_trans (Finset.sum_le_sum (g := fun _ => 6) fun t _ => ?_) (by simp)
  split_ifs
  · exact le_trans (Finset.sum_le_sum (g := fun _ => 1) fun j _ => by split_ifs <;> omega) (by simp)
  · omega

theorem D_le (q : Fin 5) (d : Fin 8) : D I q d ≤ 2048 * 1 := by
  refine le_trans (Finset.sum_le_sum (g := fun _ => 1) fun t _ => ?_) (by simp)
  split_ifs <;> omega

/-- Expert `j` of device `d`. -/
def ex (d : Fin 8) (j : Fin 20) : Fin 160 := ⟨d.val * 20 + j.val, by omega⟩

/-- The device of an expert. -/
def dev (e : Fin 160) : Fin 8 := ⟨e.val / 20, by omega⟩

/-- The fraction of a segment's choices an expert got. -/
def f (q : Fin 5) (e : Fin 160) : EReal := Ideal.div (kFrac * ((N I q e : ℝ) : EReal)) (len I q)

/-- The mean fraction of a device's experts. -/
def fdev (q : Fin 5) (d : Fin 8) : EReal := (∑ j, f I q (ex d j)) * kDevice

/-- The fraction of a segment's tokens sent to a device. -/
def fcomm (q : Fin 5) (d : Fin 8) : EReal := Ideal.div (kSent * ((D I q d : ℝ) : EReal)) (len I q)

/-- The coefficient of an expert's score in segment `q`. -/
def cf (q : Fin 5) (e : Fin 160) : EReal :=
  Ideal.div (kExpert * f I q e + (kDevice * fdev I q (dev e) + kComm * fcomm I q (dev e))) (kFive * len I q)

/-- The coefficient of token `t` and expert `e`. -/
def cc (t : Fin 2048) (e : Fin 160) : EReal := ∑ q, if mem I q t then cf I q e else 0

/-- The gradient. -/
def dl (t : Fin 2048) (e : Fin 160) : EReal :=
  (sg I t e * (kOne - sg I t e)) * (cc I t e - ∑ e', s I t e' * cc I t e') * inv I t

/-- The three losses of a segment. -/
def lossE (q : Fin 5) : EReal := kExpert * ∑ e, f I q e * P I q e
def lossD (q : Fin 5) : EReal := kDevice * ∑ d, fdev I q d * ∑ j, P I q (ex d j)
def lossC (q : Fin 5) : EReal := kComm * ∑ d, fcomm I q d * ∑ j, P I q (ex d j)

end Cert.Spec

end
-- ==== Proof.Words.lean ====
/- Sums of words that are numbers, and comparisons as zeros and ones. -/
module

public import Idealize.ShloMosaic.Lib.Pointwise

@[expose] public section

noncomputable section

namespace Cert.Words

open Idealize.ShloMosaic

/-- A sum of words, each the word of a number, is the word of the sum of the numbers. -/
theorem fold_addi {ι : Type} (S : Finset ι) (n : ι → ℕ) :
    Finset.fold IntOp.addi (0#32) (fun i => BitVec.ofNat 32 (n i)) S = BitVec.ofNat 32 (∑ i ∈ S, n i) := by
  classical
  induction S using Finset.induction_on with
  | empty => rfl
  | insert a S h ih =>
    rw [Finset.fold_insert h, ih, Finset.sum_insert h, BitVec.ofNat_add]
    rfl

/-- A disjunction of bits is the bit of "some". -/
theorem fold_ori {ι : Type} (S : Finset ι) (p : ι → Prop) [DecidablePred p] [Decidable (∃ i ∈ S, p i)] :
    Finset.fold IntOp.ori (0#1) (fun i => BitVec.ofBool (decide (p i))) S = BitVec.ofBool (decide (∃ i ∈ S, p i)) := by
  classical
  have key : ∀ S : Finset ι, Finset.fold IntOp.ori (0#1) (fun i => BitVec.ofBool (decide (p i))) S = if ∃ i ∈ S, p i then 1#1 else 0#1 := by
    intro S
    induction S using Finset.induction_on with
    | empty => simp
    | insert a S h ih =>
      rw [Finset.fold_insert h, ih]
      by_cases h1 : p a <;> by_cases h2 : ∃ i ∈ S, p i <;> simp [h1, h2, IntOp.ori]
  rw [key]; by_cases h : ∃ i ∈ S, p i <;> simp [h]

/-- A bit widened to a word is the word of 1 or 0. -/
theorem widen (p : Prop) [Decidable p] : BitVec.setWidth 32 (BitVec.ofBool (decide p)) = BitVec.ofNat 32 (if p then 1 else 0) := by
  by_cases h : p <;> simp [h]

theorem cmpi_eq {w : ℕ} (a b : BitVec w) : IntOp.cmpi .eq a b = BitVec.ofBool (decide (a = b)) := by
  unfold IntOp.cmpi; by_cases h : a = b
  · simp [h]
  · have : (a == b) = false := by simpa using h
    simp [h, this]

theorem cmpi_sle {w : ℕ} (a b : BitVec w) : IntOp.cmpi .sle a b = BitVec.ofBool (decide (a.sle b = true)) := by
  unfold IntOp.cmpi; cases h : a.sle b <;> simp [h]

/-- The signed value of the word of a small number is the number. -/
theorem toInt_small {n : ℕ} (h : n < 2 ^ 31) : (BitVec.ofNat 32 n).toInt = n := by
  rw [BitVec.toInt_ofNat', Int.bmod_eq_of_le] <;> omega

theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A small whole number turned into a word. -/
theorem fptosi_nat {n : ℕ} (h : n < 2 ^ 31) : Ideal.fptosi 32 ((n : ℝ) : EReal) = BitVec.ofNat 32 n := by
  have h1 : (Ideal.toIntClamped (-(2 ^ (32 - 1) : ℕ)) ((2 ^ (32 - 1) : ℕ) - 1) ((n : ℝ) : EReal)) = (n : ℤ) := by
    show max _ (min _ (if (0:ℝ) ≤ (n:ℝ) then ⌊(n:ℝ)⌋ else ⌈(n:ℝ)⌉)) = (n : ℤ)
    rw [if_pos (Nat.cast_nonneg n), Int.floor_natCast]
    omega
  unfold Ideal.fptosi
  rw [h1, BitVec.ofInt_natCast]

/-- A number as an extended real. -/
def natE (n : ℕ) : EReal := ((n : ℝ) : EReal)

theorem natE_zero : natE 0 = 0 := by simp [natE]
theorem natE_one : natE 1 = 1 := by simp [natE]
theorem natE_add (a b : ℕ) : natE (a + b) = natE a + natE b := by simp [natE]

theorem natE_sum {ι : Type} (S : Finset ι) (n : ι → ℕ) : natE (∑ i ∈ S, n i) = ∑ i ∈ S, natE (n i) := by
  classical
  induction S using Finset.induction_on with
  | empty => simp [natE_zero]
  | insert a S h ih => rw [Finset.sum_insert h, Finset.sum_insert h, natE_add, ih]

theorem natE_ite (p : Prop) [Decidable p] (a b : ℕ) : natE (if p then a else b) = if p then natE a else natE b := by split_ifs <;> rfl

/-- The larger of two indicators. -/
theorem max_flags (p q : Prop) [Decidable p] [Decidable q] :
    max (natE (if p then 1 else 0)) (natE (if q then 1 else 0)) = natE (if p ∨ q then 1 else 0) := by
  have h : (0 : EReal) ≤ 1 := zero_le_one
  by_cases hp : p <;> by_cases hq : q <;> simp [hp, hq, natE_zero, natE_one]

/-- An indicator times a number. -/
theorem ind_mul (p : Prop) [Decidable p] (m : ℕ) : natE (if p then 1 else 0) * natE m = natE (if p then m else 0) := by
  by_cases hp : p <;> simp [hp, natE_zero, natE_one]

/-- A bit turned into a float. -/
theorem sitofp_bit (p : Prop) [Decidable p] :
    FloatOps.sitofp (F := Ideal) .f32 (BitVec.setWidth 32 (BitVec.ofBool (decide p))) = natE (if p then 1 else 0) := by
  rw [widen]
  show (((BitVec.ofNat 32 (if p then 1 else 0)).toInt : ℝ) : EReal) = _
  rw [toInt_small (by split_ifs <;> omega)]; rfl

/-- A choice by a bit. -/
theorem select_bit {α : Type} (p : Prop) [Decidable p] (a b : α) : Scalar.select (BitVec.ofBool (decide p)) a b = if p then a else b := by
  by_cases h : p <;> simp [h, Scalar.select]

/-- A sum cut into runs of equal length. -/
theorem sum_runs {M : Type} [AddCommMonoid M] {a b c : ℕ} (hc : a * b = c) (F : Fin c → M) :
    ∑ t, F t = ∑ i : Fin a, ∑ j : Fin b, F ⟨i.val * b + j.val, by
      have := i.isLt; have := j.isLt; subst hc
      calc i.val * b + j.val < i.val * b + b := by omega
        _ = (i.val + 1) * b := by ring
        _ ≤ a * b := Nat.mul_le_mul_right _ (by omega)⟩ := by
  subst hc
  rw [← finProdFinEquiv.sum_comp, Fintype.sum_prod_type]
  refine Finset.sum_congr rfl fun i _ => Finset.sum_congr rfl fun j _ => congrArg F (Fin.ext ?_)
  show j.val + b * i.val = i.val * b + j.val
  ring

end Cert.Words

end
-- ==== Proof.KSpec.lean ====
/- What the kernel's arithmetic is, element by element, given what the blocks hold. -/
module

public import proofs.«01_k».proof.Proof.Content
public import proofs.«01_k».proof.Proof.Spec
public import proofs.«01_k».proof.Proof.Words

@[expose] public section

set_option maxRecDepth 16384

noncomputable section

namespace Cert.KernelIdeal.KSpec

open Cert.KernelIdeal Cert.KernelIdeal.Gen Cert.KernelIdeal.Terms Cert.KernelIdeal.Content
open Idealize.ShloMosaic Idealize.ShloMosaic.TcCoe Idealize.ShloMosaic.Pointwise
open Cert.Spec Cert.Words

/-- The word of token `l` of chunk `k` of block `g`. -/
theorem tokWord (g k l : ℕ) : IntOp.addi (Scalar.addi (Scalar.muli (BitVec.ofNat 32 g) 512#32) (BitVec.ofNat 32 (128 * k))) (BitVec.ofNat 32 l)
    = BitVec.ofNat 32 (512 * g + (128 * k + l)) := by
  show BitVec.ofNat 32 g * BitVec.ofNat 32 512 + BitVec.ofNat 32 (128 * k) + BitVec.ofNat 32 l = _
  rw [← BitVec.ofNat_mul, ← BitVec.ofNat_add, ← BitVec.ofNat_add]
  congr 1; ring

/-- Six numbers added one after the other to the word −1. -/
theorem six (b0 b1 b2 b3 b4 b5 : ℕ) : IntOp.addi (IntOp.addi (IntOp.addi (IntOp.addi (IntOp.addi (IntOp.addi 4294967295#32
    (BitVec.ofNat 32 b0)) (BitVec.ofNat 32 b1)) (BitVec.ofNat 32 b2)) (BitVec.ofNat 32 b3)) (BitVec.ofNat 32 b4)) (BitVec.ofNat 32 b5)
    = BitVec.ofNat 32 (b0 + b1 + b2 + b3 + b4 + b5) - 1#32 := by
  show (4294967295#32 + _ + _ + _ + _ + _ + _ : BitVec 32) = _
  rw [BitVec.sub_eq_add_neg, show -(1#32) = 4294967295#32 from rfl]
  simp only [BitVec.ofNat_add]
  ac_rfl

/-- A chain of choices by the value of a word picks the one whose number the word is. -/
theorem pick5 (w : BitVec 32) (c : Fin 5 → EReal) :
    Scalar.select (BitVec.ofBool (decide (w = BitVec.ofNat 32 (4 : Fin 5).val))) (c 4)
      (Scalar.select (BitVec.ofBool (decide (w = BitVec.ofNat 32 (3 : Fin 5).val))) (c 3)
      (Scalar.select (BitVec.ofBool (decide (w = BitVec.ofNat 32 (2 : Fin 5).val))) (c 2)
      (Scalar.select (BitVec.ofBool (decide (w = BitVec.ofNat 32 (1 : Fin 5).val))) (c 1)
      (Scalar.select (BitVec.ofBool (decide (w = BitVec.ofNat 32 (0 : Fin 5).val))) (c 0) 0))))
      = ∑ q : Fin 5, if w = BitVec.ofNat 32 q.val then c q else 0 := by
  have hs : ∀ (p : Prop) [Decidable p] (a b : EReal), Scalar.select (BitVec.ofBool (decide p)) a b = if p then a else b := by
    intro p _ a b; by_cases h : p <;> simp [h, Scalar.select]
  simp only [hs]
  rw [Fin.sum_univ_five]
  by_cases h0 : w = BitVec.ofNat 32 (0 : Fin 5).val
  · subst h0; simp
  by_cases h1 : w = BitVec.ofNat 32 (1 : Fin 5).val
  · subst h1; simp
  by_cases h2 : w = BitVec.ofNat 32 (2 : Fin 5).val
  · subst h2; simp
  by_cases h3 : w = BitVec.ofNat 32 (3 : Fin 5).val
  · subst h3; simp
  simp only [if_neg h0, if_neg h1, if_neg h2, if_neg h3, zero_add]

variable (I : Inputs)

/-- Token `128 k + l` of block `g`. -/
def tok (g k : Fin 4) (l : Fin 128) : Fin 2048 := ⟨512 * g.val + (128 * k.val + l.val), by omega⟩

/-- The place of token `l` of chunk `k` in its block. -/
def inBlk (k : Fin 4) (l : Fin 128) : Fin 512 := ⟨128 * k.val + l.val, by omega⟩

/-- The blocks of point `g` hold the inputs. -/
structure Blk (g : Fin 4) (x0 : Vec Ideal S6 .i32) (x1 : Vec Ideal S160x12288 .bf16) (x2 : Vec Ideal S512x12288 .fp8e4m3)
    (x3 : Vec Ideal S1x512 .f32) : Prop where
  off : ∀ i, x0 (ix1 i) = I.off i
  w : ∀ e k, x1 (ix2 e k) = I.w k e
  x : ∀ c l k, x2 (ix2 (inBlk c l) k) = I.x (tok g c l) k
  sc : ∀ c l, x3 (ix2 0 (inBlk c l)) = I.sc (tok g c l)

variable {I} {g : Fin 4} {x0 : Vec Ideal S6 .i32} {x1 : Vec Ideal S160x12288 .bf16} {x2 : Vec Ideal S512x12288 .fp8e4m3}
    {x3 : Vec Ideal S1x512 .f32} (h : Blk I g x0 x1 x2 x3)

theorem offs_apply (i : Fin 6) : offs x0 i = x0 (ix1 i) := by
  unfold offs
  show x0 _ = x0 _
  congr 1
  funext a; refine Fin.ext ?_
  fin_cases a
  rfl

theorem scaleOf_apply (k : Fin 4) (l : Fin 128) : scaleOf x3 k (ix2 0 l) = x3 (ix2 0 (inBlk k l)) := by
  unfold scaleOf
  show x3 _ = x3 _
  congr 1
  funext a; refine Fin.ext ?_
  fin_cases a
  · rfl
  · show 128 * k.val + 1 * l.val = 128 * k.val + l.val; omega

include h

theorem sigs_apply (k : Fin 4) (e : Fin 160) (l : Fin 128) : sigs x1 x2 x3 k (ix2 e l) = sg I (tok g k l) e := by
  unfold sg z
  pointwise [sigs, Terms.sig, scoreCols, scores, scaleOf_apply]
  have hx : (∑ x, x1 (ix2 e x) * x2 (ix2 (inBlk k l) x)) = ∑ x, I.x (tok g k l) x * I.w x e :=
    Finset.sum_congr rfl fun x _ => by rw [h.w, h.x, mul_comm]
  rw [h.sc, zero_sub, ← hx]
  rfl

theorem recip_apply (k : Fin 4) (l : Fin 128) : recip (sigs x1 x2 x3 k) (ix2 0 l) = Spec.inv I (tok g k l) := by
  unfold Spec.inv
  pointwise [recip, colSum, sigs_apply h]

theorem norm_apply (k : Fin 4) (e : Fin 160) (l : Fin 128) : norm (sigs x1 x2 x3 k) (ix2 e l) = s I (tok g k l) e := by
  unfold s
  pointwise [Terms.norm, recip_apply h, sigs_apply h]

theorem segs_apply (k : Fin 4) (l : Fin 128) : segs x0 (BitVec.ofNat 32 g.val) k (ix2 0 l) = seg I (tok g k l) := by
  unfold seg before
  pointwise [segs, segOf, tok128, offs_apply, h.off]
  rw [tokWord]
  simp only [cmpi_sle, widen]
  rw [Fin.sum_univ_six]
  exact six _ _ _ _ _ _

theorem inSeg_apply (q : Fin 5) (k : Fin 4) (e : Fin 160) (l : Fin 128) :
    inSeg (BitVec.ofNat 32 q.val) (segs x0 (BitVec.ofNat 32 g.val) k) (ix2 e l) = BitVec.ofBool (decide (mem I q (tok g k l))) := by
  pointwise [inSeg, segs_apply h]
  rw [cmpi_eq]; rfl

theorem accStep_apply (q : Fin 5) (k : Fin 4) (old : Vec Ideal S1x160x128 .f32) (e : Fin 160) (l : Fin 128) :
    accStep (BitVec.ofNat 32 q.val) (segs x0 (BitVec.ofNat 32 g.val) k) (norm (sigs x1 x2 x3 k)) old (ix3 0 e l)
      = old (ix3 0 e l) + if mem I q (tok g k l) then s I (tok g k l) e else 0 := by
  pointwise [accStep, inSeg_apply h, norm_apply h]

theorem accAfter_apply (old : Vec Ideal S5x160x128 .f32) (q : Fin 5) (e : Fin 160) (l : Fin 128) :
    accAfter x0 x1 x2 x3 (BitVec.ofNat 32 g.val) old (ix3 q e l)
      = old (ix3 q e l) + ∑ k : Fin 4, if mem I q (tok g k l) then s I (tok g k l) e else 0 := by
  show accVal x0 x1 x2 x3 (BitVec.ofNat 32 g.val) old q 4 (ix3 0 e l) = _
  change accStep _ _ _ (accStep _ _ _ (accStep _ _ _ (accStep _ _ _ _))) _ = _
  rw [accStep_apply h, accStep_apply h, accStep_apply h, accStep_apply h, Fin.sum_univ_four]
  rw [show View.ld old (plane q) (ix3 0 e l) = old (ix3 q e l) from ?_]
  · simp only [add_assoc]
  · pointwise

theorem grad_apply (cs : Vec Ideal S5x160x128 .f32) (hc : ∀ q e l, cs (ix3 q e l) = cf I q e) (k : Fin 4) (e : Fin 160) (l : Fin 128) :
    pick (segs x0 (BitVec.ofNat 32 g.val) k) (fun q => View.ld cs (plane q)) (ix2 e l) = cc I (tok g k l) e := by
  unfold cc
  have e4 : inSeg 4#32 (segs x0 (BitVec.ofNat 32 g.val) k) (ix2 e l)
      = BitVec.ofBool (decide (seg I (tok g k l) = BitVec.ofNat 32 (4 : Fin 5).val)) := inSeg_apply h 4 k e l
  have e3 : inSeg 3#32 (segs x0 (BitVec.ofNat 32 g.val) k) (ix2 e l)
      = BitVec.ofBool (decide (seg I (tok g k l) = BitVec.ofNat 32 (3 : Fin 5).val)) := inSeg_apply h 3 k e l
  have e2 : inSeg 2#32 (segs x0 (BitVec.ofNat 32 g.val) k) (ix2 e l)
      = BitVec.ofBool (decide (seg I (tok g k l) = BitVec.ofNat 32 (2 : Fin 5).val)) := inSeg_apply h 2 k e l
  have e1 : inSeg 1#32 (segs x0 (BitVec.ofNat 32 g.val) k) (ix2 e l)
      = BitVec.ofBool (decide (seg I (tok g k l) = BitVec.ofNat 32 (1 : Fin 5).val)) := inSeg_apply h 1 k e l
  have e0 : inSeg 0#32 (segs x0 (BitVec.ofNat 32 g.val) k) (ix2 e l)
      = BitVec.ofBool (decide (seg I (tok g k l) = BitVec.ofNat 32 (0 : Fin 5).val)) := inSeg_apply h 0 k e l
  pointwise [pick]
  rw [e4, e3, e2, e1, e0, hc, hc, hc, hc, hc]
  exact pick5 _ (fun q => cf I q e)

theorem gradVal_apply (cs : Vec Ideal S5x160x128 .f32) (hc : ∀ q e l, cs (ix3 q e l) = cf I q e) (k : Fin 4) (e : Fin 160) (l : Fin 128) :
    gradVal x0 x1 x2 x3 (BitVec.ofNat 32 g.val) cs k (ix2 e l) = dl I (tok g k l) e := by
  unfold dl
  pointwise [gradVal, grad, colSum, grad_apply h cs hc, recip_apply h, norm_apply h, sigs_apply h]

end Cert.KernelIdeal.KSpec

end
-- ==== Proof.KCount.lean ====
/- The kernel's counts and what they give: the fractions, the coefficients and the counts of the results. -/
module

public import proofs.«01_k».proof.Proof.KSpec

@[expose] public section

set_option maxRecDepth 16384

noncomputable section

namespace Cert.KernelIdeal.KSpec

open Cert.KernelIdeal Cert.KernelIdeal.Gen Cert.KernelIdeal.Terms Cert.KernelIdeal.Content
open Idealize.ShloMosaic Idealize.ShloMosaic.TcCoe Idealize.ShloMosaic.Pointwise
open Cert.Spec Cert.Words

/-- The offsets and the choices hold the inputs, the choices in range. -/
structure Ini (I : Inputs) (x0 : Vec Ideal S6 .i32) (x4 : Vec Ideal S6x2048 .i32) : Prop where
  off : ∀ i, x0 (ix1 i) = I.off i
  id : ∀ t j, x4 (ix2 j t) = I.id t j
  lt : ∀ t j, (I.id t j).toNat < 160

variable {I : Inputs} {x0 : Vec Ideal S6 .i32} {x4 : Vec Ideal S6x2048 .i32} (h : Ini I x0 x4)

/-- Token `u` of the chunk of 256 tokens number `n`. -/
def tk (n : Fin 8) (u : Fin 256) : Fin 2048 := ⟨n.val * 256 + u.val, by omega⟩

/-- Row `q` of eight. -/
def row (q : Fin 5) : Fin 8 := ⟨q.val, by omega⟩
/-- Lane `e` of 256. -/
def lan (e : Fin 160) : Fin 256 := ⟨e.val, by omega⟩

/-- The device of a number below 256, by the kernel's floor of a quotient. -/
theorem floor20_apply {S : Shape} (x : IVec S 32) (j : S.Idx) (hx : (x j).toNat < 256) : floor20 x j = BitVec.ofNat 32 ((x j).toNat / 20) := by
  pointwise [floor20]
  have key : ∀ v : Fin 256, (fun b : BitVec 32 => Scalar.select
      (IntOp.andi (IntOp.cmpi .ne (IntOp.subi (BitVec.setWidth 32 (IntOp.cmpi .sgt b 0#32)) (BitVec.setWidth 32 (IntOp.cmpi .slt b 0#32)))
          (Scalar.subi (Scalar.extui (Scalar.cmpi .sgt 20#32 0#32)) (Scalar.extui (Scalar.cmpi .slt 20#32 0#32))))
        (IntOp.cmpi .ne (IntOp.remsi .vector b 20#32) 0#32))
      (IntOp.subi (IntOp.divsi .vector b 20#32) 1#32) (IntOp.divsi .vector b 20#32)) (BitVec.ofNat 32 v.val) = BitVec.ofNat 32 (v.val / 20) := by decide +kernel
  have := key ⟨_, hx⟩
  rw [BitVec.ofNat_toNat, BitVec.setWidth_eq] at this
  exact this

/-- What a token adds to the count of a row: how often it chose the expert, or whether it chose an expert of the device. -/
def adds (I : Inputs) (t : Fin 2048) (r : Fin 256) : ℕ :=
  (∑ j, if BitVec.ofNat 32 r.val = I.id t j then 1 else 0) + if ∃ j, r.val = 160 + (I.id t j).toNat / 20 then 1 else 0

/-- The count of a segment and a row. -/
def C (I : Inputs) (q : Fin 8) (r : Fin 256) : ℕ := ∑ t, if BitVec.ofNat 32 q.val = seg I t then adds I t r else 0

include h

theorem idsOf_apply (n : Fin 8) (j : Fin 6) (u : Fin 256) : idsOf x4 n (ix2 j u) = I.id (tk n u) j := by
  rw [← h.id]
  pointwise [idsOf]
  exact congrArg x4 (congrArg (ix2 j) (Fin.ext (by show 256 * n.val + u.val = n.val * 256 + u.val; ring)))

theorem isRow_apply (x : IVec S1x256 32) (r u : Fin 256) : isRow (F := Ideal) x (ix2 r u) = natE (if BitVec.ofNat 32 r.val = x (ix2 0 u) then 1 else 0) := by
  pointwise [isRow]
  rw [cmpi_eq, sitofp_bit]

theorem hits_apply (n : Fin 8) (r u : Fin 256) : hits (F := Ideal) (idsOf x4 n) (ix2 r u) = natE (∑ j, if BitVec.ofNat 32 r.val = I.id (tk n u) j then 1 else 0) := by
  pointwise [hits, isRow_apply h, choice, idsOf_apply h]
  rw [Fin.sum_univ_six]
  simp only [natE_add]

theorem devRow_apply (n : Fin 8) (j : Fin 6) (u : Fin 256) : devRow (idsOf x4 n) j (ix2 0 u) = BitVec.ofNat 32 (160 + (I.id (tk n u) j).toNat / 20) := by
  have hc : choice (idsOf x4 n) j (ix2 0 u) = I.id (tk n u) j := by
    pointwise [choice, idsOf_apply h]
  pointwise [devRow]
  rw [floor20_apply _ _ (by rw [hc]; have := h.lt (tk n u) j; omega), hc, BitVec.ofNat_add]
  rfl

theorem devHits_apply (n : Fin 8) (r u : Fin 256) : devHits (F := Ideal) (idsOf x4 n) (ix2 r u)
    = natE (if ∃ j, r.val = 160 + (I.id (tk n u) j).toNat / 20 then 1 else 0) := by
  pointwise [devHits, isRow_apply h, devRow_apply h]
  have hz : (0 : EReal) = natE (if False then 1 else 0) := by simp [natE_zero]
  have he : ∀ j, (BitVec.ofNat 32 r.val = BitVec.ofNat 32 (160 + (I.id (tk n u) j).toNat / 20)) = (r.val = 160 + (I.id (tk n u) j).toNat / 20) :=
    fun j => propext (ofNat_inj (by omega) (by have := h.lt (tk n u) j; omega))
  simp only [he]
  rw [hz, max_flags, max_flags, max_flags, max_flags, max_flags, max_flags]
  congr 1
  refine if_congr ?_ rfl rfl
  simp [Fin.exists_fin_succ, or_assoc]

theorem seg256_apply (n : Fin 8) (u : Fin 256) : segOf (tok256 (BitVec.ofNat 32 (256 * n.val))) (offs x0) (ix2 0 u) = seg I (tk n u) := by
  unfold seg before
  pointwise [segOf, tok256, offs_apply, h.off]
  have ht : IntOp.addi (BitVec.ofNat 32 (256 * n.val)) (BitVec.ofNat 32 u.val) = BitVec.ofNat 32 (tk n u).val := by
    show BitVec.ofNat 32 (256 * n.val) + BitVec.ofNat 32 u.val = BitVec.ofNat 32 (n.val * 256 + u.val)
    rw [← BitVec.ofNat_add, Nat.mul_comm]
  rw [ht]
  simp only [cmpi_sle, widen]
  rw [Fin.sum_univ_six]
  exact six _ _ _ _ _ _

theorem addCounts_apply (n : Fin 8) (cnt : FVec Ideal S8x256 .f32) (q : Fin 8) (r : Fin 256) :
    addCounts (BitVec.ofNat 32 (256 * n.val)) (idsOf x4 n) (offs x0) cnt (ix2 q r)
      = cnt (ix2 q r) + natE (∑ u, if BitVec.ofNat 32 q.val = seg I (tk n u) then adds I (tk n u) r else 0) := by
  rw [natE_sum]
  pointwise [addCounts, oneHot, seg256_apply h, hits_apply h, devHits_apply h]
  simp only [cmpi_eq, sitofp_bit, ← natE_add, ind_mul]; rfl

theorem counts_apply (q : Fin 8) (r : Fin 256) : cntOf x0 x4 (ix2 q r) = natE (C I q r) := by
  have a := addCounts_apply h
  have e : natE (C I q r) = ∑ n : Fin 8, natE (∑ u, if BitVec.ofNat 32 q.val = seg I (tk n u) then adds I (tk n u) r else 0) := by
    rw [C, sum_runs (a := 8) (b := 256) rfl, natE_sum]; rfl
  rw [e, Fin.sum_univ_eight]
  unfold cntOf counts
  rw [show (1792#32) = BitVec.ofNat 32 (256 * (7 : Fin 8).val) from rfl, a]
  rw [show (1536#32) = BitVec.ofNat 32 (256 * (6 : Fin 8).val) from rfl, a]
  rw [show (1280#32) = BitVec.ofNat 32 (256 * (5 : Fin 8).val) from rfl, a]
  rw [show (1024#32) = BitVec.ofNat 32 (256 * (4 : Fin 8).val) from rfl, a]
  rw [show (768#32) = BitVec.ofNat 32 (256 * (3 : Fin 8).val) from rfl, a]
  rw [show (512#32) = BitVec.ofNat 32 (256 * (2 : Fin 8).val) from rfl, a]
  rw [show (256#32) = BitVec.ofNat 32 (256 * (1 : Fin 8).val) from rfl, a]
  have a0 := a 0
  rw [show BitVec.ofNat 32 (256 * (0 : Fin 8).val) = 0#32 from rfl] at a0
  rw [a0]
  pointwise
  try rw [zero_add]

end Cert.KernelIdeal.KSpec

end
-- ==== Proof.KTables.lean ====
/- What the kernel's counts give: the fractions, the coefficients and the counts of the results. -/
module

public import proofs.«01_k».proof.Proof.KCount

@[expose] public section

set_option maxRecDepth 16384

noncomputable section

namespace Cert.KernelIdeal.KSpec

open Cert.KernelIdeal Cert.KernelIdeal.Gen Cert.KernelIdeal.Terms Cert.KernelIdeal.Content
open Idealize.ShloMosaic Idealize.ShloMosaic.TcCoe Idealize.ShloMosaic.Pointwise
open Cert.Spec Cert.Words

variable {I : Inputs} {x0 : Vec Ideal S6 .i32} {x4 : Vec Ideal S6x2048 .i32} (h : Ini I x0 x4)

/-- Lane of the count of device `d`. -/
def dlan (d : Fin 8) : Fin 256 := ⟨160 + d.val, by omega⟩

/-- The row of an expert counts its choices. -/
theorem C_expert (q : Fin 5) (e : Fin 160) : C I (row q) (lan e) = N I q e := by
  unfold C N
  refine Finset.sum_congr rfl fun t _ => ?_
  refine if_congr eq_comm ?_ rfl
  unfold adds
  rw [if_neg (by rintro ⟨j, hj⟩; have : (lan e).val < 160 := e.isLt; omega), Nat.add_zero]
  exact Finset.sum_congr rfl fun j _ => if_congr eq_comm rfl rfl

include h in
/-- The row of a device counts the tokens sent to it. -/
theorem C_device (q : Fin 5) (d : Fin 8) : C I (row q) (dlan d) = D I q d := by
  unfold C D
  refine Finset.sum_congr rfl fun t _ => ?_
  refine if_congr eq_comm ?_ rfl
  unfold adds
  rw [Finset.sum_eq_zero, Nat.zero_add]
  · refine if_congr (exists_congr fun j => ?_) rfl rfl
    show 160 + d.val = 160 + _ ↔ _
    omega
  · intro j _
    refine if_neg fun hj => ?_
    have := congrArg BitVec.toNat hj
    rw [BitVec.toNat_ofNat, Nat.mod_eq_of_lt (by omega)] at this
    have h1 : (dlan d).val = 160 + d.val := rfl
    have := h.lt t j
    omega

include h

theorem lengths_apply (q : Fin 5) : lengths (F := Ideal) (offs x0) (ix2 (row q) 0) = len I q := by
  unfold len
  fin_cases q <;> pointwise [lengths, lenStep, offs_apply, h.off]
  all_goals rfl

theorem frac_apply (q : Fin 5) (e : Fin 160) : fracs x0 x4 0 (ix2 (row q) (lan e)) = f I q e := by
  unfold f
  show frac _ _ _ = _
  pointwise [frac, lane, lengths_apply h, counts_apply h, C_expert]
  have hl : (BitVec.ofNat 32 (lan e).val).slt 160#32 = true := by
    have : ∀ v : Fin 160, (BitVec.ofNat 32 v.val).slt 160#32 = true := by decide +kernel
    exact this e
  have hc : IntOp.cmpi .slt (BitVec.ofNat 32 (lan e).val) 160#32 = BitVec.ofBool (decide True) := by
    unfold IntOp.cmpi; simp [hl]
  rw [hc, select_bit, if_pos trivial]
  rfl

theorem lane_dev (q : Fin 8) (r : Fin 256) : floor20 lane (ix2 q r) = BitVec.ofNat 32 (r.val / 20) := by
  have hl : lane (ix2 q r) = BitVec.ofNat 32 r.val := by pointwise [lane]
  have hr : (lane (ix2 q r)).toNat = r.val := by rw [hl, BitVec.toNat_ofNat, Nat.mod_eq_of_lt (by omega)]
  rw [floor20_apply _ _ (by rw [hr]; exact r.isLt), hr]

theorem putDev_apply (d : Fin 8) (v : FVec Ideal S8x1 .f32) (old : FVec Ideal S8x256 .f32) (q : Fin 8) (e : Fin 160) :
    putDev (BitVec.ofNat 32 d.val) v old (ix2 q (lan e)) = if dev e = d then v (ix2 q 0) else old (ix2 q (lan e)) := by
  pointwise [putDev, lane_dev h]
  rw [cmpi_eq, select_bit]
  refine if_congr ?_ rfl rfl
  rw [ofNat_inj (by omega) (by omega)]
  exact (Fin.ext_iff (a := dev e) (b := d)).symm

/-- Eight values put at the lanes of the eight devices: each lane has that of its device. -/
theorem putAll_apply (w : Fin 8 → FVec Ideal S8x1 .f32) (old : FVec Ideal S8x256 .f32) (q : Fin 8) (e : Fin 160) :
    putDev 7#32 (w 7) (putDev 6#32 (w 6) (putDev 5#32 (w 5) (putDev 4#32 (w 4) (putDev 3#32 (w 3) (putDev 2#32 (w 2)
      (putDev 1#32 (w 1) (putDev 0#32 (w 0) old))))))) (ix2 q (lan e)) = w (dev e) (ix2 q 0) := by
  have p7 : ∀ v o, putDev 7#32 v o (ix2 q (lan e)) = if dev e = 7 then v (ix2 q 0) else o (ix2 q (lan e)) := fun v o => putDev_apply h 7 v o q e
  have p6 : ∀ v o, putDev 6#32 v o (ix2 q (lan e)) = if dev e = 6 then v (ix2 q 0) else o (ix2 q (lan e)) := fun v o => putDev_apply h 6 v o q e
  have p5 : ∀ v o, putDev 5#32 v o (ix2 q (lan e)) = if dev e = 5 then v (ix2 q 0) else o (ix2 q (lan e)) := fun v o => putDev_apply h 5 v o q e
  have p4 : ∀ v o, putDev 4#32 v o (ix2 q (lan e)) = if dev e = 4 then v (ix2 q 0) else o (ix2 q (lan e)) := fun v o => putDev_apply h 4 v o q e
  have p3 : ∀ v o, putDev 3#32 v o (ix2 q (lan e)) = if dev e = 3 then v (ix2 q 0) else o (ix2 q (lan e)) := fun v o => putDev_apply h 3 v o q e
  have p2 : ∀ v o, putDev 2#32 v o (ix2 q (lan e)) = if dev e = 2 then v (ix2 q 0) else o (ix2 q (lan e)) := fun v o => putDev_apply h 2 v o q e
  have p1 : ∀ v o, putDev 1#32 v o (ix2 q (lan e)) = if dev e = 1 then v (ix2 q 0) else o (ix2 q (lan e)) := fun v o => putDev_apply h 1 v o q e
  have p0 : ∀ v o, putDev 0#32 v o (ix2 q (lan e)) = if dev e = 0 then v (ix2 q 0) else o (ix2 q (lan e)) := fun v o => putDev_apply h 0 v o q e
  rw [p7, p6, p5, p4, p3, p2, p1, p0]
  generalize dev e = d
  fin_cases d <;> rfl

theorem devSum_apply (d : Fin 8) (v : FVec Ideal S8x256 .f32) (q : Fin 8) :
    devSum (BitVec.ofNat 32 d.val) v (ix2 q 0) = ∑ j, v (ix2 q (lan (ex d j))) := by
  pointwise [devSum, rowSum, lane_dev h]
  simp only [cmpi_eq, select_bit]
  rw [← Finset.sum_filter]
  symm
  refine Finset.sum_bij (fun j _ => lan (ex d j)) ?_ ?_ ?_ ?_
  · intro j _
    rw [Finset.mem_filter]
    refine ⟨Finset.mem_univ _, congrArg _ ?_⟩
    show (d.val * 20 + j.val) / 20 = d.val
    omega
  · intro a _ b _ hab
    have : d.val * 20 + a.val = d.val * 20 + b.val := congrArg Fin.val hab
    exact Fin.ext (by omega)
  · intro r hr
    rw [Finset.mem_filter, ofNat_inj (by omega) (by omega)] at hr
    refine ⟨⟨r.val % 20, Nat.mod_lt _ (by omega)⟩, Finset.mem_univ _, Fin.ext ?_⟩
    show d.val * 20 + r.val % 20 = r.val
    omega
  · intro j _; rfl

theorem fracDev_apply (q : Fin 5) (e : Fin 160) : fracs x0 x4 1 (ix2 (row q) (lan e)) = fdev I q (dev e) := by
  unfold fdev
  show fracDev _ _ = _
  pointwise [fracDev]
  have ha : ∀ d : Fin 8, devSum (BitVec.ofNat 32 d.val) (frac (lengths (offs x0)) (cntOf x0 x4)) (ix2 (row q) 0) = ∑ j, f I q (ex d j) := by
    intro d
    rw [devSum_apply h]
    exact Finset.sum_congr rfl fun j _ => frac_apply h q (ex d j)
  exact congrArg (· * kDevice) ((putAll_apply h (fun d => devSum (BitVec.ofNat 32 d.val) (frac (lengths (offs x0)) (cntOf x0 x4))) _ (row q) e).trans (ha _))

theorem commOf_apply (q : Fin 5) (d : Fin 8) : commOf (BitVec.ofNat 32 (160 + d.val)) (lengths (F := Ideal) (offs x0)) (cntOf x0 x4) (ix2 (row q) 0) = fcomm I q d := by
  unfold fcomm
  pointwise [commOf, rowSum, lane, lengths_apply h]
  simp only [cmpi_eq, select_bit]
  rw [Finset.sum_eq_single (dlan d)]
  · rw [if_pos (show BitVec.ofNat 32 (dlan d).val = BitVec.ofNat 32 (160 + d.val) from rfl), counts_apply h, C_device h]; rfl
  · intro b _ hb
    rw [if_neg]
    rw [ofNat_inj (by omega) (by omega)]
    exact fun hv => hb (Fin.ext hv)
  · intro hd; exact absurd (Finset.mem_univ _) hd

theorem fracComm_apply (q : Fin 5) (e : Fin 160) : fracs x0 x4 2 (ix2 (row q) (lan e)) = fcomm I q (dev e) := by
  have ha := commOf_apply h q
  exact (putAll_apply h (fun d => commOf (BitVec.ofNat 32 (160 + d.val)) (lengths (offs x0)) (cntOf x0 x4)) _ (row q) e).trans (ha _)

theorem coefs_apply (q : Fin 5) (e : Fin 160) (l : Fin 128) : coefs x0 x4 (ix3 q e l) = cf I q e := by
  unfold cf
  have h0 : frac (lengths (offs x0)) (cntOf x0 x4) (ix2 (row q) (lan e)) = f I q e := frac_apply h q e
  have h1 : fracDev (frac (lengths (offs x0)) (cntOf x0 x4)) (ix2 (row q) (lan e)) = fdev I q (dev e) := fracDev_apply h q e
  have h2 : fracComm (lengths (offs x0)) (cntOf x0 x4) (ix2 (row q) (lan e)) = fcomm I q (dev e) := fracComm_apply h q e
  show coef _ _ q (ix3 0 e l) = _
  pointwise [coef, coefCols]
  have hl : lengths (F := Ideal) (offs x0) (ix2 (row q) 0) = len I q := lengths_apply h q
  rw [← h0, ← h1, ← h2, ← hl]
  rfl

theorem expertCounts_apply (q : Fin 5) (e : Fin 160) : expertCounts (cntOf (F := Ideal) x0 x4) (ix2 q e) = BitVec.ofNat 32 (N I q e) := by
  have hc := counts_apply h (row q) (lan e)
  rw [C_expert] at hc
  pointwise [expertCounts]
  refine (congrArg (Ideal.fptosi 32) hc).trans (fptosi_nat (Nat.lt_of_le_of_lt ?_ (show 2048 * 6 < 2 ^ 31 by decide)))
  exact N_le I q e

theorem deviceCounts_apply (q : Fin 5) (d : Fin 8) : deviceCounts (cntOf (F := Ideal) x0 x4) (ix2 q d) = BitVec.ofNat 32 (D I q d) := by
  have hc := counts_apply h (row q) (dlan d)
  rw [C_device h] at hc
  pointwise [deviceCounts]
  refine (congrArg (Ideal.fptosi 32) hc).trans (fptosi_nat (Nat.lt_of_le_of_lt ?_ (show 2048 * 1 < 2 ^ 31 by decide)))
  exact D_le I q d

end Cert.KernelIdeal.KSpec

end
-- ==== Proof.SpecLaws.lean ====
/- Laws of the problem's mathematics: the scores are not negative, an empty segment has no tokens, the mean scores of a segment are
  of one sign, and so a device's fraction may be multiplied into the sum of its experts' mean scores. -/
module

public import proofs.«01_k».proof.Proof.Spec
public import proofs.«01_k».proof.Proof.Words

@[expose] public section

set_option maxRecDepth 16384

noncomputable section

namespace Cert.Spec

open Idealize.ShloMosaic Cert.Words

variable (I : Inputs)

theorem kOne_eq : kOne = 1 := Ideal.ofBits_one_f32

/-- One over a number that is not negative is not negative. -/
theorem one_div_nonneg {y : EReal} (hy : 0 ≤ y) : 0 ≤ Ideal.div kOne y := by
  rw [kOne_eq]
  unfold Ideal.div
  split_ifs with h0 h1
  · exact le_top
  · exact absurd zero_lt_one h1
  · exact mul_nonneg zero_le_one (EReal.inv_nonneg_of_nonneg hy)

theorem exp_nonneg (x : EReal) : 0 ≤ Ideal.exp x := by
  unfold Ideal.exp
  split
  · exact le_refl _
  · exact le_top
  · exact_mod_cast Real.exp_nonneg _

theorem sg_nonneg (t : Fin 2048) (e : Fin 160) : 0 ≤ sg I t e :=
  one_div_nonneg (add_nonneg (by rw [kOne_eq]; exact zero_le_one) (exp_nonneg _))

theorem s_nonneg (t : Fin 2048) (e : Fin 160) : 0 ≤ s I t e :=
  mul_nonneg (sg_nonneg I t e) (one_div_nonneg (Finset.sum_nonneg fun e _ => sg_nonneg I t e))

/-- The offsets are in order. -/
def Ordered : Prop := ∀ i : Fin 5, (I.off i.castSucc).sle (I.off i.succ) = true

theorem count_ne : ∀ b : Fin 6 → Bool, ∀ q : Fin 5, (∀ i : Fin 5, b i.succ = true → b i.castSucc = true) →
    b q.succ = b q.castSucc → (∑ i, if b i = true then 1 else 0) ≠ q.val + 1 := by decide +kernel

theorem before_le (t : Fin 2048) : before I t ≤ 6 :=
  le_trans (Finset.sum_le_sum (g := fun _ => 1) fun i _ => by split_ifs <;> omega) (by simp)

/-- A token of segment `q` has `q + 1` offsets at or before it. -/
theorem before_of_mem {q : Fin 5} {t : Fin 2048} (h : mem I q t) : before I t = q.val + 1 := by
  have hb := before_le I t
  unfold mem seg at h
  generalize before I t = n at *
  have : ∀ n : Fin 7, ∀ q : Fin 5, BitVec.ofNat 32 n.val - 1#32 = BitVec.ofNat 32 q.val → n.val = q.val + 1 := by decide +kernel
  exact this ⟨n, by omega⟩ q h

/-- A segment that ends where it begins has no tokens. -/
theorem not_mem (ho : Ordered I) {q : Fin 5} (h : I.off q.succ = I.off q.castSucc) (t : Fin 2048) : ¬ mem I q t := by
  intro hm
  refine count_ne (fun i => (I.off i).sle (BitVec.ofNat 32 t.val)) q (fun i hi => ?_) (by simp only [h]) (before_of_mem I hm)
  have h1 := ho i
  simp only [BitVec.sle_iff_toInt_le] at h1 hi ⊢
  exact le_trans h1 hi

/-- The mean scores of a segment are all not negative or all not positive. -/
theorem P_sign (ho : Ordered I) (q : Fin 5) : (∀ e, 0 ≤ P I q e) ∨ (∀ e, P I q e ≤ 0) := by
  have hn : ∀ e, 0 ≤ ∑ t, if mem I q t then s I t e else 0 := fun e =>
    Finset.sum_nonneg fun t _ => by split_ifs; exacts [s_nonneg I t e, le_refl _]
  rcases lt_trichotomy (len I q) 0 with h | h | h
  · right; intro e
    unfold P Ideal.div
    rw [if_neg h.ne]
    exact mul_nonpos_of_nonneg_of_nonpos (hn e) (EReal.inv_nonpos_of_nonpos h.le)
  · right; intro e
    have h1 : I.off q.succ = I.off q.castSucc := by
      unfold len at h
      have h2 : (I.off q.succ - I.off q.castSucc).toInt = 0 := by exact_mod_cast h
      have h3 : I.off q.succ - I.off q.castSucc = 0#32 := BitVec.eq_of_toInt_eq (by rw [h2]; rfl)
      have h4 := congrArg (· + I.off q.castSucc) h3
      simpa only [BitVec.sub_add_cancel, BitVec.zero_add] using h4
    unfold P
    rw [Finset.sum_eq_zero fun t _ => if_neg (not_mem I ho h1 t), h]
    unfold Ideal.div
    rw [if_pos rfl, if_neg (lt_irrefl _)]
    exact bot_le
  · left; intro e
    unfold P Ideal.div
    rw [if_neg h.ne']
    exact mul_nonneg (hn e) (EReal.inv_nonneg_of_nonneg h.le)

theorem mul_sum_nonneg {n : ℕ} (a : EReal) (p : Fin n → EReal) (S : Finset (Fin n)) (h : ∀ j, 0 ≤ p j) : a * ∑ j ∈ S, p j = ∑ j ∈ S, a * p j := by
  induction S using Finset.induction_on with
  | empty => simp
  | insert j S hj ih => rw [Finset.sum_insert hj, Finset.sum_insert hj, EReal.left_distrib_of_nonneg (h j) (Finset.sum_nonneg fun i _ => h i), ih]

/-- A product distributes over the sum of two numbers neither of which is positive. -/
theorem left_distrib_nonpos {a x y : EReal} (hx : x ≤ 0) (hy : y ≤ 0) : a * (x + y) = a * x + a * y := by
  have key : ∀ u v : EReal, 0 ≤ u → 0 ≤ v → a * (-u + -v) = a * -u + a * -v := by
    intro u v hu hv
    have h : -u + -v = -(u + v) := by
      rw [EReal.neg_add (.inl (ne_bot_of_le_ne_bot EReal.zero_ne_bot hu)) (.inr (ne_bot_of_le_ne_bot EReal.zero_ne_bot hv)), sub_eq_add_neg]
    rw [h, mul_neg, ← neg_mul, EReal.left_distrib_of_nonneg hu hv, neg_mul, neg_mul, mul_neg, mul_neg]
  have := key (-x) (-y) (EReal.neg_nonneg.mpr hx) (EReal.neg_nonneg.mpr hy)
  rwa [neg_neg, neg_neg] at this

theorem mul_sum_nonpos {n : ℕ} (a : EReal) (p : Fin n → EReal) (S : Finset (Fin n)) (h : ∀ j, p j ≤ 0) : a * ∑ j ∈ S, p j = ∑ j ∈ S, a * p j := by
  induction S using Finset.induction_on with
  | empty => simp
  | insert j S hj ih => rw [Finset.sum_insert hj, Finset.sum_insert hj, left_distrib_nonpos (h j) (Finset.sum_nonpos fun i _ => h i), ih]

theorem mul_sum_P (ho : Ordered I) (q : Fin 5) (a : EReal) (d : Fin 8) : a * ∑ j, P I q (ex d j) = ∑ j, a * P I q (ex d j) :=
  (P_sign I ho q).elim (fun h => mul_sum_nonneg a _ _ fun j => h _) (fun h => mul_sum_nonpos a _ _ fun j => h _)

/-- The sum over the experts of their device's number times their mean score, by devices. -/
theorem sum_dev (ho : Ordered I) (q : Fin 5) (g : Fin 8 → EReal) : ∑ e, g (dev e) * P I q e = ∑ d, g d * ∑ j, P I q (ex d j) := by
  rw [sum_runs (a := 8) (b := 20) rfl]
  refine Finset.sum_congr rfl fun d _ => ?_
  rw [mul_sum_P I ho]
  refine Finset.sum_congr rfl fun j _ => ?_
  have hd : dev (ex d j) = d := Fin.ext (show (d.val * 20 + j.val) / 20 = d.val by omega)
  show g (dev (ex d j)) * P I q (ex d j) = _
  rw [hd]

end Cert.Spec

end
-- ==== Proof.KLoss.lean ====
/- The mean scores and the losses of the kernel, element by element. -/
module

public import proofs.«01_k».proof.Proof.KTables
public import proofs.«01_k».proof.Proof.SpecLaws

@[expose] public section

set_option maxRecDepth 16384

noncomputable section

namespace Cert.KernelIdeal.KSpec

open Cert.KernelIdeal Cert.KernelIdeal.Gen Cert.KernelIdeal.Terms Cert.KernelIdeal.Content
open Idealize.ShloMosaic Idealize.ShloMosaic.TcCoe Idealize.ShloMosaic.Pointwise
open Cert.Spec Cert.Words

/-- The mean score of a segment and an expert: the sum of the lanes over the length. -/
theorem meanScore_apply (ln : FVec Ideal S8x1 .f32) (x : Fin 5 → Vec Ideal S1x160x128 .f32) (q : Fin 5) (e : Fin 160) :
    meanScore ln x (ix2 (row q) e) = Ideal.div (∑ l, x q (ix3 0 e l)) (ln (ix2 (row q) 0)) := by
  fin_cases q <;> pointwise [meanScore, laneSum, row]
  all_goals rfl

/-- A loss: the constant times the sum over the experts. -/
theorem loss_apply (α : BitVec 32) (f : Vec Ideal S1x8x256 .f32) (p : FVec Ideal S8x160 .f32) (q : Fin 5) :
    loss α f p (ix2 0 q) = Ideal.ofBits .f32 α * ∑ e, f (ix3 0 (row q) (lan e)) * p (ix2 (row q) e) := by
  pointwise [loss]
  simp only [cmpi_eq, select_bit]
  rw [Finset.sum_eq_single (row q)]
  · rw [if_pos (show BitVec.ofNat 32 (row q).val = BitVec.ofNat 32 q.val from rfl)]; rfl
  · intro b _ hb
    rw [if_neg]
    rw [ofNat_inj (by omega) (by omega)]
    exact fun hv => hb (Fin.ext hv)
  · intro hd; exact absurd (Finset.mem_univ _) hd

variable {I : Inputs} {x0 : Vec Ideal S6 .i32} {x4 : Vec Ideal S6x2048 .i32}

/-- The running sums after the last point. -/
def Sums (I : Inputs) (acc : Vec Ideal S5x160x128 .f32) : Prop :=
  ∀ q e, ∑ l, acc (ix3 q e l) = ∑ t, if mem I q t then s I t e else 0

theorem means_apply (h : Ini I x0 x4) {acc : Vec Ideal S5x160x128 .f32} (ha : Sums I acc)
    (q : Fin 5) (e : Fin 160) : means x0 acc (ix2 (row q) e) = P I q e := by
  unfold means P
  rw [meanScore_apply, lengths_apply h, ← ha]
  refine congrArg (Ideal.div · _) (Finset.sum_congr rfl fun l _ => ?_)
  pointwise [plane]

theorem meanRows_apply (h : Ini I x0 x4) {acc : Vec Ideal S5x160x128 .f32} (ha : Sums I acc)
    (q : Fin 5) (e : Fin 160) : meanRows (means x0 acc) (ix2 q e) = P I q e := by
  rw [← means_apply h ha]
  pointwise [meanRows]
  rfl

theorem lossOf_apply (h : Ini I x0 x4) {acc : Vec Ideal S5x160x128 .f32} (ha : Sums I acc) (α : BitVec 32) (i : Fin 3)
    (q : Fin 5) : lossOf α x0 (tables x0 x4) acc i (ix2 0 q) = Ideal.ofBits .f32 α * ∑ e, fracs x0 x4 i (ix2 (row q) (lan e)) * P I q e := by
  unfold lossOf
  rw [loss_apply]
  refine congrArg (Ideal.ofBits .f32 α * ·) (Finset.sum_congr rfl fun e _ => ?_)
  rw [means_apply h ha]
  refine congrArg (· * P I q e) ?_
  pointwise [table, tables]

/-- The loss over the experts. -/
theorem loss_expert (h : Ini I x0 x4) {acc : Vec Ideal S5x160x128 .f32} (ha : Sums I acc) (q : Fin 5) :
    lossOf 0x3B449BA6#32 x0 (tables x0 x4) acc 0 (ix2 0 q) = lossE I q := by
  rw [lossOf_apply h ha]
  exact congrArg (kExpert * ·) (Finset.sum_congr rfl fun e _ => by rw [frac_apply h])

/-- The loss over the devices. -/
theorem loss_device (ho : Ordered I) (h : Ini I x0 x4) {acc : Vec Ideal S5x160x128 .f32} (ha : Sums I acc) (q : Fin 5) :
    lossOf 0x3D4CCCCD#32 x0 (tables x0 x4) acc 1 (ix2 0 q) = lossD I q := by
  rw [lossOf_apply h ha]
  refine congrArg (kDevice * ·) (.trans (Finset.sum_congr rfl fun e _ => ?_) (sum_dev I ho q (fdev I q)))
  rw [fracDev_apply h]

/-- The loss over the communication. -/
theorem loss_comm (ho : Ordered I) (h : Ini I x0 x4) {acc : Vec Ideal S5x160x128 .f32} (ha : Sums I acc) (q : Fin 5) :
    lossOf 0x3CA3D70A#32 x0 (tables x0 x4) acc 2 (ix2 0 q) = lossC I q := by
  rw [lossOf_apply h ha]
  refine congrArg (kComm * ·) (.trans (Finset.sum_congr rfl fun e _ => ?_) (sum_dev I ho q (fcomm I q)))
  rw [fracComm_apply h]

end Cert.KernelIdeal.KSpec

end
-- ==== Proof.KBlocks.lean ====
/- What the kernel's blocks are of the launch's arguments, and with that what each result's array ends holding. -/
module

public import proofs.«01_k».proof.Proof.Body
public import proofs.«01_k».proof.Proof.KLoss
public import Idealize.ShloMosaic.Lib.Pipeline.Value
public import Idealize.ShloMosaic.Lib.StableHlo.Run

@[expose] public section

set_option maxRecDepth 16384

noncomputable section

namespace Cert.KernelIdeal.KBlocks

open Cert.KernelIdeal Cert.KernelIdeal.Gen Cert.KernelIdeal.Terms Cert.KernelIdeal.Content Cert.KernelIdeal.Body Cert.KernelIdeal.KSpec
open Idealize.ShloMosaic Idealize.ShloMosaic.TcCoe Idealize.ShloMosaic.Pointwise Idealize.ShloMosaic.StableHlo
open Idealize.ShloMosaic.Pipeline (Dat)
open Cert.Spec Cert.Words

variable (m : (ℓ : Loc nD τ sig) → Buf (Elt Ideal) ℓ)

/-- The five inputs a core is launched with. -/
def insK (c : Dev nD) : Inputs where
  x t k := (m ((c : Thread nD τ).loc main_arg0) : Vec Ideal S2048x12288 .fp8e4m3) (ix2 t k)
  sc t := (m ((c : Thread nD τ).loc main_arg1) : Vec Ideal S2048 .f32) (ix1 t)
  w k e := (m ((c : Thread nD τ).loc main_arg2) : Vec Ideal S12288x160 .bf16) (ix2 k e)
  id t j := (m ((c : Thread nD τ).loc main_arg3) : Vec Ideal S2048x6 .i32) (ix2 t j)
  off i := (m ((c : Thread nD τ).loc main_arg4) : Vec Ideal S6 .i32) (ix1 i)

/-! ## The arrays the region finds -/

theorem V_v0 (c : Dev nD) : V m c main_v0 = (transpose S160x12288 [1, 0] (m ((c : Thread nD τ).loc main_arg2) : Vec Ideal S12288x160 .bf16) transposes_S12288x160_S160x12288_1_0 : Vec Ideal S160x12288 .bf16) := by
  unfold V V0; simp only [hostOps0, List.flatten_cons, List.flatten_nil, List.append_nil]; after_results_simp <;> rfl
theorem V_v1 (c : Dev nD) : V m c main_v1 = (shapeCast S1x2048 (m ((c : Thread nD τ).loc main_arg1) : Vec Ideal S2048 .f32) shapeCasts_S2048_S1x2048 : Vec Ideal S1x2048 .f32) := by
  unfold V V0; simp only [hostOps0, List.flatten_cons, List.flatten_nil, List.append_nil]; after_results_simp <;> rfl
theorem V_v2 (c : Dev nD) : V m c main_v2 = (transpose S6x2048 [1, 0] (m ((c : Thread nD τ).loc main_arg3) : Vec Ideal S2048x6 .i32) transposes_S2048x6_S6x2048_1_0 : Vec Ideal S6x2048 .i32) := by
  unfold V V0; simp only [hostOps0, List.flatten_cons, List.flatten_nil, List.append_nil]; after_results_simp <;> rfl

/-! ## The blocks -/

/-- The number of a point. -/
def gOf (t : Fin cfg0.N) : Fin 4 := ⟨t.val, by have : cfg0.N = 4 := N_0; omega⟩

theorem coords_val : ∀ t : Fin cfg0.N, (grid0.coords t 0).val = (gOf t).val :=
  (by decide +kernel : ∀ t : Fin grid0.N, (grid0.coords t 0).val = t.val)

theorem index2 : ∀ t : Fin cfg0.N, win0_2.index t 0 = t.val ∧ win0_2.index t 1 = 0 := (by decide +kernel : ∀ t : Fin grid0.N, _)
theorem index3 : ∀ t : Fin cfg0.N, win0_3.index t 0 = 0 ∧ win0_3.index t 1 = t.val := (by decide +kernel : ∀ t : Fin grid0.N, _)
theorem index5 : ∀ t : Fin cfg0.N, win0_5.index t 0 = 0 ∧ win0_5.index t 1 = t.val := (by decide +kernel : ∀ t : Fin grid0.N, _)

theorem iblk0 (c : Dev nD) (t : Fin cfg0.N) (i : Fin 6) : (iblk m c 0 t : Vec Ideal S6 .i32) (ix1 i) = (insK m c).off i := by
  unfold iblk
  rw [View.read_apply]
  show V m c main_arg4 _ = _
  rw [V_main_arg4]
  refine congrArg (m ((c : Thread nD τ).loc main_arg4)) (funext fun a => Fin.ext ?_)
  match a with
  | ⟨0, _⟩ => show 0 * 6 + 1 * i.val = i.val; omega

theorem iblk1 (c : Dev nD) (t : Fin cfg0.N) (e : Fin 160) (k : Fin 12288) : (iblk m c 1 t : Vec Ideal S160x12288 .bf16) (ix2 e k) = (insK m c).w k e := by
  unfold iblk
  rw [View.read_apply]
  show V m c main_v0 _ = _
  rw [V_v0]
  refine (congrArg (transpose S160x12288 [1, 0] (m ((c : Thread nD τ).loc main_arg2) : Vec Ideal S12288x160 .bf16) transposes_S12288x160_S160x12288_1_0)
    (show _ = (ix2 e k : S160x12288.Idx) from funext fun a => Fin.ext ?_)).trans (by pointwise [insK])
  match a with
  | ⟨0, _⟩ => show 0 * 160 + 1 * e.val = e.val; omega
  | ⟨1, _⟩ => show 0 * 12288 + 1 * k.val = k.val; omega

theorem iblk2 (c : Dev nD) (t : Fin cfg0.N) (u : Fin 512) (k : Fin 12288) (p : Fin 2048) (hp : p.val = 512 * t.val + u.val) :
    (iblk m c 2 t : Vec Ideal S512x12288 .fp8e4m3) (ix2 u k) = (insK m c).x p k := by
  unfold iblk
  rw [View.read_apply]
  show V m c main_arg0 _ = _
  rw [V_main_arg0]
  refine congrArg (m ((c : Thread nD τ).loc main_arg0)) (funext fun a => Fin.ext ?_)
  match a with
  | ⟨0, _⟩ => show win0_2.index t 0 * 512 + 1 * u.val = p.val; rw [(index2 t).1]; omega
  | ⟨1, _⟩ => show win0_2.index t 1 * 12288 + 1 * k.val = k.val; rw [(index2 t).2]; omega

theorem iblk3 (c : Dev nD) (t : Fin cfg0.N) (u : Fin 512) (p : Fin 2048) (hp : p.val = 512 * t.val + u.val) :
    (iblk m c 3 t : Vec Ideal S1x512 .f32) (ix2 0 u) = (insK m c).sc p := by
  unfold iblk
  rw [View.read_apply]
  show V m c main_v1 _ = _
  rw [V_v1]
  refine (congrArg (shapeCast S1x2048 (m ((c : Thread nD τ).loc main_arg1) : Vec Ideal S2048 .f32) shapeCasts_S2048_S1x2048)
    (show _ = (ix2 0 p : S1x2048.Idx) from funext fun a => Fin.ext ?_)).trans (by pointwise [insK])
  match a with
  | ⟨0, _⟩ => show win0_3.index t 0 * 1 + 1 * 0 = 0; rw [(index3 t).1]
  | ⟨1, _⟩ => show win0_3.index t 1 * 512 + 1 * u.val = p.val; rw [(index3 t).2]; omega

theorem iblk4 (c : Dev nD) (t : Fin cfg0.N) (j : Fin 6) (p : Fin 2048) : (iblk m c 4 t : Vec Ideal S6x2048 .i32) (ix2 j p) = (insK m c).id p j := by
  unfold iblk
  rw [View.read_apply]
  show V m c main_v2 _ = _
  rw [V_v2]
  refine (congrArg (transpose S6x2048 [1, 0] (m ((c : Thread nD τ).loc main_arg3) : Vec Ideal S2048x6 .i32) transposes_S2048x6_S6x2048_1_0)
    (show _ = (ix2 j p : S6x2048.Idx) from funext fun a => Fin.ext ?_)).trans (by pointwise [insK])
  match a with
  | ⟨0, _⟩ => show 0 * 6 + 1 * j.val = j.val; omega
  | ⟨1, _⟩ => show 0 * 2048 + 1 * p.val = p.val; omega

/-- The blocks of a point are the parts of the inputs it works on. -/
theorem blk (c : Dev nD) (t : Fin cfg0.N) : Blk (insK m c) (gOf t) (iblk m c 0 t) (iblk m c 1 t) (iblk m c 2 t) (iblk m c 3 t) where
  off := iblk0 m c t
  w := iblk1 m c t
  x k l u := iblk2 m c t _ _ _ rfl
  sc k l := iblk3 m c t _ _ rfl

/-- What the first point reads the tables off. -/
theorem ini (c : Dev nD) (hid : ∀ t j, ((insK m c).id t j).toNat < 160) (t : Fin cfg0.N) : Ini (insK m c) (iblk m c 0 t) (iblk m c 4 t) where
  off := iblk0 m c t
  id := by intros; exact iblk4 m c t _ _
  lt := hid

/-- After the last point the running sums add up, lane by lane, to the sums over the tokens. -/
theorem sums (c : Dev nD) : Sums (insK m c) (accAt m c (t0_3.val + 1)) := by
  intro q e
  have step : ∀ (t : Fin cfg0.N) (l : Fin 128), accAt m c (t.val + 1) (ix3 q e l)
      = accAt m c t.val (ix3 q e l) + ∑ k : Fin 4, if mem (insK m c) q (tok (gOf t) k l) then s (insK m c) (tok (gOf t) k l) e else 0 := by
    intro t l
    rw [accAt_succ, coords_val]
    exact accAfter_apply (blk m c t) _ q e l
  have h : ∀ l : Fin 128, accAt m c (t0_3.val + 1) (ix3 q e l)
      = ∑ g : Fin 4, ∑ k : Fin 4, if mem (insK m c) q (tok g k l) then s (insK m c) (tok g k l) e else 0 := by
    intro l
    have h3 := step t0_3 l
    have h2 : accAt m c t0_3.val (ix3 q e l) = _ := step t0_2 l
    have h1 : accAt m c t0_2.val (ix3 q e l) = _ := step t0_1 l
    have h0 : accAt m c t0_1.val (ix3 q e l) = _ := step t0_0 l
    have hz : accAt m c t0_0.val (ix3 q e l) = 0 := by
      show Ideal.ofBits .f32 0x00000000#32 = 0
      pointwise
    rw [h3, h2, h1, h0, hz, zero_add]
    exact (Fin.sum_univ_four fun g : Fin 4 => ∑ k : Fin 4, if mem (insK m c) q (tok g k l) then s (insK m c) (tok g k l) e else 0).symm
  rw [Finset.sum_congr rfl fun l _ => h l, sum_runs (a := 4) (b := 512) rfl, Finset.sum_comm]
  refine Finset.sum_congr rfl fun g _ => ?_
  rw [sum_runs (a := 4) (b := 128) rfl, Finset.sum_comm]
  refine Finset.sum_congr rfl fun k _ => Finset.sum_congr rfl fun l _ => ?_
  have ht : (⟨g.val * 512 + (k.val * 128 + l.val), by omega⟩ : Fin 2048) = tok g k l := Fin.ext (by show g.val * 512 + (k.val * 128 + l.val) = 512 * g.val + (128 * k.val + l.val); omega)
  show _ = if mem (insK m c) q ⟨g.val * 512 + (k.val * 128 + l.val), _⟩ then s (insK m c) ⟨g.val * 512 + (k.val * 128 + l.val), _⟩ e else 0
  rw [ht]

end Cert.KernelIdeal.KBlocks

end
-- ==== Proof.KFinal.lean ====
/- What each result's array holds when the kernel has run, and each result when the launch has ended. -/
module

public import proofs.«01_k».proof.Proof.KBlocks

@[expose] public section

set_option maxRecDepth 16384

noncomputable section

namespace Cert.KernelIdeal.KFinal

open Cert.KernelIdeal Cert.KernelIdeal.Gen Cert.KernelIdeal.Terms Cert.KernelIdeal.Content Cert.KernelIdeal.Body Cert.KernelIdeal.KSpec Cert.KernelIdeal.KBlocks
open Idealize.ShloMosaic Idealize.ShloMosaic.TcCoe Idealize.ShloMosaic.Pointwise Idealize.ShloMosaic.StableHlo
open Idealize.ShloMosaic.Pipeline (Dat)
open Cert.Spec Cert.Words

variable (m : (ℓ : Loc nD τ sig) → Buf (Elt Ideal) ℓ)

/-- The last point is the one whose number leaves three on division by four. -/
theorem eq_last (t : Fin cfg0.N) (h : t.val % 4 = 3) : t = t0_3 := by
  have hN : cfg0.N = 4 := N_0
  exact Fin.ext (by show t.val = 3; omega)

/-- The gradient's result as the kernel leaves it: experts by tokens. -/
def res5 (c : Dev nD) : Vec Ideal S160x2048 .f32 := fun j => dl (insK m c) (j 1) (j 0)
/-- The experts' losses. -/
def res6 (c : Dev nD) : Vec Ideal S1x5 .f32 := fun j => lossE (insK m c) (j 1)
/-- The devices' losses. -/
def res7 (c : Dev nD) : Vec Ideal S1x5 .f32 := fun j => lossD (insK m c) (j 1)
/-- The communication losses. -/
def res8 (c : Dev nD) : Vec Ideal S1x5 .f32 := fun j => lossC (insK m c) (j 1)
/-- The mean normalised scores. -/
def res9 (c : Dev nD) : Vec Ideal S5x160 .f32 := fun j => P (insK m c) (j 0) (j 1)
/-- The counts of choices, by expert. -/
def res10 (c : Dev nD) : Vec Ideal S5x160 .i32 := fun j => BitVec.ofNat 32 (N (insK m c) (j 0) (j 1))
/-- The counts of tokens sent, by device. -/
def res11 (c : Dev nD) : Vec Ideal S5x8 .i32 := fun j => BitVec.ofNat 32 (D (insK m c) (j 0) (j 1))

/-- The gradients of a block are those of its tokens. -/
theorem grad_eq (c : Dev nD) (hid : ∀ t j, ((insK m c).id t j).toNat < 160) (t : Fin cfg0.N) (j : S160x512.Idx) (p : Fin 2048)
    (hp : p.val = 512 * t.val + (j 1).val) : gradAt m c t j = dl (insK m c) p (j 0) := by
  unfold gradAt
  rw [coords_val]
  refine (gradVal_apply (blk m c t) _ (fun q e l => coefs_apply (ini m c hid t0_0) q e l) _ _ _).trans
    (congrArg (fun u => dl (insK m c) u (j 0)) (Fin.ext ?_))
  show 512 * t.val + (128 * ((j 1).val / 128) + (j 1).val % 128) = p.val
  rw [hp]; omega

/-- A block's first row or lane is the last point's, the argument being one block. -/
theorem off_last (c : Dev nD) (hid : ∀ t j, ((insK m c).id t j).toNat < 160) : Ini (insK m c) (iblk m c 0 t0_3) (x4At m c) where
  off := iblk0 m c t0_3
  id := (ini m c hid t0_0).id
  lt := hid

theorem x0_last (c : Dev nD) : x0At m c = iblk m c 0 t0_3 := by
  funext j
  rw [eq_ix1 j]
  exact (iblk0 m c t0_0 _).trans (iblk0 m c t0_3 _).symm

theorem loss6 (c : Dev nD) (hid : ∀ t j, ((insK m c).id t j).toNat < 160) : lossAt m 0x3B449BA6 0 c t0_3 = res6 m c := by
  funext j
  rw [eq_ix2 j]
  unfold lossAt
  rw [x0_last]
  rw [show j 0 = (0 : Fin 1) from Subsingleton.elim (α := Fin 1) _ _]
  exact loss_expert (off_last m c hid) (sums m c) (j 1)

theorem loss7 (c : Dev nD) (ho : Ordered (insK m c)) (hid : ∀ t j, ((insK m c).id t j).toNat < 160) : lossAt m 0x3D4CCCCD 1 c t0_3 = res7 m c := by
  funext j
  rw [eq_ix2 j]
  unfold lossAt
  rw [x0_last]
  rw [show j 0 = (0 : Fin 1) from Subsingleton.elim (α := Fin 1) _ _]
  exact loss_device ho (off_last m c hid) (sums m c) (j 1)

theorem loss8 (c : Dev nD) (ho : Ordered (insK m c)) (hid : ∀ t j, ((insK m c).id t j).toNat < 160) : lossAt m 0x3CA3D70A 2 c t0_3 = res8 m c := by
  funext j
  rw [eq_ix2 j]
  unfold lossAt
  rw [x0_last]
  rw [show j 0 = (0 : Fin 1) from Subsingleton.elim (α := Fin 1) _ _]
  exact loss_comm ho (off_last m c hid) (sums m c) (j 1)

theorem mean9 (c : Dev nD) (hid : ∀ t j, ((insK m c).id t j).toNat < 160) : meanAt m c t0_3 = res9 m c := by
  funext j
  rw [eq_ix2 j]
  exact meanRows_apply (off_last m c hid) (sums m c) (j 0) (j 1)

theorem cnt10 (c : Dev nD) (hid : ∀ t j, ((insK m c).id t j).toNat < 160) : cntAt m c = res10 m c := by
  funext j
  rw [eq_ix2 j]
  exact expertCounts_apply (ini m c hid t0_0) (j 0) (j 1)

theorem dev11 (c : Dev nD) (hid : ∀ t j, ((insK m c).id t j).toNat < 160) : devAt m c = res11 m c := by
  funext j
  rw [eq_ix2 j]
  exact deviceCounts_apply (ini m c hid t0_0) (j 0) (j 1)

/-! ## The arrays when the kernel has run -/

theorem arr5 (c : Dev nD) (hid : ∀ t j, ((insK m c).id t j).toNat < 160) : (dats m 0 c).arrAt 5 cfg0.N = res5 m c := by
  refine (dats m 0 c).arrAt_eq_of_cover 5 (res5 m c) (fun t _ => ?_) fun i => ?_
  · show (cfg0.win 5).cut (grid0.coords t) ((dats m 0 c).after 5 t) = _
    rw [after0_5]
    funext j
    rw [View.read_apply]
    refine (grad_eq m c hid t j ⟨512 * t.val + (j 1).val, ?_⟩ rfl).trans ?_
    · have h1 : ((j 1 : Fin _) : Nat) < 512 := (j 1).isLt
      have ht : t.val < 4 := Nat.lt_of_lt_of_eq t.isLt N_0
      omega
    · refine congrArg₂ (fun u e => dl (insK m c) u e) (Fin.ext ?_) (Fin.ext ?_)
      · show 512 * t.val + (j 1).val = win0_5.index t 1 * 512 + 1 * (j 1).val
        rw [(index5 t).2]; omega
      · show (j 0).val = win0_5.index t 0 * 160 + 1 * (j 0).val
        rw [(index5 t).1]; omega
  · have h0 : ((i 0 : Fin _) : Nat) < 160 := (i 0).isLt
    have h1 : ((i 1 : Fin _) : Nat) < 2048 := (i 1).isLt
    have hN : cfg0.N = 4 := N_0
    refine ⟨⟨(i 1 : Nat) / 512, by omega⟩, flush0_5 _, ?_⟩
    generalize ht : (⟨(i 1 : Nat) / 512, _⟩ : Fin cfg0.N) = t
    have htv : t.val = (i 1 : Nat) / 512 := by rw [← ht]
    show i ∈ ((View.whole main_v3_0).slice (win0_5.rect t)).set
    rw [View.set_slice_whole, Rect.mem_set_unit]
    intro a
    match a with
    | ⟨0, _⟩ =>
      show win0_5.index t 0 * 160 ≤ (i 0 : Nat) ∧ (i 0 : Nat) < win0_5.index t 0 * 160 + 160
      rw [(index5 t).1]; omega
    | ⟨1, _⟩ =>
      show win0_5.index t 1 * 512 ≤ (i 1 : Nat) ∧ (i 1 : Nat) < win0_5.index t 1 * 512 + 512
      rw [(index5 t).2, htv]; omega

theorem arr6 (c : Dev nD) (hid : ∀ t j, ((insK m c).id t j).toNat < 160) : (dats m 0 c).arrAt 6 cfg0.N = res6 m c := by
  have hz : (fun a => win0_6.index t0_3 a * main_v3_1.ty.shape.size a) = fun _ => 0 := funext fun a => by fin_cases a <;> rfl
  refine (dats m 0 c).arrAt_eq_of_cover 6 (res6 m c) (fun t hf => ?_) fun i => ⟨t0_3, (flush0_6 t0_3).mpr rfl, ?_⟩
  · obtain rfl := eq_last t ((flush0_6 t).mp hf)
    show (cfg0.win 6).cut (grid0.coords t0_3) ((dats m 0 c).after 6 t0_3) = _
    rw [after0_6, loss6 m c hid]
    exact (Memref.read_access_unit_zero (Elt Ideal) main_v3_1 hz (fun a => by rw [congrFun hz a]; simp) (res6 m c)).symm
  · show i ∈ ((View.whole main_v3_1).slice (win0_6.rect t0_3)).set
    rw [View.set_slice_whole]
    exact View.mem_set_unit_zero hz _ i

theorem arr7 (c : Dev nD) (ho : Ordered (insK m c)) (hid : ∀ t j, ((insK m c).id t j).toNat < 160) : (dats m 0 c).arrAt 7 cfg0.N = res7 m c := by
  have hz : (fun a => win0_7.index t0_3 a * main_v3_2.ty.shape.size a) = fun _ => 0 := funext fun a => by fin_cases a <;> rfl
  refine (dats m 0 c).arrAt_eq_of_cover 7 (res7 m c) (fun t hf => ?_) fun i => ⟨t0_3, (flush0_7 t0_3).mpr rfl, ?_⟩
  · obtain rfl := eq_last t ((flush0_7 t).mp hf)
    show (cfg0.win 7).cut (grid0.coords t0_3) ((dats m 0 c).after 7 t0_3) = _
    rw [after0_7, loss7 m c ho hid]
    exact (Memref.read_access_unit_zero (Elt Ideal) main_v3_2 hz (fun a => by rw [congrFun hz a]; simp) (res7 m c)).symm
  · show i ∈ ((View.whole main_v3_2).slice (win0_7.rect t0_3)).set
    rw [View.set_slice_whole]
    exact View.mem_set_unit_zero hz _ i

theorem arr8 (c : Dev nD) (ho : Ordered (insK m c)) (hid : ∀ t j, ((insK m c).id t j).toNat < 160) : (dats m 0 c).arrAt 8 cfg0.N = res8 m c := by
  have hz : (fun a => win0_8.index t0_3 a * main_v3_3.ty.shape.size a) = fun _ => 0 := funext fun a => by fin_cases a <;> rfl
  refine (dats m 0 c).arrAt_eq_of_cover 8 (res8 m c) (fun t hf => ?_) fun i => ⟨t0_3, (flush0_8 t0_3).mpr rfl, ?_⟩
  · obtain rfl := eq_last t ((flush0_8 t).mp hf)
    show (cfg0.win 8).cut (grid0.coords t0_3) ((dats m 0 c).after 8 t0_3) = _
    rw [after0_8, loss8 m c ho hid]
    exact (Memref.read_access_unit_zero (Elt Ideal) main_v3_3 hz (fun a => by rw [congrFun hz a]; simp) (res8 m c)).symm
  · show i ∈ ((View.whole main_v3_3).slice (win0_8.rect t0_3)).set
    rw [View.set_slice_whole]
    exact View.mem_set_unit_zero hz _ i

theorem arr9 (c : Dev nD) (hid : ∀ t j, ((insK m c).id t j).toNat < 160) : (dats m 0 c).arrAt 9 cfg0.N = res9 m c := by
  have hz : (fun a => win0_9.index t0_3 a * main_v3_4.ty.shape.size a) = fun _ => 0 := funext fun a => by fin_cases a <;> rfl
  refine (dats m 0 c).arrAt_eq_of_cover 9 (res9 m c) (fun t hf => ?_) fun i => ⟨t0_3, (flush0_9 t0_3).mpr rfl, ?_⟩
  · obtain rfl := eq_last t ((flush0_9 t).mp hf)
    show (cfg0.win 9).cut (grid0.coords t0_3) ((dats m 0 c).after 9 t0_3) = _
    rw [after0_9, mean9 m c hid]
    exact (Memref.read_access_unit_zero (Elt Ideal) main_v3_4 hz (fun a => by rw [congrFun hz a]; simp) (res9 m c)).symm
  · show i ∈ ((View.whole main_v3_4).slice (win0_9.rect t0_3)).set
    rw [View.set_slice_whole]
    exact View.mem_set_unit_zero hz _ i

theorem arr10 (c : Dev nD) (hid : ∀ t j, ((insK m c).id t j).toNat < 160) : (dats m 0 c).arrAt 10 cfg0.N = res10 m c := by
  have hz : (fun a => win0_10.index t0_3 a * main_v3_5.ty.shape.size a) = fun _ => 0 := funext fun a => by fin_cases a <;> rfl
  refine (dats m 0 c).arrAt_eq_of_cover 10 (res10 m c) (fun t hf => ?_) fun i => ⟨t0_3, (flush0_10 t0_3).mpr rfl, ?_⟩
  · obtain rfl := eq_last t ((flush0_10 t).mp hf)
    show (cfg0.win 10).cut (grid0.coords t0_3) ((dats m 0 c).after 10 t0_3) = _
    rw [after0_10, cnt10 m c hid]
    exact (Memref.read_access_unit_zero (Elt Ideal) main_v3_5 hz (fun a => by rw [congrFun hz a]; simp) (res10 m c)).symm
  · show i ∈ ((View.whole main_v3_5).slice (win0_10.rect t0_3)).set
    rw [View.set_slice_whole]
    exact View.mem_set_unit_zero hz _ i

theorem arr11 (c : Dev nD) (hid : ∀ t j, ((insK m c).id t j).toNat < 160) : (dats m 0 c).arrAt 11 cfg0.N = res11 m c := by
  have hz : (fun a => win0_11.index t0_3 a * main_v3_6.ty.shape.size a) = fun _ => 0 := funext fun a => by fin_cases a <;> rfl
  refine (dats m 0 c).arrAt_eq_of_cover 11 (res11 m c) (fun t hf => ?_) fun i => ⟨t0_3, (flush0_11 t0_3).mpr rfl, ?_⟩
  · obtain rfl := eq_last t ((flush0_11 t).mp hf)
    show (cfg0.win 11).cut (grid0.coords t0_3) ((dats m 0 c).after 11 t0_3) = _
    rw [after0_11, dev11 m c hid]
    exact (Memref.read_access_unit_zero (Elt Ideal) main_v3_6 hz (fun a => by rw [congrFun hz a]; simp) (res11 m c)).symm
  · show i ∈ ((View.whole main_v3_6).slice (win0_11.rect t0_3)).set
    rw [View.set_slice_whole]
    exact View.mem_set_unit_zero hz _ i

/-! ## The results when the launch has ended -/

/-- The arrays the region ends with, at the reference of one of them. -/
theorem arrs_apply (c : Dev nD) (w : Fin 12) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr spec0 (show Function.Injective (Pipeline.arrRef spec0) from fun w w' h => (by decide : ∀ w w', Pipeline.arrRef spec0 w = Pipeline.arrRef spec0 w' → w = w') w w' h) c (V0 m c) _ w

/-- The gradient's result: tokens by experts. -/
theorem tail_v4 (c : Dev nD) (hid : ∀ t j, ((insK m c).id t j).toNat < 160) :
    Pipeline.afterTail₀ cfgs (dats m) 0 (V0 m) [hostOps1] c main_v4 = (fun j => dl (insK m c) (j 0) (j 1) : Vec Ideal S2048x160 .f32) := by
  have h : ∀ W : Valuation τ sig (Elt Ideal), after hostOps1 W (Proc.devRef .tc main_v4)
      = (transpose S2048x160 [1, 0] (W (Proc.devRef .tc main_v3_0) : Vec Ideal S160x2048 .f32) transposes_S160x2048_S2048x160_1_0 : Vec Ideal S2048x160 .f32) := by
    intro W; simp only [hostOps1]; after_results_simp <;> rfl
  unfold Pipeline.afterTail₀
  rw [List.flatten_cons, List.flatten_nil, List.append_nil, h]
  funext j
  rw [eq_ix2 j]
  refine (congrFun (congrArg (fun x : Vec Ideal S160x2048 .f32 => transpose S2048x160 [1, 0] x transposes_S160x2048_S2048x160_1_0)
    ((arrs_apply m c 5).trans (arr5 m c hid))) _).trans ?_
  pointwise [res5]

theorem tail_v5 (c : Dev nD) (hid : ∀ t j, ((insK m c).id t j).toNat < 160) :
    Pipeline.afterTail₀ cfgs (dats m) 0 (V0 m) [hostOps1] c main_v5 = (fun j => lossE (insK m c) (j 0) : Vec Ideal S5 .f32) := by
  have h : ∀ W : Valuation τ sig (Elt Ideal), after hostOps1 W (Proc.devRef .tc main_v5)
      = (shapeCast S5 (W (Proc.devRef .tc main_v3_1) : Vec Ideal S1x5 .f32) shapeCasts_S1x5_S5 : Vec Ideal S5 .f32) := by
    intro W; simp only [hostOps1]; after_results_simp <;> rfl
  unfold Pipeline.afterTail₀
  rw [List.flatten_cons, List.flatten_nil, List.append_nil, h]
  funext j
  rw [eq_ix1 j]
  refine (congrFun (congrArg (fun x : Vec Ideal S1x5 .f32 => shapeCast S5 x shapeCasts_S1x5_S5)
    ((arrs_apply m c 6).trans (arr6 m c hid))) _).trans ?_
  pointwise [res6]

theorem tail_v6 (c : Dev nD) (ho : Ordered (insK m c)) (hid : ∀ t j, ((insK m c).id t j).toNat < 160) :
    Pipeline.afterTail₀ cfgs (dats m) 0 (V0 m) [hostOps1] c main_v6 = (fun j => lossD (insK m c) (j 0) : Vec Ideal S5 .f32) := by
  have h : ∀ W : Valuation τ sig (Elt Ideal), after hostOps1 W (Proc.devRef .tc main_v6)
      = (shapeCast S5 (W (Proc.devRef .tc main_v3_2) : Vec Ideal S1x5 .f32) shapeCasts_S1x5_S5 : Vec Ideal S5 .f32) := by
    intro W; simp only [hostOps1]; after_results_simp <;> rfl
  unfold Pipeline.afterTail₀
  rw [List.flatten_cons, List.flatten_nil, List.append_nil, h]
  funext j
  rw [eq_ix1 j]
  refine (congrFun (congrArg (fun x : Vec Ideal S1x5 .f32 => shapeCast S5 x shapeCasts_S1x5_S5)
    ((arrs_apply m c 7).trans (arr7 m c ho hid))) _).trans ?_
  pointwise [res7]

theorem tail_v7 (c : Dev nD) (ho : Ordered (insK m c)) (hid : ∀ t j, ((insK m c).id t j).toNat < 160) :
    Pipeline.afterTail₀ cfgs (dats m) 0 (V0 m) [hostOps1] c main_v7 = (fun j => lossC (insK m c) (j 0) : Vec Ideal S5 .f32) := by
  have h : ∀ W : Valuation τ sig (Elt Ideal), after hostOps1 W (Proc.devRef .tc main_v7)
      = (shapeCast S5 (W (Proc.devRef .tc main_v3_3) : Vec Ideal S1x5 .f32) shapeCasts_S1x5_S5 : Vec Ideal S5 .f32) := by
    intro W; simp only [hostOps1]; after_results_simp <;> rfl
  unfold Pipeline.afterTail₀
  rw [List.flatten_cons, List.flatten_nil, List.append_nil, h]
  funext j
  rw [eq_ix1 j]
  refine (congrFun (congrArg (fun x : Vec Ideal S1x5 .f32 => shapeCast S5 x shapeCasts_S1x5_S5)
    ((arrs_apply m c 8).trans (arr8 m c ho hid))) _).trans ?_
  pointwise [res8]

/-- The kernel's seven results, each the mathematics' of the inputs, and the arguments unchanged. -/
theorem run (ρ : Dev nD → PrngReg) (ho : ∀ c, Ordered (insK m c)) (hid : ∀ c t j, ((insK m c).id t j).toNat < 160) :
    θ_run defs (onTc (τ := τ) (main (F := Ideal))) ⟨m, fun _ => 0, ρ⟩ (fun r => ∀ c : Dev nD,
      r.2.mem ((c.tc : Thread nD τ).loc main_v4) = (fun j => dl (insK m c) (j 0) (j 1) : Vec Ideal S2048x160 .f32)
      ∧ r.2.mem ((c.tc : Thread nD τ).loc main_v5) = (fun j => lossE (insK m c) (j 0) : Vec Ideal S5 .f32)
      ∧ r.2.mem ((c.tc : Thread nD τ).loc main_v6) = (fun j => lossD (insK m c) (j 0) : Vec Ideal S5 .f32)
      ∧ r.2.mem ((c.tc : Thread nD τ).loc main_v7) = (fun j => lossC (insK m c) (j 0) : Vec Ideal S5 .f32)
      ∧ r.2.mem ((c.tc : Thread nD τ).loc main_v3_4) = res9 m c
      ∧ r.2.mem ((c.tc : Thread nD τ).loc main_v3_5) = res10 m c
      ∧ r.2.mem ((c.tc : Thread nD τ).loc main_v3_6) = res11 m c) :=
  (θ_run defs _ _).mono (fun _ h c => ⟨
    ((h.1 c).2 main_v4 (Pipeline.mem_restRefs_of main_v4 (by decide) (by decide))).trans (tail_v4 m c (hid c)),
    ((h.1 c).2 main_v5 (Pipeline.mem_restRefs_of main_v5 (by decide) (by decide))).trans (tail_v5 m c (hid c)),
    ((h.1 c).2 main_v6 (Pipeline.mem_restRefs_of main_v6 (by decide) (by decide))).trans (tail_v6 m c (ho c) (hid c)),
    ((h.1 c).2 main_v7 (Pipeline.mem_restRefs_of main_v7 (by decide) (by decide))).trans (tail_v7 m c (ho c) (hid c)),
    ((h.1 c).1 9).trans (arr9 m c (hid c)), ((h.1 c).1 10).trans (arr10 m c (hid c)), ((h.1 c).1 11).trans (arr11 m c (hid c))⟩)
    (run_main_quiescent m ρ)

end Cert.KernelIdeal.KFinal

end
-- ==== Proof.RefStages.lean ====
/- The reference's stages, one for each of its operations, as functions of the arguments they depend on: `val_b` is what the
   operation that writes the buffer `b` computes, the codes being given in the wide format. -/
module

public import proofs.«01_k».proof.Proof.Gen.ReferenceIdeal.Frame

@[expose] public section

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

def val_main_v1 (x0 : Vec F S2048x12288 .bf16) (x2 : Vec F S12288x160 .bf16) : Vec F S2048x160 .f32 := Host.dotGeneral dot_S2048x12288_S12288x160_S2048x160_1_0_0_1_n_n none (x0) (x2)
def val_main_v2 (x1 : Vec F S2048 .f32) : Vec F S2048x1 .f32 := broadcastInDim S2048x1 ![0] bcast_S2048_S2048x1_0 (x1)
def val_main_v3 (x1 : Vec F S2048 .f32) : Vec F S2048x160 .f32 := broadcastInDim S2048x160 ![0, 1] bcast_S2048x1_S2048x160_0_1 (val_main_v2 (F := F) x1)
def val_main_v4 (x0 : Vec F S2048x12288 .bf16) (x1 : Vec F S2048 .f32) (x2 : Vec F S12288x160 .bf16) : Vec F S2048x160 .f32 := mulf (val_main_v1 (F := F) x0 x2) (val_main_v3 (F := F) x1)
def val_main_v5 (x0 : Vec F S2048x12288 .bf16) (x1 : Vec F S2048 .f32) (x2 : Vec F S12288x160 .bf16) : Vec F S2048x160 .f32 := Host.negf (val_main_v4 (F := F) x0 x1 x2)
def val_main_v6 (x0 : Vec F S2048x12288 .bf16) (x1 : Vec F S2048 .f32) (x2 : Vec F S12288x160 .bf16) : Vec F S2048x160 .f32 := Host.exp (val_main_v5 (F := F) x0 x1 x2)
def val_main_cst : Vec F S_ .f32 := constant S_ .f32 0x3F800000#32
def val_main_v7 : Vec F S2048x160 .f32 := broadcastInDim S2048x160 ![] bcast_S_S2048x160 (val_main_cst (F := F))
def val_main_v8 (x0 : Vec F S2048x12288 .bf16) (x1 : Vec F S2048 .f32) (x2 : Vec F S12288x160 .bf16) : Vec F S2048x160 .f32 := addf (val_main_v7 (F := F)) (val_main_v6 (F := F) x0 x1 x2)
def val_main_cst_0 : Vec F S_ .f32 := constant S_ .f32 0x3F800000#32
def val_main_v9 : Vec F S2048x160 .f32 := broadcastInDim S2048x160 ![] bcast_S_S2048x160 (val_main_cst_0 (F := F))
def val_main_v10 (x0 : Vec F S2048x12288 .bf16) (x1 : Vec F S2048 .f32) (x2 : Vec F S12288x160 .bf16) : Vec F S2048x160 .f32 := Host.divf (val_main_v9 (F := F)) (val_main_v8 (F := F) x0 x1 x2)
def val_main_cst_1 : Vec F S_ .f32 := constant S_ .f32 0x00000000#32
def val_main_v11 (x0 : Vec F S2048x12288 .bf16) (x1 : Vec F S2048 .f32) (x2 : Vec F S12288x160 .bf16) : Vec F S2048 .f32 := Host.reduceAdd (val_main_v10 (F := F) x0 x1 x2) (val_main_cst_1 (F := F)) reducesTo_S2048x160_S2048_d1 h_S_
def val_main_v12 (x0 : Vec F S2048x12288 .bf16) (x1 : Vec F S2048 .f32) (x2 : Vec F S12288x160 .bf16) : Vec F S2048x1 .f32 := broadcastInDim S2048x1 ![0] bcast_S2048_S2048x1_0 (val_main_v11 (F := F) x0 x1 x2)
def val_main_cst_2 : Vec F S_ .f32 := constant S_ .f32 0x3F800000#32
def val_main_v13 : Vec F S2048x1 .f32 := broadcastInDim S2048x1 ![] bcast_S_S2048x1 (val_main_cst_2 (F := F))
def val_main_v14 (x0 : Vec F S2048x12288 .bf16) (x1 : Vec F S2048 .f32) (x2 : Vec F S12288x160 .bf16) : Vec F S2048x1 .f32 := Host.divf (val_main_v13 (F := F)) (val_main_v12 (F := F) x0 x1 x2)
def val_main_v15 (x0 : Vec F S2048x12288 .bf16) (x1 : Vec F S2048 .f32) (x2 : Vec F S12288x160 .bf16) : Vec F S2048x160 .f32 := broadcastInDim S2048x160 ![0, 1] bcast_S2048x1_S2048x160_0_1 (val_main_v14 (F := F) x0 x1 x2)
def val_main_v16 (x0 : Vec F S2048x12288 .bf16) (x1 : Vec F S2048 .f32) (x2 : Vec F S12288x160 .bf16) : Vec F S2048x160 .f32 := mulf (val_main_v10 (F := F) x0 x1 x2) (val_main_v15 (F := F) x0 x1 x2)
def val_main_v17 : Vec F S2048 .i32 := iotaInDim S2048 32 0
def val_main_v18 (x4 : Vec F S6 .i32) : Vec F S1x6 .i32 := broadcastInDim S1x6 ![1] bcast_S6_S1x6_1 (x4)
def val_main_v19 : Vec F S2048x1 .i32 := broadcastInDim S2048x1 ![0] bcast_S2048_S2048x1_0 (val_main_v17 (F := F))
def val_main_v20 (x4 : Vec F S6 .i32) : Vec F S2048x6 .i32 := broadcastInDim S2048x6 ![0, 1] bcast_S1x6_S2048x6_0_1 (val_main_v18 (F := F) x4)
def val_main_v21 : Vec F S2048x6 .i32 := broadcastInDim S2048x6 ![0, 1] bcast_S2048x1_S2048x6_0_1 (val_main_v19 (F := F))
def val_main_v22 (x4 : Vec F S6 .i32) : Vec F S2048x6 .i1 := cmpi .sle (val_main_v20 (F := F) x4) (val_main_v21 (F := F))
def val_main_v23 (x4 : Vec F S6 .i32) : Vec F S2048x6 .i32 := extui 32 (val_main_v22 (F := F) x4) natLt_1_32
def val_main_c : Vec F S_ .i32 := constantI S_ 32 0#32
def val_main_v24 (x4 : Vec F S6 .i32) : Vec F S2048 .i32 := Host.reduce IntOp.addi (val_main_v23 (F := F) x4) (val_main_c (F := F)) reducesTo_S2048x6_S2048_d1 h_S_
def val_main_c_3 : Vec F S_ .i32 := constantI S_ 32 1#32
def val_main_v25 : Vec F S2048 .i32 := broadcastInDim S2048 ![] bcast_S_S2048 (val_main_c_3 (F := F))
def val_main_v26 (x4 : Vec F S6 .i32) : Vec F S2048 .i32 := subi (val_main_v24 (F := F) x4) (val_main_v25 (F := F))
def val_main_v27 (x4 : Vec F S6 .i32) : Vec F S2048x1 .i32 := broadcastInDim S2048x1 ![0] bcast_S2048_S2048x1_0 (val_main_v26 (F := F) x4)
def val_main_v28 : Vec F S5 .i32 := iotaInDim S5 32 0
def val_main_v29 : Vec F S1x5 .i32 := broadcastInDim S1x5 ![1] bcast_S5_S1x5_1 (val_main_v28 (F := F))
def val_main_v30 (x4 : Vec F S6 .i32) : Vec F S2048x5 .i32 := broadcastInDim S2048x5 ![0, 1] bcast_S2048x1_S2048x5_0_1 (val_main_v27 (F := F) x4)
def val_main_v31 : Vec F S2048x5 .i32 := broadcastInDim S2048x5 ![0, 1] bcast_S1x5_S2048x5_0_1 (val_main_v29 (F := F))
def val_main_v32 (x4 : Vec F S6 .i32) : Vec F S2048x5 .i1 := cmpi .eq (val_main_v30 (F := F) x4) (val_main_v31 (F := F))
def val_main_v33 (x4 : Vec F S6 .i32) : Vec F S5x2048 .i1 := transpose S5x2048 [1, 0] (val_main_v32 (F := F) x4) transposes_S2048x5_S5x2048_1_0
def val_main_v34 (x4 : Vec F S6 .i32) : Vec F S5x2048x1 .i1 := broadcastInDim S5x2048x1 ![0, 1] bcast_S5x2048_S5x2048x1_0_1 (val_main_v33 (F := F) x4)
def val_main_v35 (x4 : Vec F S6 .i32) : Vec F S5 .i32 := extractStridedSlice S5 ![1] (x4) slices_S6_S5_1
def val_main_v36 (x4 : Vec F S6 .i32) : Vec F S5 .i32 := extractStridedSlice S5 ![0] (x4) slices_S6_S5_0
def val_main_v37 (x4 : Vec F S6 .i32) : Vec F S5 .i32 := subi (val_main_v35 (F := F) x4) (val_main_v36 (F := F) x4)
def val_main_v38 (x4 : Vec F S6 .i32) : Vec F S5 .f32 := sitofp .f32 (val_main_v37 (F := F) x4)
def val_main_v39 (x0 : Vec F S2048x12288 .bf16) (x1 : Vec F S2048 .f32) (x2 : Vec F S12288x160 .bf16) : Vec F S1x2048x160 .f32 := broadcastInDim S1x2048x160 ![1, 2] bcast_S2048x160_S1x2048x160_1_2 (val_main_v16 (F := F) x0 x1 x2)
def val_main_cst_4 : Vec F S_ .f32 := constant S_ .f32 0x00000000#32
def val_main_call0_v0 : Vec F S_ .f32 := id (val_main_cst_4 (F := F))
def val_main_call0_v1 (x4 : Vec F S6 .i32) : Vec F S5x2048x160 .i1 := broadcastInDim S5x2048x160 ![0, 1, 2] bcast_S5x2048x1_S5x2048x160_0_1_2 (val_main_v34 (F := F) x4)
def val_main_call0_v2 (x0 : Vec F S2048x12288 .bf16) (x1 : Vec F S2048 .f32) (x2 : Vec F S12288x160 .bf16) : Vec F S5x2048x160 .f32 := broadcastInDim S5x2048x160 ![0, 1, 2] bcast_S1x2048x160_S5x2048x160_0_1_2 (val_main_v39 (F := F) x0 x1 x2)
def val_main_call0_v3 : Vec F S5x2048x160 .f32 := broadcastInDim S5x2048x160 ![] bcast_S_S5x2048x160 (val_main_call0_v0 (F := F))
def val_main_v40 (x0 : Vec F S2048x12288 .bf16) (x1 : Vec F S2048 .f32) (x2 : Vec F S12288x160 .bf16) (x4 : Vec F S6 .i32) : Vec F S5x2048x160 .f32 := select (val_main_call0_v1 (F := F) x4) (val_main_call0_v2 (F := F) x0 x1 x2) (val_main_call0_v3 (F := F))
def val_main_cst_5 : Vec F S_ .f32 := constant S_ .f32 0x00000000#32
def val_main_v41 (x0 : Vec F S2048x12288 .bf16) (x1 : Vec F S2048 .f32) (x2 : Vec F S12288x160 .bf16) (x4 : Vec F S6 .i32) : Vec F S5x160 .f32 := Host.reduceAdd (val_main_v40 (F := F) x0 x1 x2 x4) (val_main_cst_5 (F := F)) reducesTo_S5x2048x160_S5x160_d1 h_S_
def val_main_v42 (x4 : Vec F S6 .i32) : Vec F S5x1 .f32 := broadcastInDim S5x1 ![0] bcast_S5_S5x1_0 (val_main_v38 (F := F) x4)
def val_main_v43 (x4 : Vec F S6 .i32) : Vec F S5x160 .f32 := broadcastInDim S5x160 ![0, 1] bcast_S5x1_S5x160_0_1 (val_main_v42 (F := F) x4)
def val_main_v44 (x0 : Vec F S2048x12288 .bf16) (x1 : Vec F S2048 .f32) (x2 : Vec F S12288x160 .bf16) (x4 : Vec F S6 .i32) : Vec F S5x160 .f32 := Host.divf (val_main_v41 (F := F) x0 x1 x2 x4) (val_main_v43 (F := F) x4)
def val_main_v45 (x3 : Vec F S2048x6 .i32) : Vec F S2048x6x1 .i32 := broadcastInDim S2048x6x1 ![0, 1] bcast_S2048x6_S2048x6x1_0_1 (x3)
def val_main_v46 : Vec F S160 .i32 := iotaInDim S160 32 0
def val_main_v47 : Vec F S1x1x160 .i32 := broadcastInDim S1x1x160 ![2] bcast_S160_S1x1x160_2 (val_main_v46 (F := F))
def val_main_v48 (x3 : Vec F S2048x6 .i32) : Vec F S2048x6x160 .i32 := broadcastInDim S2048x6x160 ![0, 1, 2] bcast_S2048x6x1_S2048x6x160_0_1_2 (val_main_v45 (F := F) x3)
def val_main_v49 : Vec F S2048x6x160 .i32 := broadcastInDim S2048x6x160 ![0, 1, 2] bcast_S1x1x160_S2048x6x160_0_1_2 (val_main_v47 (F := F))
def val_main_v50 (x3 : Vec F S2048x6 .i32) : Vec F S2048x6x160 .i1 := cmpi .eq (val_main_v48 (F := F) x3) (val_main_v49 (F := F))
def val_main_v51 (x3 : Vec F S2048x6 .i32) : Vec F S2048x6x160 .i32 := extui 32 (val_main_v50 (F := F) x3) natLt_1_32
def val_main_c_6 : Vec F S_ .i32 := constantI S_ 32 0#32
def val_main_v52 (x3 : Vec F S2048x6 .i32) : Vec F S2048x160 .i32 := Host.reduce IntOp.addi (val_main_v51 (F := F) x3) (val_main_c_6 (F := F)) reducesTo_S2048x6x160_S2048x160_d1 h_S_
def val_main_v53 (x3 : Vec F S2048x6 .i32) : Vec F S1x2048x160 .i32 := broadcastInDim S1x2048x160 ![1, 2] bcast_S2048x160_S1x2048x160_1_2 (val_main_v52 (F := F) x3)
def val_main_c_7 : Vec F S_ .i32 := constantI S_ 32 0#32
def val_main_call1_v0 : Vec F S_ .i32 := id (val_main_c_7 (F := F))
def val_main_call1_v1 (x4 : Vec F S6 .i32) : Vec F S5x2048x160 .i1 := broadcastInDim S5x2048x160 ![0, 1, 2] bcast_S5x2048x1_S5x2048x160_0_1_2 (val_main_v34 (F := F) x4)
def val_main_call1_v2 (x3 : Vec F S2048x6 .i32) : Vec F S5x2048x160 .i32 := broadcastInDim S5x2048x160 ![0, 1, 2] bcast_S1x2048x160_S5x2048x160_0_1_2 (val_main_v53 (F := F) x3)
def val_main_call1_v3 : Vec F S5x2048x160 .i32 := broadcastInDim S5x2048x160 ![] bcast_S_S5x2048x160 (val_main_call1_v0 (F := F))
def val_main_v54 (x3 : Vec F S2048x6 .i32) (x4 : Vec F S6 .i32) : Vec F S5x2048x160 .i32 := select (val_main_call1_v1 (F := F) x4) (val_main_call1_v2 (F := F) x3) (val_main_call1_v3 (F := F))
def val_main_c_8 : Vec F S_ .i32 := constantI S_ 32 0#32
def val_main_v55 (x3 : Vec F S2048x6 .i32) (x4 : Vec F S6 .i32) : Vec F S5x160 .i32 := Host.reduce IntOp.addi (val_main_v54 (F := F) x3 x4) (val_main_c_8 (F := F)) reducesTo_S5x2048x160_S5x160_d1 h_S_
def val_main_c_9 : Vec F S_ .i32 := constantI S_ 32 20#32
def val_main_call2_v0 : Vec F S_ .i32 := id (val_main_c_9 (F := F))
def val_main_call2_v1 : Vec F S2048x6 .i32 := broadcastInDim S2048x6 ![] bcast_S_S2048x6 (val_main_call2_v0 (F := F))
def val_main_call2_v2 (x3 : Vec F S2048x6 .i32) : Vec F S2048x6 .i32 := Host.divsi (x3) (val_main_call2_v1 (F := F))
def val_main_call2_v3 (x3 : Vec F S2048x6 .i32) : Vec F S2048x6 .i32 := signi (x3)
def val_main_call2_v4 : Vec F S_ .i32 := signi (val_main_call2_v0 (F := F))
def val_main_call2_v5 : Vec F S2048x6 .i32 := broadcastInDim S2048x6 ![] bcast_S_S2048x6 (val_main_call2_v4 (F := F))
def val_main_call2_v6 (x3 : Vec F S2048x6 .i32) : Vec F S2048x6 .i1 := cmpi .ne (val_main_call2_v3 (F := F) x3) (val_main_call2_v5 (F := F))
def val_main_call2_v7 : Vec F S2048x6 .i32 := broadcastInDim S2048x6 ![] bcast_S_S2048x6 (val_main_call2_v0 (F := F))
def val_main_call2_v8 (x3 : Vec F S2048x6 .i32) : Vec F S2048x6 .i32 := Host.remsi (x3) (val_main_call2_v7 (F := F))
def val_main_call2_c : Vec F S_ .i32 := constantI S_ 32 0#32
def val_main_call2_v9 : Vec F S2048x6 .i32 := broadcastInDim S2048x6 ![] bcast_S_S2048x6 (val_main_call2_c (F := F))
def val_main_call2_v10 (x3 : Vec F S2048x6 .i32) : Vec F S2048x6 .i1 := cmpi .ne (val_main_call2_v8 (F := F) x3) (val_main_call2_v9 (F := F))
def val_main_call2_v11 (x3 : Vec F S2048x6 .i32) : Vec F S2048x6 .i1 := andi (val_main_call2_v6 (F := F) x3) (val_main_call2_v10 (F := F) x3)
def val_main_call2_c_0 : Vec F S_ .i32 := constantI S_ 32 1#32
def val_main_call2_v12 : Vec F S2048x6 .i32 := broadcastInDim S2048x6 ![] bcast_S_S2048x6 (val_main_call2_c_0 (F := F))
def val_main_call2_v13 (x3 : Vec F S2048x6 .i32) : Vec F S2048x6 .i32 := subi (val_main_call2_v2 (F := F) x3) (val_main_call2_v12 (F := F))
def val_main_v56 (x3 : Vec F S2048x6 .i32) : Vec F S2048x6 .i32 := select (val_main_call2_v11 (F := F) x3) (val_main_call2_v13 (F := F) x3) (val_main_call2_v2 (F := F) x3)
def val_main_v57 (x3 : Vec F S2048x6 .i32) : Vec F S2048x6x1 .i32 := broadcastInDim S2048x6x1 ![0, 1] bcast_S2048x6_S2048x6x1_0_1 (val_main_v56 (F := F) x3)
def val_main_v58 : Vec F S8 .i32 := iotaInDim S8 32 0
def val_main_v59 : Vec F S1x1x8 .i32 := broadcastInDim S1x1x8 ![2] bcast_S8_S1x1x8_2 (val_main_v58 (F := F))
def val_main_v60 (x3 : Vec F S2048x6 .i32) : Vec F S2048x6x8 .i32 := broadcastInDim S2048x6x8 ![0, 1, 2] bcast_S2048x6x1_S2048x6x8_0_1_2 (val_main_v57 (F := F) x3)
def val_main_v61 : Vec F S2048x6x8 .i32 := broadcastInDim S2048x6x8 ![0, 1, 2] bcast_S1x1x8_S2048x6x8_0_1_2 (val_main_v59 (F := F))
def val_main_v62 (x3 : Vec F S2048x6 .i32) : Vec F S2048x6x8 .i1 := cmpi .eq (val_main_v60 (F := F) x3) (val_main_v61 (F := F))
def val_main_c_10 : Vec F S_ .i1 := constantI S_ 1 0#1
def val_main_v63 (x3 : Vec F S2048x6 .i32) : Vec F S2048x8 .i1 := Host.reduce IntOp.ori (val_main_v62 (F := F) x3) (val_main_c_10 (F := F)) reducesTo_S2048x6x8_S2048x8_d1 h_S_
def val_main_v64 (x3 : Vec F S2048x6 .i32) : Vec F S2048x8 .i32 := extui 32 (val_main_v63 (F := F) x3) natLt_1_32
def val_main_v65 (x3 : Vec F S2048x6 .i32) : Vec F S1x2048x8 .i32 := broadcastInDim S1x2048x8 ![1, 2] bcast_S2048x8_S1x2048x8_1_2 (val_main_v64 (F := F) x3)
def val_main_c_11 : Vec F S_ .i32 := constantI S_ 32 0#32
def val_main_call3_v0 : Vec F S_ .i32 := id (val_main_c_11 (F := F))
def val_main_call3_v1 (x4 : Vec F S6 .i32) : Vec F S5x2048x8 .i1 := broadcastInDim S5x2048x8 ![0, 1, 2] bcast_S5x2048x1_S5x2048x8_0_1_2 (val_main_v34 (F := F) x4)
def val_main_call3_v2 (x3 : Vec F S2048x6 .i32) : Vec F S5x2048x8 .i32 := broadcastInDim S5x2048x8 ![0, 1, 2] bcast_S1x2048x8_S5x2048x8_0_1_2 (val_main_v65 (F := F) x3)
def val_main_call3_v3 : Vec F S5x2048x8 .i32 := broadcastInDim S5x2048x8 ![] bcast_S_S5x2048x8 (val_main_call3_v0 (F := F))
def val_main_v66 (x3 : Vec F S2048x6 .i32) (x4 : Vec F S6 .i32) : Vec F S5x2048x8 .i32 := select (val_main_call3_v1 (F := F) x4) (val_main_call3_v2 (F := F) x3) (val_main_call3_v3 (F := F))
def val_main_c_12 : Vec F S_ .i32 := constantI S_ 32 0#32
def val_main_v67 (x3 : Vec F S2048x6 .i32) (x4 : Vec F S6 .i32) : Vec F S5x8 .i32 := Host.reduce IntOp.addi (val_main_v66 (F := F) x3 x4) (val_main_c_12 (F := F)) reducesTo_S5x2048x8_S5x8_d1 h_S_
def val_main_v68 (x3 : Vec F S2048x6 .i32) (x4 : Vec F S6 .i32) : Vec F S5x160 .f32 := sitofp .f32 (val_main_v55 (F := F) x3 x4)
def val_main_cst_13 : Vec F S_ .f32 := constant S_ .f32 0x41D55555#32
def val_main_v69 : Vec F S5x160 .f32 := broadcastInDim S5x160 ![] bcast_S_S5x160 (val_main_cst_13 (F := F))
def val_main_v70 (x3 : Vec F S2048x6 .i32) (x4 : Vec F S6 .i32) : Vec F S5x160 .f32 := mulf (val_main_v69 (F := F)) (val_main_v68 (F := F) x3 x4)
def val_main_v71 (x4 : Vec F S6 .i32) : Vec F S5x1 .f32 := broadcastInDim S5x1 ![0] bcast_S5_S5x1_0 (val_main_v38 (F := F) x4)
def val_main_v72 (x4 : Vec F S6 .i32) : Vec F S5x160 .f32 := broadcastInDim S5x160 ![0, 1] bcast_S5x1_S5x160_0_1 (val_main_v71 (F := F) x4)
def val_main_v73 (x3 : Vec F S2048x6 .i32) (x4 : Vec F S6 .i32) : Vec F S5x160 .f32 := Host.divf (val_main_v70 (F := F) x3 x4) (val_main_v72 (F := F) x4)
def val_main_v74 (x3 : Vec F S2048x6 .i32) (x4 : Vec F S6 .i32) : Vec F S5x8x20 .f32 := shapeCast _ (val_main_v73 (F := F) x3 x4) shapeCasts_S5x160_S5x8x20
def val_main_cst_14 : Vec F S_ .f32 := constant S_ .f32 0x00000000#32
def val_main_v75 (x3 : Vec F S2048x6 .i32) (x4 : Vec F S6 .i32) : Vec F S5x8 .f32 := Host.reduceAdd (val_main_v74 (F := F) x3 x4) (val_main_cst_14 (F := F)) reducesTo_S5x8x20_S5x8_d2 h_S_
def val_main_cst_15 : Vec F S_ .f32 := constant S_ .f32 0x3D4CCCCD#32
def val_main_v76 : Vec F S5x8 .f32 := broadcastInDim S5x8 ![] bcast_S_S5x8 (val_main_cst_15 (F := F))
def val_main_v77 (x3 : Vec F S2048x6 .i32) (x4 : Vec F S6 .i32) : Vec F S5x8 .f32 := mulf (val_main_v75 (F := F) x3 x4) (val_main_v76 (F := F))
def val_main_v78 (x0 : Vec F S2048x12288 .bf16) (x1 : Vec F S2048 .f32) (x2 : Vec F S12288x160 .bf16) (x4 : Vec F S6 .i32) : Vec F S5x8x20 .f32 := shapeCast _ (val_main_v44 (F := F) x0 x1 x2 x4) shapeCasts_S5x160_S5x8x20
def val_main_cst_16 : Vec F S_ .f32 := constant S_ .f32 0x00000000#32
def val_main_v79 (x0 : Vec F S2048x12288 .bf16) (x1 : Vec F S2048 .f32) (x2 : Vec F S12288x160 .bf16) (x4 : Vec F S6 .i32) : Vec F S5x8 .f32 := Host.reduceAdd (val_main_v78 (F := F) x0 x1 x2 x4) (val_main_cst_16 (F := F)) reducesTo_S5x8x20_S5x8_d2 h_S_
def val_main_v80 (x3 : Vec F S2048x6 .i32) (x4 : Vec F S6 .i32) : Vec F S5x8 .f32 := sitofp .f32 (val_main_v67 (F := F) x3 x4)
def val_main_cst_17 : Vec F S_ .f32 := constant S_ .f32 0x402AAAAB#32
def val_main_v81 : Vec F S5x8 .f32 := broadcastInDim S5x8 ![] bcast_S_S5x8 (val_main_cst_17 (F := F))
def val_main_v82 (x3 : Vec F S2048x6 .i32) (x4 : Vec F S6 .i32) : Vec F S5x8 .f32 := mulf (val_main_v81 (F := F)) (val_main_v80 (F := F) x3 x4)
def val_main_v83 (x4 : Vec F S6 .i32) : Vec F S5x1 .f32 := broadcastInDim S5x1 ![0] bcast_S5_S5x1_0 (val_main_v38 (F := F) x4)
def val_main_v84 (x4 : Vec F S6 .i32) : Vec F S5x8 .f32 := broadcastInDim S5x8 ![0, 1] bcast_S5x1_S5x8_0_1 (val_main_v83 (F := F) x4)
def val_main_v85 (x3 : Vec F S2048x6 .i32) (x4 : Vec F S6 .i32) : Vec F S5x8 .f32 := Host.divf (val_main_v82 (F := F) x3 x4) (val_main_v84 (F := F) x4)
def val_main_v86 (x0 : Vec F S2048x12288 .bf16) (x1 : Vec F S2048 .f32) (x2 : Vec F S12288x160 .bf16) (x3 : Vec F S2048x6 .i32) (x4 : Vec F S6 .i32) : Vec F S5x160 .f32 := mulf (val_main_v73 (F := F) x3 x4) (val_main_v44 (F := F) x0 x1 x2 x4)
def val_main_cst_18 : Vec F S_ .f32 := constant S_ .f32 0x00000000#32
def val_main_v87 (x0 : Vec F S2048x12288 .bf16) (x1 : Vec F S2048 .f32) (x2 : Vec F S12288x160 .bf16) (x3 : Vec F S2048x6 .i32) (x4 : Vec F S6 .i32) : Vec F S5 .f32 := Host.reduceAdd (val_main_v86 (F := F) x0 x1 x2 x3 x4) (val_main_cst_18 (F := F)) reducesTo_S5x160_S5_d1 h_S_
def val_main_cst_19 : Vec F S_ .f32 := constant S_ .f32 0x3B449BA6#32
def val_main_v88 : Vec F S5 .f32 := broadcastInDim S5 ![] bcast_S_S5 (val_main_cst_19 (F := F))
def val_main_v89 (x0 : Vec F S2048x12288 .bf16) (x1 : Vec F S2048 .f32) (x2 : Vec F S12288x160 .bf16) (x3 : Vec F S2048x6 .i32) (x4 : Vec F S6 .i32) : Vec F S5 .f32 := mulf (val_main_v88 (F := F)) (val_main_v87 (F := F) x0 x1 x2 x3 x4)
def val_main_v90 (x0 : Vec F S2048x12288 .bf16) (x1 : Vec F S2048 .f32) (x2 : Vec F S12288x160 .bf16) (x3 : Vec F S2048x6 .i32) (x4 : Vec F S6 .i32) : Vec F S5x8 .f32 := mulf (val_main_v77 (F := F) x3 x4) (val_main_v79 (F := F) x0 x1 x2 x4)
def val_main_cst_20 : Vec F S_ .f32 := constant S_ .f32 0x00000000#32
def val_main_v91 (x0 : Vec F S2048x12288 .bf16) (x1 : Vec F S2048 .f32) (x2 : Vec F S12288x160 .bf16) (x3 : Vec F S2048x6 .i32) (x4 : Vec F S6 .i32) : Vec F S5 .f32 := Host.reduceAdd (val_main_v90 (F := F) x0 x1 x2 x3 x4) (val_main_cst_20 (F := F)) reducesTo_S5x8_S5_d1 h_S_
def val_main_cst_21 : Vec F S_ .f32 := constant S_ .f32 0x3D4CCCCD#32
def val_main_v92 : Vec F S5 .f32 := broadcastInDim S5 ![] bcast_S_S5 (val_main_cst_21 (F := F))
def val_main_v93 (x0 : Vec F S2048x12288 .bf16) (x1 : Vec F S2048 .f32) (x2 : Vec F S12288x160 .bf16) (x3 : Vec F S2048x6 .i32) (x4 : Vec F S6 .i32) : Vec F S5 .f32 := mulf (val_main_v92 (F := F)) (val_main_v91 (F := F) x0 x1 x2 x3 x4)
def val_main_v94 (x0 : Vec F S2048x12288 .bf16) (x1 : Vec F S2048 .f32) (x2 : Vec F S12288x160 .bf16) (x3 : Vec F S2048x6 .i32) (x4 : Vec F S6 .i32) : Vec F S5x8 .f32 := mulf (val_main_v85 (F := F) x3 x4) (val_main_v79 (F := F) x0 x1 x2 x4)
def val_main_cst_22 : Vec F S_ .f32 := constant S_ .f32 0x00000000#32
def val_main_v95 (x0 : Vec F S2048x12288 .bf16) (x1 : Vec F S2048 .f32) (x2 : Vec F S12288x160 .bf16) (x3 : Vec F S2048x6 .i32) (x4 : Vec F S6 .i32) : Vec F S5 .f32 := Host.reduceAdd (val_main_v94 (F := F) x0 x1 x2 x3 x4) (val_main_cst_22 (F := F)) reducesTo_S5x8_S5_d1 h_S_
def val_main_cst_23 : Vec F S_ .f32 := constant S_ .f32 0x3CA3D70A#32
def val_main_v96 : Vec F S5 .f32 := broadcastInDim S5 ![] bcast_S_S5 (val_main_cst_23 (F := F))
def val_main_v97 (x0 : Vec F S2048x12288 .bf16) (x1 : Vec F S2048 .f32) (x2 : Vec F S12288x160 .bf16) (x3 : Vec F S2048x6 .i32) (x4 : Vec F S6 .i32) : Vec F S5 .f32 := mulf (val_main_v96 (F := F)) (val_main_v95 (F := F) x0 x1 x2 x3 x4)
def val_main_cst_24 : Vec F S_ .f32 := constant S_ .f32 0x3B449BA6#32
def val_main_v98 : Vec F S5x8x20 .f32 := broadcastInDim S5x8x20 ![] bcast_S_S5x8x20 (val_main_cst_24 (F := F))
def val_main_v99 (x3 : Vec F S2048x6 .i32) (x4 : Vec F S6 .i32) : Vec F S5x8x20 .f32 := mulf (val_main_v98 (F := F)) (val_main_v74 (F := F) x3 x4)
def val_main_cst_25 : Vec F S_ .f32 := constant S_ .f32 0x3D4CCCCD#32
def val_main_v100 : Vec F S5x8 .f32 := broadcastInDim S5x8 ![] bcast_S_S5x8 (val_main_cst_25 (F := F))
def val_main_v101 (x3 : Vec F S2048x6 .i32) (x4 : Vec F S6 .i32) : Vec F S5x8 .f32 := mulf (val_main_v100 (F := F)) (val_main_v77 (F := F) x3 x4)
def val_main_cst_26 : Vec F S_ .f32 := constant S_ .f32 0x3CA3D70A#32
def val_main_v102 : Vec F S5x8 .f32 := broadcastInDim S5x8 ![] bcast_S_S5x8 (val_main_cst_26 (F := F))
def val_main_v103 (x3 : Vec F S2048x6 .i32) (x4 : Vec F S6 .i32) : Vec F S5x8 .f32 := mulf (val_main_v102 (F := F)) (val_main_v85 (F := F) x3 x4)
def val_main_v104 (x3 : Vec F S2048x6 .i32) (x4 : Vec F S6 .i32) : Vec F S5x8 .f32 := addf (val_main_v101 (F := F) x3 x4) (val_main_v103 (F := F) x3 x4)
def val_main_v105 (x3 : Vec F S2048x6 .i32) (x4 : Vec F S6 .i32) : Vec F S5x8x1 .f32 := broadcastInDim S5x8x1 ![0, 1] bcast_S5x8_S5x8x1_0_1 (val_main_v104 (F := F) x3 x4)
def val_main_v106 (x3 : Vec F S2048x6 .i32) (x4 : Vec F S6 .i32) : Vec F S5x8x20 .f32 := broadcastInDim S5x8x20 ![0, 1, 2] bcast_S5x8x1_S5x8x20_0_1_2 (val_main_v105 (F := F) x3 x4)
def val_main_v107 (x3 : Vec F S2048x6 .i32) (x4 : Vec F S6 .i32) : Vec F S5x8x20 .f32 := addf (val_main_v99 (F := F) x3 x4) (val_main_v106 (F := F) x3 x4)
def val_main_v108 (x3 : Vec F S2048x6 .i32) (x4 : Vec F S6 .i32) : Vec F S5x160 .f32 := shapeCast _ (val_main_v107 (F := F) x3 x4) shapeCasts_S5x8x20_S5x160
def val_main_v109 (x4 : Vec F S6 .i32) : Vec F S5x1 .f32 := broadcastInDim S5x1 ![0] bcast_S5_S5x1_0 (val_main_v38 (F := F) x4)
def val_main_cst_27 : Vec F S_ .f32 := constant S_ .f32 0x40A00000#32
def val_main_v110 : Vec F S5x1 .f32 := broadcastInDim S5x1 ![] bcast_S_S5x1 (val_main_cst_27 (F := F))
def val_main_v111 (x4 : Vec F S6 .i32) : Vec F S5x1 .f32 := mulf (val_main_v110 (F := F)) (val_main_v109 (F := F) x4)
def val_main_v112 (x4 : Vec F S6 .i32) : Vec F S5x160 .f32 := broadcastInDim S5x160 ![0, 1] bcast_S5x1_S5x160_0_1 (val_main_v111 (F := F) x4)
def val_main_v113 (x3 : Vec F S2048x6 .i32) (x4 : Vec F S6 .i32) : Vec F S5x160 .f32 := Host.divf (val_main_v108 (F := F) x3 x4) (val_main_v112 (F := F) x4)
def val_main_v114 (x4 : Vec F S6 .i32) : Vec F S2048x5x1 .i1 := broadcastInDim S2048x5x1 ![0, 1] bcast_S2048x5_S2048x5x1_0_1 (val_main_v32 (F := F) x4)
def val_main_v115 (x3 : Vec F S2048x6 .i32) (x4 : Vec F S6 .i32) : Vec F S1x5x160 .f32 := broadcastInDim S1x5x160 ![1, 2] bcast_S5x160_S1x5x160_1_2 (val_main_v113 (F := F) x3 x4)
def val_main_cst_28 : Vec F S_ .f32 := constant S_ .f32 0x00000000#32
def val_main_call4_v0 : Vec F S_ .f32 := id (val_main_cst_28 (F := F))
def val_main_call4_v1 (x4 : Vec F S6 .i32) : Vec F S2048x5x160 .i1 := broadcastInDim S2048x5x160 ![0, 1, 2] bcast_S2048x5x1_S2048x5x160_0_1_2 (val_main_v114 (F := F) x4)
def val_main_call4_v2 (x3 : Vec F S2048x6 .i32) (x4 : Vec F S6 .i32) : Vec F S2048x5x160 .f32 := broadcastInDim S2048x5x160 ![0, 1, 2] bcast_S1x5x160_S2048x5x160_0_1_2 (val_main_v115 (F := F) x3 x4)
def val_main_call4_v3 : Vec F S2048x5x160 .f32 := broadcastInDim S2048x5x160 ![] bcast_S_S2048x5x160 (val_main_call4_v0 (F := F))
def val_main_v116 (x3 : Vec F S2048x6 .i32) (x4 : Vec F S6 .i32) : Vec F S2048x5x160 .f32 := select (val_main_call4_v1 (F := F) x4) (val_main_call4_v2 (F := F) x3 x4) (val_main_call4_v3 (F := F))
def val_main_cst_29 : Vec F S_ .f32 := constant S_ .f32 0x00000000#32
def val_main_v117 (x3 : Vec F S2048x6 .i32) (x4 : Vec F S6 .i32) : Vec F S2048x160 .f32 := Host.reduceAdd (val_main_v116 (F := F) x3 x4) (val_main_cst_29 (F := F)) reducesTo_S2048x5x160_S2048x160_d1 h_S_
def val_main_cst_30 : Vec F S_ .f32 := constant S_ .f32 0x3F800000#32
def val_main_v118 : Vec F S2048x160 .f32 := broadcastInDim S2048x160 ![] bcast_S_S2048x160 (val_main_cst_30 (F := F))
def val_main_v119 (x0 : Vec F S2048x12288 .bf16) (x1 : Vec F S2048 .f32) (x2 : Vec F S12288x160 .bf16) : Vec F S2048x160 .f32 := subf (val_main_v118 (F := F)) (val_main_v10 (F := F) x0 x1 x2)
def val_main_v120 (x0 : Vec F S2048x12288 .bf16) (x1 : Vec F S2048 .f32) (x2 : Vec F S12288x160 .bf16) : Vec F S2048x160 .f32 := mulf (val_main_v10 (F := F) x0 x1 x2) (val_main_v119 (F := F) x0 x1 x2)
def val_main_v121 (x0 : Vec F S2048x12288 .bf16) (x1 : Vec F S2048 .f32) (x2 : Vec F S12288x160 .bf16) (x3 : Vec F S2048x6 .i32) (x4 : Vec F S6 .i32) : Vec F S2048x160 .f32 := mulf (val_main_v16 (F := F) x0 x1 x2) (val_main_v117 (F := F) x3 x4)
def val_main_cst_31 : Vec F S_ .f32 := constant S_ .f32 0x00000000#32
def val_main_v122 (x0 : Vec F S2048x12288 .bf16) (x1 : Vec F S2048 .f32) (x2 : Vec F S12288x160 .bf16) (x3 : Vec F S2048x6 .i32) (x4 : Vec F S6 .i32) : Vec F S2048 .f32 := Host.reduceAdd (val_main_v121 (F := F) x0 x1 x2 x3 x4) (val_main_cst_31 (F := F)) reducesTo_S2048x160_S2048_d1 h_S_
def val_main_v123 (x0 : Vec F S2048x12288 .bf16) (x1 : Vec F S2048 .f32) (x2 : Vec F S12288x160 .bf16) (x3 : Vec F S2048x6 .i32) (x4 : Vec F S6 .i32) : Vec F S2048x1 .f32 := broadcastInDim S2048x1 ![0] bcast_S2048_S2048x1_0 (val_main_v122 (F := F) x0 x1 x2 x3 x4)
def val_main_v124 (x0 : Vec F S2048x12288 .bf16) (x1 : Vec F S2048 .f32) (x2 : Vec F S12288x160 .bf16) (x3 : Vec F S2048x6 .i32) (x4 : Vec F S6 .i32) : Vec F S2048x160 .f32 := broadcastInDim S2048x160 ![0, 1] bcast_S2048x1_S2048x160_0_1 (val_main_v123 (F := F) x0 x1 x2 x3 x4)
def val_main_v125 (x0 : Vec F S2048x12288 .bf16) (x1 : Vec F S2048 .f32) (x2 : Vec F S12288x160 .bf16) (x3 : Vec F S2048x6 .i32) (x4 : Vec F S6 .i32) : Vec F S2048x160 .f32 := subf (val_main_v117 (F := F) x3 x4) (val_main_v124 (F := F) x0 x1 x2 x3 x4)
def val_main_v126 (x0 : Vec F S2048x12288 .bf16) (x1 : Vec F S2048 .f32) (x2 : Vec F S12288x160 .bf16) (x3 : Vec F S2048x6 .i32) (x4 : Vec F S6 .i32) : Vec F S2048x160 .f32 := mulf (val_main_v120 (F := F) x0 x1 x2) (val_main_v125 (F := F) x0 x1 x2 x3 x4)
def val_main_v127 (x0 : Vec F S2048x12288 .bf16) (x1 : Vec F S2048 .f32) (x2 : Vec F S12288x160 .bf16) : Vec F S2048x160 .f32 := broadcastInDim S2048x160 ![0, 1] bcast_S2048x1_S2048x160_0_1 (val_main_v14 (F := F) x0 x1 x2)
def val_main_v128 (x0 : Vec F S2048x12288 .bf16) (x1 : Vec F S2048 .f32) (x2 : Vec F S12288x160 .bf16) (x3 : Vec F S2048x6 .i32) (x4 : Vec F S6 .i32) : Vec F S2048x160 .f32 := mulf (val_main_v126 (F := F) x0 x1 x2 x3 x4) (val_main_v127 (F := F) x0 x1 x2)

end Cert.ReferenceIdeal.Stages

end
-- ==== Proof.RefAfter.lean ====
/- What the reference's operations after its one call leave in the buffers: each stretch of operations leaves the stages of the
   arguments in the buffers that later stretches or the results read. -/
module

public import proofs.«01_k».proof.Proof.RefStages
public import Idealize.ShloMosaic.Lib.StableHlo.Run

@[expose] public section

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The contents after the first 1 stretches of operations. -/
def V1 (V0 : Valuation τ sig (Elt F)) : Valuation τ sig (Elt F) := after hostOps1 V0
theorem V1_main_v0 (V0 : Valuation τ sig (Elt F)) : V1 V0 (no_index (Proc.devRef .tc main_v0)) = V0 (Proc.devRef .tc main_v0) := after_of_writes_sub hostOps1 _ hostOps1_writes (by decide +kernel)
theorem V1_main_arg1 (V0 : Valuation τ sig (Elt F)) : V1 V0 (no_index (Proc.devRef .tc main_arg1)) = V0 (Proc.devRef .tc main_arg1) := after_of_writes_sub hostOps1 _ hostOps1_writes (by decide +kernel)
theorem V1_main_arg2 (V0 : Valuation τ sig (Elt F)) : V1 V0 (no_index (Proc.devRef .tc main_arg2)) = V0 (Proc.devRef .tc main_arg2) := after_of_writes_sub hostOps1 _ hostOps1_writes (by decide +kernel)
theorem V1_main_arg3 (V0 : Valuation τ sig (Elt F)) : V1 V0 (no_index (Proc.devRef .tc main_arg3)) = V0 (Proc.devRef .tc main_arg3) := after_of_writes_sub hostOps1 _ hostOps1_writes (by decide +kernel)
theorem V1_main_arg4 (V0 : Valuation τ sig (Elt F)) : V1 V0 (no_index (Proc.devRef .tc main_arg4)) = V0 (Proc.devRef .tc main_arg4) := after_of_writes_sub hostOps1 _ hostOps1_writes (by decide +kernel)
set_option maxRecDepth 8192 in
set_option maxHeartbeats 2000000 in
theorem V1_main_v10 (V0 : Valuation τ sig (Elt F)) : V1 V0 (no_index (Proc.devRef .tc main_v10)) = val_main_v10 (V0 (Proc.devRef .tc main_v0)) (V0 (Proc.devRef .tc main_arg1)) (V0 (Proc.devRef .tc main_arg2)) := by
  unfold V1; simp only [hostOps1, TRef.ternary, TRef.unary, TRef.binary, TRef.toBuf, TRef.ofBuf, cast_eq]; after_results_simp <;> rfl
set_option maxRecDepth 8192 in
set_option maxHeartbeats 2000000 in
theorem V1_main_v14 (V0 : Valuation τ sig (Elt F)) : V1 V0 (no_index (Proc.devRef .tc main_v14)) = val_main_v14 (V0 (Proc.devRef .tc main_v0)) (V0 (Proc.devRef .tc main_arg1)) (V0 (Proc.devRef .tc main_arg2)) := by
  unfold V1; simp only [hostOps1, TRef.ternary, TRef.unary, TRef.binary, TRef.toBuf, TRef.ofBuf, cast_eq]; after_results_simp <;> rfl
set_option maxRecDepth 8192 in
set_option maxHeartbeats 2000000 in
theorem V1_main_v16 (V0 : Valuation τ sig (Elt F)) : V1 V0 (no_index (Proc.devRef .tc main_v16)) = val_main_v16 (V0 (Proc.devRef .tc main_v0)) (V0 (Proc.devRef .tc main_arg1)) (V0 (Proc.devRef .tc main_arg2)) := by
  unfold V1; simp only [hostOps1, TRef.ternary, TRef.unary, TRef.binary, TRef.toBuf, TRef.ofBuf, cast_eq]; after_results_simp <;> rfl
set_option maxRecDepth 8192 in
set_option maxHeartbeats 2000000 in
theorem V1_main_v32 (V0 : Valuation τ sig (Elt F)) : V1 V0 (no_index (Proc.devRef .tc main_v32)) = val_main_v32 (V0 (Proc.devRef .tc main_arg4)) := by
  unfold V1; simp only [hostOps1, TRef.ternary, TRef.unary, TRef.binary, TRef.toBuf, TRef.ofBuf, cast_eq]; after_results_simp <;> rfl
set_option maxRecDepth 8192 in
set_option maxHeartbeats 2000000 in
theorem V1_main_v34 (V0 : Valuation τ sig (Elt F)) : V1 V0 (no_index (Proc.devRef .tc main_v34)) = val_main_v34 (V0 (Proc.devRef .tc main_arg4)) := by
  unfold V1; simp only [hostOps1, TRef.ternary, TRef.unary, TRef.binary, TRef.toBuf, TRef.ofBuf, cast_eq]; after_results_simp <;> rfl
set_option maxRecDepth 8192 in
set_option maxHeartbeats 2000000 in
theorem V1_main_v38 (V0 : Valuation τ sig (Elt F)) : V1 V0 (no_index (Proc.devRef .tc main_v38)) = val_main_v38 (V0 (Proc.devRef .tc main_arg4)) := by
  unfold V1; simp only [hostOps1, TRef.ternary, TRef.unary, TRef.binary, TRef.toBuf, TRef.ofBuf, cast_eq]; after_results_simp <;> rfl
set_option maxRecDepth 8192 in
set_option maxHeartbeats 2000000 in
theorem V1_main_v39 (V0 : Valuation τ sig (Elt F)) : V1 V0 (no_index (Proc.devRef .tc main_v39)) = val_main_v39 (V0 (Proc.devRef .tc main_v0)) (V0 (Proc.devRef .tc main_arg1)) (V0 (Proc.devRef .tc main_arg2)) := by
  unfold V1; simp only [hostOps1, TRef.ternary, TRef.unary, TRef.binary, TRef.toBuf, TRef.ofBuf, cast_eq]; after_results_simp <;> rfl
set_option maxRecDepth 8192 in
set_option maxHeartbeats 2000000 in
theorem V1_main_cst_4 (V0 : Valuation τ sig (Elt F)) : V1 V0 (no_index (Proc.devRef .tc main_cst_4)) = (val_main_cst_4 (F := F)) := by
  unfold V1; simp only [hostOps1, TRef.ternary, TRef.unary, TRef.binary, TRef.toBuf, TRef.ofBuf, cast_eq]; after_results_simp <;> rfl

/-- The contents after the first 2 stretches of operations. -/
def V2 (V0 : Valuation τ sig (Elt F)) : Valuation τ sig (Elt F) := after hostOps1_1 (V1 V0)
theorem V2_main_v0 (V0 : Valuation τ sig (Elt F)) : V2 V0 (no_index (Proc.devRef .tc main_v0)) = V0 (Proc.devRef .tc main_v0) := (after_of_writes_sub hostOps1_1 _ hostOps1_1_writes (by decide +kernel)).trans (V1_main_v0 V0)
theorem V2_main_arg1 (V0 : Valuation τ sig (Elt F)) : V2 V0 (no_index (Proc.devRef .tc main_arg1)) = V0 (Proc.devRef .tc main_arg1) := (after_of_writes_sub hostOps1_1 _ hostOps1_1_writes (by decide +kernel)).trans (V1_main_arg1 V0)
theorem V2_main_arg2 (V0 : Valuation τ sig (Elt F)) : V2 V0 (no_index (Proc.devRef .tc main_arg2)) = V0 (Proc.devRef .tc main_arg2) := (after_of_writes_sub hostOps1_1 _ hostOps1_1_writes (by decide +kernel)).trans (V1_main_arg2 V0)
theorem V2_main_arg3 (V0 : Valuation τ sig (Elt F)) : V2 V0 (no_index (Proc.devRef .tc main_arg3)) = V0 (Proc.devRef .tc main_arg3) := (after_of_writes_sub hostOps1_1 _ hostOps1_1_writes (by decide +kernel)).trans (V1_main_arg3 V0)
theorem V2_main_arg4 (V0 : Valuation τ sig (Elt F)) : V2 V0 (no_index (Proc.devRef .tc main_arg4)) = V0 (Proc.devRef .tc main_arg4) := (after_of_writes_sub hostOps1_1 _ hostOps1_1_writes (by decide +kernel)).trans (V1_main_arg4 V0)
theorem V2_main_v10 (V0 : Valuation τ sig (Elt F)) : V2 V0 (no_index (Proc.devRef .tc main_v10)) = val_main_v10 (V0 (Proc.devRef .tc main_v0)) (V0 (Proc.devRef .tc main_arg1)) (V0 (Proc.devRef .tc main_arg2)) := (after_of_writes_sub hostOps1_1 _ hostOps1_1_writes (by decide +kernel)).trans (V1_main_v10 V0)
theorem V2_main_v14 (V0 : Valuation τ sig (Elt F)) : V2 V0 (no_index (Proc.devRef .tc main_v14)) = val_main_v14 (V0 (Proc.devRef .tc main_v0)) (V0 (Proc.devRef .tc main_arg1)) (V0 (Proc.devRef .tc main_arg2)) := (after_of_writes_sub hostOps1_1 _ hostOps1_1_writes (by decide +kernel)).trans (V1_main_v14 V0)
theorem V2_main_v16 (V0 : Valuation τ sig (Elt F)) : V2 V0 (no_index (Proc.devRef .tc main_v16)) = val_main_v16 (V0 (Proc.devRef .tc main_v0)) (V0 (Proc.devRef .tc main_arg1)) (V0 (Proc.devRef .tc main_arg2)) := (after_of_writes_sub hostOps1_1 _ hostOps1_1_writes (by decide +kernel)).trans (V1_main_v16 V0)
theorem V2_main_v32 (V0 : Valuation τ sig (Elt F)) : V2 V0 (no_index (Proc.devRef .tc main_v32)) = val_main_v32 (V0 (Proc.devRef .tc main_arg4)) := (after_of_writes_sub hostOps1_1 _ hostOps1_1_writes (by decide +kernel)).trans (V1_main_v32 V0)
theorem V2_main_v34 (V0 : Valuation τ sig (Elt F)) : V2 V0 (no_index (Proc.devRef .tc main_v34)) = val_main_v34 (V0 (Proc.devRef .tc main_arg4)) := (after_of_writes_sub hostOps1_1 _ hostOps1_1_writes (by decide +kernel)).trans (V1_main_v34 V0)
theorem V2_main_v38 (V0 : Valuation τ sig (Elt F)) : V2 V0 (no_index (Proc.devRef .tc main_v38)) = val_main_v38 (V0 (Proc.devRef .tc main_arg4)) := (after_of_writes_sub hostOps1_1 _ hostOps1_1_writes (by decide +kernel)).trans (V1_main_v38 V0)
set_option maxRecDepth 8192 in
set_option maxHeartbeats 2000000 in
theorem V2_main_v40 (V0 : Valuation τ sig (Elt F)) : V2 V0 (no_index (Proc.devRef .tc main_v40)) = val_main_v40 (V0 (Proc.devRef .tc main_v0)) (V0 (Proc.devRef .tc main_arg1)) (V0 (Proc.devRef .tc main_arg2)) (V0 (Proc.devRef .tc main_arg4)) := by
  unfold V2; simp only [hostOps1_1, TRef.ternary, TRef.unary, TRef.binary, TRef.toBuf, TRef.ofBuf, cast_eq]; after_results_simp
  try simp only [V1_main_v0, V1_main_arg1, V1_main_arg2, V1_main_arg3, V1_main_arg4, V1_main_v10, V1_main_v14, V1_main_v16, V1_main_v32, V1_main_v34, V1_main_v38, V1_main_v39, V1_main_cst_4]
  all_goals rfl

/-- The contents after the first 3 stretches of operations. -/
def V3 (V0 : Valuation τ sig (Elt F)) : Valuation τ sig (Elt F) := after hostOps1_2 (V2 V0)
theorem V3_main_v0 (V0 : Valuation τ sig (Elt F)) : V3 V0 (no_index (Proc.devRef .tc main_v0)) = V0 (Proc.devRef .tc main_v0) := (after_of_writes_sub hostOps1_2 _ hostOps1_2_writes (by decide +kernel)).trans (V2_main_v0 V0)
theorem V3_main_arg1 (V0 : Valuation τ sig (Elt F)) : V3 V0 (no_index (Proc.devRef .tc main_arg1)) = V0 (Proc.devRef .tc main_arg1) := (after_of_writes_sub hostOps1_2 _ hostOps1_2_writes (by decide +kernel)).trans (V2_main_arg1 V0)
theorem V3_main_arg2 (V0 : Valuation τ sig (Elt F)) : V3 V0 (no_index (Proc.devRef .tc main_arg2)) = V0 (Proc.devRef .tc main_arg2) := (after_of_writes_sub hostOps1_2 _ hostOps1_2_writes (by decide +kernel)).trans (V2_main_arg2 V0)
theorem V3_main_arg3 (V0 : Valuation τ sig (Elt F)) : V3 V0 (no_index (Proc.devRef .tc main_arg3)) = V0 (Proc.devRef .tc main_arg3) := (after_of_writes_sub hostOps1_2 _ hostOps1_2_writes (by decide +kernel)).trans (V2_main_arg3 V0)
theorem V3_main_arg4 (V0 : Valuation τ sig (Elt F)) : V3 V0 (no_index (Proc.devRef .tc main_arg4)) = V0 (Proc.devRef .tc main_arg4) := (after_of_writes_sub hostOps1_2 _ hostOps1_2_writes (by decide +kernel)).trans (V2_main_arg4 V0)
theorem V3_main_v10 (V0 : Valuation τ sig (Elt F)) : V3 V0 (no_index (Proc.devRef .tc main_v10)) = val_main_v10 (V0 (Proc.devRef .tc main_v0)) (V0 (Proc.devRef .tc main_arg1)) (V0 (Proc.devRef .tc main_arg2)) := (after_of_writes_sub hostOps1_2 _ hostOps1_2_writes (by decide +kernel)).trans (V2_main_v10 V0)
theorem V3_main_v14 (V0 : Valuation τ sig (Elt F)) : V3 V0 (no_index (Proc.devRef .tc main_v14)) = val_main_v14 (V0 (Proc.devRef .tc main_v0)) (V0 (Proc.devRef .tc main_arg1)) (V0 (Proc.devRef .tc main_arg2)) := (after_of_writes_sub hostOps1_2 _ hostOps1_2_writes (by decide +kernel)).trans (V2_main_v14 V0)
theorem V3_main_v16 (V0 : Valuation τ sig (Elt F)) : V3 V0 (no_index (Proc.devRef .tc main_v16)) = val_main_v16 (V0 (Proc.devRef .tc main_v0)) (V0 (Proc.devRef .tc main_arg1)) (V0 (Proc.devRef .tc main_arg2)) := (after_of_writes_sub hostOps1_2 _ hostOps1_2_writes (by decide +kernel)).trans (V2_main_v16 V0)
theorem V3_main_v32 (V0 : Valuation τ sig (Elt F)) : V3 V0 (no_index (Proc.devRef .tc main_v32)) = val_main_v32 (V0 (Proc.devRef .tc main_arg4)) := (after_of_writes_sub hostOps1_2 _ hostOps1_2_writes (by decide +kernel)).trans (V2_main_v32 V0)
theorem V3_main_v34 (V0 : Valuation τ sig (Elt F)) : V3 V0 (no_index (Proc.devRef .tc main_v34)) = val_main_v34 (V0 (Proc.devRef .tc main_arg4)) := (after_of_writes_sub hostOps1_2 _ hostOps1_2_writes (by decide +kernel)).trans (V2_main_v34 V0)
theorem V3_main_v38 (V0 : Valuation τ sig (Elt F)) : V3 V0 (no_index (Proc.devRef .tc main_v38)) = val_main_v38 (V0 (Proc.devRef .tc main_arg4)) := (after_of_writes_sub hostOps1_2 _ hostOps1_2_writes (by decide +kernel)).trans (V2_main_v38 V0)
set_option maxRecDepth 8192 in
set_option maxHeartbeats 2000000 in
theorem V3_main_v44 (V0 : Valuation τ sig (Elt F)) : V3 V0 (no_index (Proc.devRef .tc main_v44)) = val_main_v44 (V0 (Proc.devRef .tc main_v0)) (V0 (Proc.devRef .tc main_arg1)) (V0 (Proc.devRef .tc main_arg2)) (V0 (Proc.devRef .tc main_arg4)) := by
  unfold V3; simp only [hostOps1_2, TRef.ternary, TRef.unary, TRef.binary, TRef.toBuf, TRef.ofBuf, cast_eq]; after_results_simp
  try simp only [V2_main_v0, V2_main_arg1, V2_main_arg2, V2_main_arg3, V2_main_arg4, V2_main_v10, V2_main_v14, V2_main_v16, V2_main_v32, V2_main_v34, V2_main_v38, V2_main_v40]
  all_goals rfl
set_option maxRecDepth 8192 in
set_option maxHeartbeats 2000000 in
theorem V3_main_v53 (V0 : Valuation τ sig (Elt F)) : V3 V0 (no_index (Proc.devRef .tc main_v53)) = val_main_v53 (V0 (Proc.devRef .tc main_arg3)) := by
  unfold V3; simp only [hostOps1_2, TRef.ternary, TRef.unary, TRef.binary, TRef.toBuf, TRef.ofBuf, cast_eq]; after_results_simp
  try simp only [V2_main_v0, V2_main_arg1, V2_main_arg2, V2_main_arg3, V2_main_arg4, V2_main_v10, V2_main_v14, V2_main_v16, V2_main_v32, V2_main_v34, V2_main_v38, V2_main_v40]
  all_goals rfl
set_option maxRecDepth 8192 in
set_option maxHeartbeats 2000000 in
theorem V3_main_c_7 (V0 : Valuation τ sig (Elt F)) : V3 V0 (no_index (Proc.devRef .tc main_c_7)) = (val_main_c_7 (F := F)) := by
  unfold V3; simp only [hostOps1_2, TRef.ternary, TRef.unary, TRef.binary, TRef.toBuf, TRef.ofBuf, cast_eq]; after_results_simp
  try simp only [V2_main_v0, V2_main_arg1, V2_main_arg2, V2_main_arg3, V2_main_arg4, V2_main_v10, V2_main_v14, V2_main_v16, V2_main_v32, V2_main_v34, V2_main_v38, V2_main_v40]
  all_goals rfl

/-- The contents after the first 4 stretches of operations. -/
def V4 (V0 : Valuation τ sig (Elt F)) : Valuation τ sig (Elt F) := after hostOps1_3 (V3 V0)
theorem V4_main_v0 (V0 : Valuation τ sig (Elt F)) : V4 V0 (no_index (Proc.devRef .tc main_v0)) = V0 (Proc.devRef .tc main_v0) := (after_of_writes_sub hostOps1_3 _ hostOps1_3_writes (by decide +kernel)).trans (V3_main_v0 V0)
theorem V4_main_arg1 (V0 : Valuation τ sig (Elt F)) : V4 V0 (no_index (Proc.devRef .tc main_arg1)) = V0 (Proc.devRef .tc main_arg1) := (after_of_writes_sub hostOps1_3 _ hostOps1_3_writes (by decide +kernel)).trans (V3_main_arg1 V0)
theorem V4_main_arg2 (V0 : Valuation τ sig (Elt F)) : V4 V0 (no_index (Proc.devRef .tc main_arg2)) = V0 (Proc.devRef .tc main_arg2) := (after_of_writes_sub hostOps1_3 _ hostOps1_3_writes (by decide +kernel)).trans (V3_main_arg2 V0)
theorem V4_main_arg3 (V0 : Valuation τ sig (Elt F)) : V4 V0 (no_index (Proc.devRef .tc main_arg3)) = V0 (Proc.devRef .tc main_arg3) := (after_of_writes_sub hostOps1_3 _ hostOps1_3_writes (by decide +kernel)).trans (V3_main_arg3 V0)
theorem V4_main_arg4 (V0 : Valuation τ sig (Elt F)) : V4 V0 (no_index (Proc.devRef .tc main_arg4)) = V0 (Proc.devRef .tc main_arg4) := (after_of_writes_sub hostOps1_3 _ hostOps1_3_writes (by decide +kernel)).trans (V3_main_arg4 V0)
theorem V4_main_v10 (V0 : Valuation τ sig (Elt F)) : V4 V0 (no_index (Proc.devRef .tc main_v10)) = val_main_v10 (V0 (Proc.devRef .tc main_v0)) (V0 (Proc.devRef .tc main_arg1)) (V0 (Proc.devRef .tc main_arg2)) := (after_of_writes_sub hostOps1_3 _ hostOps1_3_writes (by decide +kernel)).trans (V3_main_v10 V0)
theorem V4_main_v14 (V0 : Valuation τ sig (Elt F)) : V4 V0 (no_index (Proc.devRef .tc main_v14)) = val_main_v14 (V0 (Proc.devRef .tc main_v0)) (V0 (Proc.devRef .tc main_arg1)) (V0 (Proc.devRef .tc main_arg2)) := (after_of_writes_sub hostOps1_3 _ hostOps1_3_writes (by decide +kernel)).trans (V3_main_v14 V0)
theorem V4_main_v16 (V0 : Valuation τ sig (Elt F)) : V4 V0 (no_index (Proc.devRef .tc main_v16)) = val_main_v16 (V0 (Proc.devRef .tc main_v0)) (V0 (Proc.devRef .tc main_arg1)) (V0 (Proc.devRef .tc main_arg2)) := (after_of_writes_sub hostOps1_3 _ hostOps1_3_writes (by decide +kernel)).trans (V3_main_v16 V0)
theorem V4_main_v32 (V0 : Valuation τ sig (Elt F)) : V4 V0 (no_index (Proc.devRef .tc main_v32)) = val_main_v32 (V0 (Proc.devRef .tc main_arg4)) := (after_of_writes_sub hostOps1_3 _ hostOps1_3_writes (by decide +kernel)).trans (V3_main_v32 V0)
theorem V4_main_v34 (V0 : Valuation τ sig (Elt F)) : V4 V0 (no_index (Proc.devRef .tc main_v34)) = val_main_v34 (V0 (Proc.devRef .tc main_arg4)) := (after_of_writes_sub hostOps1_3 _ hostOps1_3_writes (by decide +kernel)).trans (V3_main_v34 V0)
theorem V4_main_v38 (V0 : Valuation τ sig (Elt F)) : V4 V0 (no_index (Proc.devRef .tc main_v38)) = val_main_v38 (V0 (Proc.devRef .tc main_arg4)) := (after_of_writes_sub hostOps1_3 _ hostOps1_3_writes (by decide +kernel)).trans (V3_main_v38 V0)
theorem V4_main_v44 (V0 : Valuation τ sig (Elt F)) : V4 V0 (no_index (Proc.devRef .tc main_v44)) = val_main_v44 (V0 (Proc.devRef .tc main_v0)) (V0 (Proc.devRef .tc main_arg1)) (V0 (Proc.devRef .tc main_arg2)) (V0 (Proc.devRef .tc main_arg4)) := (after_of_writes_sub hostOps1_3 _ hostOps1_3_writes (by decide +kernel)).trans (V3_main_v44 V0)
set_option maxRecDepth 8192 in
set_option maxHeartbeats 2000000 in
theorem V4_main_v54 (V0 : Valuation τ sig (Elt F)) : V4 V0 (no_index (Proc.devRef .tc main_v54)) = val_main_v54 (V0 (Proc.devRef .tc main_arg3)) (V0 (Proc.devRef .tc main_arg4)) := by
  unfold V4; simp only [hostOps1_3, TRef.ternary, TRef.unary, TRef.binary, TRef.toBuf, TRef.ofBuf, cast_eq]; after_results_simp
  try simp only [V3_main_v0, V3_main_arg1, V3_main_arg2, V3_main_arg3, V3_main_arg4, V3_main_v10, V3_main_v14, V3_main_v16, V3_main_v32, V3_main_v34, V3_main_v38, V3_main_v44, V3_main_v53, V3_main_c_7]
  all_goals rfl

/-- The contents after the first 5 stretches of operations. -/
def V5 (V0 : Valuation τ sig (Elt F)) : Valuation τ sig (Elt F) := after hostOps1_4 (V4 V0)
theorem V5_main_v0 (V0 : Valuation τ sig (Elt F)) : V5 V0 (no_index (Proc.devRef .tc main_v0)) = V0 (Proc.devRef .tc main_v0) := (after_of_writes_sub hostOps1_4 _ hostOps1_4_writes (by decide +kernel)).trans (V4_main_v0 V0)
theorem V5_main_arg1 (V0 : Valuation τ sig (Elt F)) : V5 V0 (no_index (Proc.devRef .tc main_arg1)) = V0 (Proc.devRef .tc main_arg1) := (after_of_writes_sub hostOps1_4 _ hostOps1_4_writes (by decide +kernel)).trans (V4_main_arg1 V0)
theorem V5_main_arg2 (V0 : Valuation τ sig (Elt F)) : V5 V0 (no_index (Proc.devRef .tc main_arg2)) = V0 (Proc.devRef .tc main_arg2) := (after_of_writes_sub hostOps1_4 _ hostOps1_4_writes (by decide +kernel)).trans (V4_main_arg2 V0)
theorem V5_main_arg3 (V0 : Valuation τ sig (Elt F)) : V5 V0 (no_index (Proc.devRef .tc main_arg3)) = V0 (Proc.devRef .tc main_arg3) := (after_of_writes_sub hostOps1_4 _ hostOps1_4_writes (by decide +kernel)).trans (V4_main_arg3 V0)
theorem V5_main_arg4 (V0 : Valuation τ sig (Elt F)) : V5 V0 (no_index (Proc.devRef .tc main_arg4)) = V0 (Proc.devRef .tc main_arg4) := (after_of_writes_sub hostOps1_4 _ hostOps1_4_writes (by decide +kernel)).trans (V4_main_arg4 V0)
theorem V5_main_v10 (V0 : Valuation τ sig (Elt F)) : V5 V0 (no_index (Proc.devRef .tc main_v10)) = val_main_v10 (V0 (Proc.devRef .tc main_v0)) (V0 (Proc.devRef .tc main_arg1)) (V0 (Proc.devRef .tc main_arg2)) := (after_of_writes_sub hostOps1_4 _ hostOps1_4_writes (by decide +kernel)).trans (V4_main_v10 V0)
theorem V5_main_v14 (V0 : Valuation τ sig (Elt F)) : V5 V0 (no_index (Proc.devRef .tc main_v14)) = val_main_v14 (V0 (Proc.devRef .tc main_v0)) (V0 (Proc.devRef .tc main_arg1)) (V0 (Proc.devRef .tc main_arg2)) := (after_of_writes_sub hostOps1_4 _ hostOps1_4_writes (by decide +kernel)).trans (V4_main_v14 V0)
theorem V5_main_v16 (V0 : Valuation τ sig (Elt F)) : V5 V0 (no_index (Proc.devRef .tc main_v16)) = val_main_v16 (V0 (Proc.devRef .tc main_v0)) (V0 (Proc.devRef .tc main_arg1)) (V0 (Proc.devRef .tc main_arg2)) := (after_of_writes_sub hostOps1_4 _ hostOps1_4_writes (by decide +kernel)).trans (V4_main_v16 V0)
theorem V5_main_v32 (V0 : Valuation τ sig (Elt F)) : V5 V0 (no_index (Proc.devRef .tc main_v32)) = val_main_v32 (V0 (Proc.devRef .tc main_arg4)) := (after_of_writes_sub hostOps1_4 _ hostOps1_4_writes (by decide +kernel)).trans (V4_main_v32 V0)
theorem V5_main_v34 (V0 : Valuation τ sig (Elt F)) : V5 V0 (no_index (Proc.devRef .tc main_v34)) = val_main_v34 (V0 (Proc.devRef .tc main_arg4)) := (after_of_writes_sub hostOps1_4 _ hostOps1_4_writes (by decide +kernel)).trans (V4_main_v34 V0)
theorem V5_main_v38 (V0 : Valuation τ sig (Elt F)) : V5 V0 (no_index (Proc.devRef .tc main_v38)) = val_main_v38 (V0 (Proc.devRef .tc main_arg4)) := (after_of_writes_sub hostOps1_4 _ hostOps1_4_writes (by decide +kernel)).trans (V4_main_v38 V0)
theorem V5_main_v44 (V0 : Valuation τ sig (Elt F)) : V5 V0 (no_index (Proc.devRef .tc main_v44)) = val_main_v44 (V0 (Proc.devRef .tc main_v0)) (V0 (Proc.devRef .tc main_arg1)) (V0 (Proc.devRef .tc main_arg2)) (V0 (Proc.devRef .tc main_arg4)) := (after_of_writes_sub hostOps1_4 _ hostOps1_4_writes (by decide +kernel)).trans (V4_main_v44 V0)
set_option maxRecDepth 8192 in
set_option maxHeartbeats 2000000 in
theorem V5_main_v55 (V0 : Valuation τ sig (Elt F)) : V5 V0 (no_index (Proc.devRef .tc main_v55)) = val_main_v55 (V0 (Proc.devRef .tc main_arg3)) (V0 (Proc.devRef .tc main_arg4)) := by
  unfold V5; simp only [hostOps1_4, TRef.ternary, TRef.unary, TRef.binary, TRef.toBuf, TRef.ofBuf, cast_eq]; after_results_simp
  try simp only [V4_main_v0, V4_main_arg1, V4_main_arg2, V4_main_arg3, V4_main_arg4, V4_main_v10, V4_main_v14, V4_main_v16, V4_main_v32, V4_main_v34, V4_main_v38, V4_main_v44, V4_main_v54]
  all_goals rfl
set_option maxRecDepth 8192 in
set_option maxHeartbeats 2000000 in
theorem V5_main_c_9 (V0 : Valuation τ sig (Elt F)) : V5 V0 (no_index (Proc.devRef .tc main_c_9)) = (val_main_c_9 (F := F)) := by
  unfold V5; simp only [hostOps1_4, TRef.ternary, TRef.unary, TRef.binary, TRef.toBuf, TRef.ofBuf, cast_eq]; after_results_simp
  try simp only [V4_main_v0, V4_main_arg1, V4_main_arg2, V4_main_arg3, V4_main_arg4, V4_main_v10, V4_main_v14, V4_main_v16, V4_main_v32, V4_main_v34, V4_main_v38, V4_main_v44, V4_main_v54]
  all_goals rfl

/-- The contents after the first 6 stretches of operations. -/
def V6 (V0 : Valuation τ sig (Elt F)) : Valuation τ sig (Elt F) := after hostOps1_5 (V5 V0)
theorem V6_main_v0 (V0 : Valuation τ sig (Elt F)) : V6 V0 (no_index (Proc.devRef .tc main_v0)) = V0 (Proc.devRef .tc main_v0) := (after_of_writes_sub hostOps1_5 _ hostOps1_5_writes (by decide +kernel)).trans (V5_main_v0 V0)
theorem V6_main_arg1 (V0 : Valuation τ sig (Elt F)) : V6 V0 (no_index (Proc.devRef .tc main_arg1)) = V0 (Proc.devRef .tc main_arg1) := (after_of_writes_sub hostOps1_5 _ hostOps1_5_writes (by decide +kernel)).trans (V5_main_arg1 V0)
theorem V6_main_arg2 (V0 : Valuation τ sig (Elt F)) : V6 V0 (no_index (Proc.devRef .tc main_arg2)) = V0 (Proc.devRef .tc main_arg2) := (after_of_writes_sub hostOps1_5 _ hostOps1_5_writes (by decide +kernel)).trans (V5_main_arg2 V0)
theorem V6_main_arg3 (V0 : Valuation τ sig (Elt F)) : V6 V0 (no_index (Proc.devRef .tc main_arg3)) = V0 (Proc.devRef .tc main_arg3) := (after_of_writes_sub hostOps1_5 _ hostOps1_5_writes (by decide +kernel)).trans (V5_main_arg3 V0)
theorem V6_main_arg4 (V0 : Valuation τ sig (Elt F)) : V6 V0 (no_index (Proc.devRef .tc main_arg4)) = V0 (Proc.devRef .tc main_arg4) := (after_of_writes_sub hostOps1_5 _ hostOps1_5_writes (by decide +kernel)).trans (V5_main_arg4 V0)
theorem V6_main_v10 (V0 : Valuation τ sig (Elt F)) : V6 V0 (no_index (Proc.devRef .tc main_v10)) = val_main_v10 (V0 (Proc.devRef .tc main_v0)) (V0 (Proc.devRef .tc main_arg1)) (V0 (Proc.devRef .tc main_arg2)) := (after_of_writes_sub hostOps1_5 _ hostOps1_5_writes (by decide +kernel)).trans (V5_main_v10 V0)
theorem V6_main_v14 (V0 : Valuation τ sig (Elt F)) : V6 V0 (no_index (Proc.devRef .tc main_v14)) = val_main_v14 (V0 (Proc.devRef .tc main_v0)) (V0 (Proc.devRef .tc main_arg1)) (V0 (Proc.devRef .tc main_arg2)) := (after_of_writes_sub hostOps1_5 _ hostOps1_5_writes (by decide +kernel)).trans (V5_main_v14 V0)
theorem V6_main_v16 (V0 : Valuation τ sig (Elt F)) : V6 V0 (no_index (Proc.devRef .tc main_v16)) = val_main_v16 (V0 (Proc.devRef .tc main_v0)) (V0 (Proc.devRef .tc main_arg1)) (V0 (Proc.devRef .tc main_arg2)) := (after_of_writes_sub hostOps1_5 _ hostOps1_5_writes (by decide +kernel)).trans (V5_main_v16 V0)
theorem V6_main_v32 (V0 : Valuation τ sig (Elt F)) : V6 V0 (no_index (Proc.devRef .tc main_v32)) = val_main_v32 (V0 (Proc.devRef .tc main_arg4)) := (after_of_writes_sub hostOps1_5 _ hostOps1_5_writes (by decide +kernel)).trans (V5_main_v32 V0)
theorem V6_main_v34 (V0 : Valuation τ sig (Elt F)) : V6 V0 (no_index (Proc.devRef .tc main_v34)) = val_main_v34 (V0 (Proc.devRef .tc main_arg4)) := (after_of_writes_sub hostOps1_5 _ hostOps1_5_writes (by decide +kernel)).trans (V5_main_v34 V0)
theorem V6_main_v38 (V0 : Valuation τ sig (Elt F)) : V6 V0 (no_index (Proc.devRef .tc main_v38)) = val_main_v38 (V0 (Proc.devRef .tc main_arg4)) := (after_of_writes_sub hostOps1_5 _ hostOps1_5_writes (by decide +kernel)).trans (V5_main_v38 V0)
theorem V6_main_v44 (V0 : Valuation τ sig (Elt F)) : V6 V0 (no_index (Proc.devRef .tc main_v44)) = val_main_v44 (V0 (Proc.devRef .tc main_v0)) (V0 (Proc.devRef .tc main_arg1)) (V0 (Proc.devRef .tc main_arg2)) (V0 (Proc.devRef .tc main_arg4)) := (after_of_writes_sub hostOps1_5 _ hostOps1_5_writes (by decide +kernel)).trans (V5_main_v44 V0)
theorem V6_main_v55 (V0 : Valuation τ sig (Elt F)) : V6 V0 (no_index (Proc.devRef .tc main_v55)) = val_main_v55 (V0 (Proc.devRef .tc main_arg3)) (V0 (Proc.devRef .tc main_arg4)) := (after_of_writes_sub hostOps1_5 _ hostOps1_5_writes (by decide +kernel)).trans (V5_main_v55 V0)
set_option maxRecDepth 8192 in
set_option maxHeartbeats 2000000 in
theorem V6_main_v56 (V0 : Valuation τ sig (Elt F)) : V6 V0 (no_index (Proc.devRef .tc main_v56)) = val_main_v56 (V0 (Proc.devRef .tc main_arg3)) := by
  unfold V6; simp only [hostOps1_5, TRef.ternary, TRef.unary, TRef.binary, TRef.toBuf, TRef.ofBuf, cast_eq]; after_results_simp
  try simp only [V5_main_v0, V5_main_arg1, V5_main_arg2, V5_main_arg3, V5_main_arg4, V5_main_v10, V5_main_v14, V5_main_v16, V5_main_v32, V5_main_v34, V5_main_v38, V5_main_v44, V5_main_v55, V5_main_c_9]
  all_goals rfl

/-- The contents after the first 7 stretches of operations. -/
def V7 (V0 : Valuation τ sig (Elt F)) : Valuation τ sig (Elt F) := after hostOps1_6 (V6 V0)
theorem V7_main_v0 (V0 : Valuation τ sig (Elt F)) : V7 V0 (no_index (Proc.devRef .tc main_v0)) = V0 (Proc.devRef .tc main_v0) := (after_of_writes_sub hostOps1_6 _ hostOps1_6_writes (by decide +kernel)).trans (V6_main_v0 V0)
theorem V7_main_arg1 (V0 : Valuation τ sig (Elt F)) : V7 V0 (no_index (Proc.devRef .tc main_arg1)) = V0 (Proc.devRef .tc main_arg1) := (after_of_writes_sub hostOps1_6 _ hostOps1_6_writes (by decide +kernel)).trans (V6_main_arg1 V0)
theorem V7_main_arg2 (V0 : Valuation τ sig (Elt F)) : V7 V0 (no_index (Proc.devRef .tc main_arg2)) = V0 (Proc.devRef .tc main_arg2) := (after_of_writes_sub hostOps1_6 _ hostOps1_6_writes (by decide +kernel)).trans (V6_main_arg2 V0)
theorem V7_main_arg3 (V0 : Valuation τ sig (Elt F)) : V7 V0 (no_index (Proc.devRef .tc main_arg3)) = V0 (Proc.devRef .tc main_arg3) := (after_of_writes_sub hostOps1_6 _ hostOps1_6_writes (by decide +kernel)).trans (V6_main_arg3 V0)
theorem V7_main_arg4 (V0 : Valuation τ sig (Elt F)) : V7 V0 (no_index (Proc.devRef .tc main_arg4)) = V0 (Proc.devRef .tc main_arg4) := (after_of_writes_sub hostOps1_6 _ hostOps1_6_writes (by decide +kernel)).trans (V6_main_arg4 V0)
theorem V7_main_v10 (V0 : Valuation τ sig (Elt F)) : V7 V0 (no_index (Proc.devRef .tc main_v10)) = val_main_v10 (V0 (Proc.devRef .tc main_v0)) (V0 (Proc.devRef .tc main_arg1)) (V0 (Proc.devRef .tc main_arg2)) := (after_of_writes_sub hostOps1_6 _ hostOps1_6_writes (by decide +kernel)).trans (V6_main_v10 V0)
theorem V7_main_v14 (V0 : Valuation τ sig (Elt F)) : V7 V0 (no_index (Proc.devRef .tc main_v14)) = val_main_v14 (V0 (Proc.devRef .tc main_v0)) (V0 (Proc.devRef .tc main_arg1)) (V0 (Proc.devRef .tc main_arg2)) := (after_of_writes_sub hostOps1_6 _ hostOps1_6_writes (by decide +kernel)).trans (V6_main_v14 V0)
theorem V7_main_v16 (V0 : Valuation τ sig (Elt F)) : V7 V0 (no_index (Proc.devRef .tc main_v16)) = val_main_v16 (V0 (Proc.devRef .tc main_v0)) (V0 (Proc.devRef .tc main_arg1)) (V0 (Proc.devRef .tc main_arg2)) := (after_of_writes_sub hostOps1_6 _ hostOps1_6_writes (by decide +kernel)).trans (V6_main_v16 V0)
theorem V7_main_v32 (V0 : Valuation τ sig (Elt F)) : V7 V0 (no_index (Proc.devRef .tc main_v32)) = val_main_v32 (V0 (Proc.devRef .tc main_arg4)) := (after_of_writes_sub hostOps1_6 _ hostOps1_6_writes (by decide +kernel)).trans (V6_main_v32 V0)
theorem V7_main_v34 (V0 : Valuation τ sig (Elt F)) : V7 V0 (no_index (Proc.devRef .tc main_v34)) = val_main_v34 (V0 (Proc.devRef .tc main_arg4)) := (after_of_writes_sub hostOps1_6 _ hostOps1_6_writes (by decide +kernel)).trans (V6_main_v34 V0)
theorem V7_main_v38 (V0 : Valuation τ sig (Elt F)) : V7 V0 (no_index (Proc.devRef .tc main_v38)) = val_main_v38 (V0 (Proc.devRef .tc main_arg4)) := (after_of_writes_sub hostOps1_6 _ hostOps1_6_writes (by decide +kernel)).trans (V6_main_v38 V0)
theorem V7_main_v44 (V0 : Valuation τ sig (Elt F)) : V7 V0 (no_index (Proc.devRef .tc main_v44)) = val_main_v44 (V0 (Proc.devRef .tc main_v0)) (V0 (Proc.devRef .tc main_arg1)) (V0 (Proc.devRef .tc main_arg2)) (V0 (Proc.devRef .tc main_arg4)) := (after_of_writes_sub hostOps1_6 _ hostOps1_6_writes (by decide +kernel)).trans (V6_main_v44 V0)
theorem V7_main_v55 (V0 : Valuation τ sig (Elt F)) : V7 V0 (no_index (Proc.devRef .tc main_v55)) = val_main_v55 (V0 (Proc.devRef .tc main_arg3)) (V0 (Proc.devRef .tc main_arg4)) := (after_of_writes_sub hostOps1_6 _ hostOps1_6_writes (by decide +kernel)).trans (V6_main_v55 V0)
set_option maxRecDepth 8192 in
set_option maxHeartbeats 2000000 in
theorem V7_main_v65 (V0 : Valuation τ sig (Elt F)) : V7 V0 (no_index (Proc.devRef .tc main_v65)) = val_main_v65 (V0 (Proc.devRef .tc main_arg3)) := by
  unfold V7; simp only [hostOps1_6, TRef.ternary, TRef.unary, TRef.binary, TRef.toBuf, TRef.ofBuf, cast_eq]; after_results_simp
  try simp only [V6_main_v0, V6_main_arg1, V6_main_arg2, V6_main_arg3, V6_main_arg4, V6_main_v10, V6_main_v14, V6_main_v16, V6_main_v32, V6_main_v34, V6_main_v38, V6_main_v44, V6_main_v55, V6_main_v56]
  all_goals rfl
set_option maxRecDepth 8192 in
set_option maxHeartbeats 2000000 in
theorem V7_main_c_11 (V0 : Valuation τ sig (Elt F)) : V7 V0 (no_index (Proc.devRef .tc main_c_11)) = (val_main_c_11 (F := F)) := by
  unfold V7; simp only [hostOps1_6, TRef.ternary, TRef.unary, TRef.binary, TRef.toBuf, TRef.ofBuf, cast_eq]; after_results_simp
  try simp only [V6_main_v0, V6_main_arg1, V6_main_arg2, V6_main_arg3, V6_main_arg4, V6_main_v10, V6_main_v14, V6_main_v16, V6_main_v32, V6_main_v34, V6_main_v38, V6_main_v44, V6_main_v55, V6_main_v56]
  all_goals rfl

/-- The contents after the first 8 stretches of operations. -/
def V8 (V0 : Valuation τ sig (Elt F)) : Valuation τ sig (Elt F) := after hostOps1_7 (V7 V0)
theorem V8_main_v0 (V0 : Valuation τ sig (Elt F)) : V8 V0 (no_index (Proc.devRef .tc main_v0)) = V0 (Proc.devRef .tc main_v0) := (after_of_writes_sub hostOps1_7 _ hostOps1_7_writes (by decide +kernel)).trans (V7_main_v0 V0)
theorem V8_main_arg1 (V0 : Valuation τ sig (Elt F)) : V8 V0 (no_index (Proc.devRef .tc main_arg1)) = V0 (Proc.devRef .tc main_arg1) := (after_of_writes_sub hostOps1_7 _ hostOps1_7_writes (by decide +kernel)).trans (V7_main_arg1 V0)
theorem V8_main_arg2 (V0 : Valuation τ sig (Elt F)) : V8 V0 (no_index (Proc.devRef .tc main_arg2)) = V0 (Proc.devRef .tc main_arg2) := (after_of_writes_sub hostOps1_7 _ hostOps1_7_writes (by decide +kernel)).trans (V7_main_arg2 V0)
theorem V8_main_arg3 (V0 : Valuation τ sig (Elt F)) : V8 V0 (no_index (Proc.devRef .tc main_arg3)) = V0 (Proc.devRef .tc main_arg3) := (after_of_writes_sub hostOps1_7 _ hostOps1_7_writes (by decide +kernel)).trans (V7_main_arg3 V0)
theorem V8_main_arg4 (V0 : Valuation τ sig (Elt F)) : V8 V0 (no_index (Proc.devRef .tc main_arg4)) = V0 (Proc.devRef .tc main_arg4) := (after_of_writes_sub hostOps1_7 _ hostOps1_7_writes (by decide +kernel)).trans (V7_main_arg4 V0)
theorem V8_main_v10 (V0 : Valuation τ sig (Elt F)) : V8 V0 (no_index (Proc.devRef .tc main_v10)) = val_main_v10 (V0 (Proc.devRef .tc main_v0)) (V0 (Proc.devRef .tc main_arg1)) (V0 (Proc.devRef .tc main_arg2)) := (after_of_writes_sub hostOps1_7 _ hostOps1_7_writes (by decide +kernel)).trans (V7_main_v10 V0)
theorem V8_main_v14 (V0 : Valuation τ sig (Elt F)) : V8 V0 (no_index (Proc.devRef .tc main_v14)) = val_main_v14 (V0 (Proc.devRef .tc main_v0)) (V0 (Proc.devRef .tc main_arg1)) (V0 (Proc.devRef .tc main_arg2)) := (after_of_writes_sub hostOps1_7 _ hostOps1_7_writes (by decide +kernel)).trans (V7_main_v14 V0)
theorem V8_main_v16 (V0 : Valuation τ sig (Elt F)) : V8 V0 (no_index (Proc.devRef .tc main_v16)) = val_main_v16 (V0 (Proc.devRef .tc main_v0)) (V0 (Proc.devRef .tc main_arg1)) (V0 (Proc.devRef .tc main_arg2)) := (after_of_writes_sub hostOps1_7 _ hostOps1_7_writes (by decide +kernel)).trans (V7_main_v16 V0)
theorem V8_main_v32 (V0 : Valuation τ sig (Elt F)) : V8 V0 (no_index (Proc.devRef .tc main_v32)) = val_main_v32 (V0 (Proc.devRef .tc main_arg4)) := (after_of_writes_sub hostOps1_7 _ hostOps1_7_writes (by decide +kernel)).trans (V7_main_v32 V0)
theorem V8_main_v38 (V0 : Valuation τ sig (Elt F)) : V8 V0 (no_index (Proc.devRef .tc main_v38)) = val_main_v38 (V0 (Proc.devRef .tc main_arg4)) := (after_of_writes_sub hostOps1_7 _ hostOps1_7_writes (by decide +kernel)).trans (V7_main_v38 V0)
theorem V8_main_v44 (V0 : Valuation τ sig (Elt F)) : V8 V0 (no_index (Proc.devRef .tc main_v44)) = val_main_v44 (V0 (Proc.devRef .tc main_v0)) (V0 (Proc.devRef .tc main_arg1)) (V0 (Proc.devRef .tc main_arg2)) (V0 (Proc.devRef .tc main_arg4)) := (after_of_writes_sub hostOps1_7 _ hostOps1_7_writes (by decide +kernel)).trans (V7_main_v44 V0)
theorem V8_main_v55 (V0 : Valuation τ sig (Elt F)) : V8 V0 (no_index (Proc.devRef .tc main_v55)) = val_main_v55 (V0 (Proc.devRef .tc main_arg3)) (V0 (Proc.devRef .tc main_arg4)) := (after_of_writes_sub hostOps1_7 _ hostOps1_7_writes (by decide +kernel)).trans (V7_main_v55 V0)
set_option maxRecDepth 8192 in
set_option maxHeartbeats 2000000 in
theorem V8_main_v66 (V0 : Valuation τ sig (Elt F)) : V8 V0 (no_index (Proc.devRef .tc main_v66)) = val_main_v66 (V0 (Proc.devRef .tc main_arg3)) (V0 (Proc.devRef .tc main_arg4)) := by
  unfold V8; simp only [hostOps1_7, TRef.ternary, TRef.unary, TRef.binary, TRef.toBuf, TRef.ofBuf, cast_eq]; after_results_simp
  try simp only [V7_main_v0, V7_main_arg1, V7_main_arg2, V7_main_arg3, V7_main_arg4, V7_main_v10, V7_main_v14, V7_main_v16, V7_main_v32, V7_main_v34, V7_main_v38, V7_main_v44, V7_main_v55, V7_main_v65, V7_main_c_11]
  all_goals rfl

/-- The contents after the first 9 stretches of operations. -/
def V9 (V0 : Valuation τ sig (Elt F)) : Valuation τ sig (Elt F) := after hostOps1_8 (V8 V0)
theorem V9_main_v0 (V0 : Valuation τ sig (Elt F)) : V9 V0 (no_index (Proc.devRef .tc main_v0)) = V0 (Proc.devRef .tc main_v0) := (after_of_writes_sub hostOps1_8 _ hostOps1_8_writes (by decide +kernel)).trans (V8_main_v0 V0)
theorem V9_main_arg1 (V0 : Valuation τ sig (Elt F)) : V9 V0 (no_index (Proc.devRef .tc main_arg1)) = V0 (Proc.devRef .tc main_arg1) := (after_of_writes_sub hostOps1_8 _ hostOps1_8_writes (by decide +kernel)).trans (V8_main_arg1 V0)
theorem V9_main_arg2 (V0 : Valuation τ sig (Elt F)) : V9 V0 (no_index (Proc.devRef .tc main_arg2)) = V0 (Proc.devRef .tc main_arg2) := (after_of_writes_sub hostOps1_8 _ hostOps1_8_writes (by decide +kernel)).trans (V8_main_arg2 V0)
theorem V9_main_arg3 (V0 : Valuation τ sig (Elt F)) : V9 V0 (no_index (Proc.devRef .tc main_arg3)) = V0 (Proc.devRef .tc main_arg3) := (after_of_writes_sub hostOps1_8 _ hostOps1_8_writes (by decide +kernel)).trans (V8_main_arg3 V0)
theorem V9_main_arg4 (V0 : Valuation τ sig (Elt F)) : V9 V0 (no_index (Proc.devRef .tc main_arg4)) = V0 (Proc.devRef .tc main_arg4) := (after_of_writes_sub hostOps1_8 _ hostOps1_8_writes (by decide +kernel)).trans (V8_main_arg4 V0)
theorem V9_main_v10 (V0 : Valuation τ sig (Elt F)) : V9 V0 (no_index (Proc.devRef .tc main_v10)) = val_main_v10 (V0 (Proc.devRef .tc main_v0)) (V0 (Proc.devRef .tc main_arg1)) (V0 (Proc.devRef .tc main_arg2)) := (after_of_writes_sub hostOps1_8 _ hostOps1_8_writes (by decide +kernel)).trans (V8_main_v10 V0)
theorem V9_main_v14 (V0 : Valuation τ sig (Elt F)) : V9 V0 (no_index (Proc.devRef .tc main_v14)) = val_main_v14 (V0 (Proc.devRef .tc main_v0)) (V0 (Proc.devRef .tc main_arg1)) (V0 (Proc.devRef .tc main_arg2)) := (after_of_writes_sub hostOps1_8 _ hostOps1_8_writes (by decide +kernel)).trans (V8_main_v14 V0)
theorem V9_main_v16 (V0 : Valuation τ sig (Elt F)) : V9 V0 (no_index (Proc.devRef .tc main_v16)) = val_main_v16 (V0 (Proc.devRef .tc main_v0)) (V0 (Proc.devRef .tc main_arg1)) (V0 (Proc.devRef .tc main_arg2)) := (after_of_writes_sub hostOps1_8 _ hostOps1_8_writes (by decide +kernel)).trans (V8_main_v16 V0)
theorem V9_main_v44 (V0 : Valuation τ sig (Elt F)) : V9 V0 (no_index (Proc.devRef .tc main_v44)) = val_main_v44 (V0 (Proc.devRef .tc main_v0)) (V0 (Proc.devRef .tc main_arg1)) (V0 (Proc.devRef .tc main_arg2)) (V0 (Proc.devRef .tc main_arg4)) := (after_of_writes_sub hostOps1_8 _ hostOps1_8_writes (by decide +kernel)).trans (V8_main_v44 V0)
theorem V9_main_v55 (V0 : Valuation τ sig (Elt F)) : V9 V0 (no_index (Proc.devRef .tc main_v55)) = val_main_v55 (V0 (Proc.devRef .tc main_arg3)) (V0 (Proc.devRef .tc main_arg4)) := (after_of_writes_sub hostOps1_8 _ hostOps1_8_writes (by decide +kernel)).trans (V8_main_v55 V0)
set_option maxRecDepth 8192 in
set_option maxHeartbeats 2000000 in
theorem V9_main_v67 (V0 : Valuation τ sig (Elt F)) : V9 V0 (no_index (Proc.devRef .tc main_v67)) = val_main_v67 (V0 (Proc.devRef .tc main_arg3)) (V0 (Proc.devRef .tc main_arg4)) := by
  unfold V9; simp only [hostOps1_8, TRef.ternary, TRef.unary, TRef.binary, TRef.toBuf, TRef.ofBuf, cast_eq]; after_results_simp
  try simp only [V8_main_v0, V8_main_arg1, V8_main_arg2, V8_main_arg3, V8_main_arg4, V8_main_v10, V8_main_v14, V8_main_v16, V8_main_v32, V8_main_v38, V8_main_v44, V8_main_v55, V8_main_v66]
  all_goals rfl
set_option maxRecDepth 8192 in
set_option maxHeartbeats 2000000 in
theorem V9_main_v89 (V0 : Valuation τ sig (Elt F)) : V9 V0 (no_index (Proc.devRef .tc main_v89)) = val_main_v89 (V0 (Proc.devRef .tc main_v0)) (V0 (Proc.devRef .tc main_arg1)) (V0 (Proc.devRef .tc main_arg2)) (V0 (Proc.devRef .tc main_arg3)) (V0 (Proc.devRef .tc main_arg4)) := by
  unfold V9; simp only [hostOps1_8, TRef.ternary, TRef.unary, TRef.binary, TRef.toBuf, TRef.ofBuf, cast_eq]; after_results_simp
  try simp only [V8_main_v0, V8_main_arg1, V8_main_arg2, V8_main_arg3, V8_main_arg4, V8_main_v10, V8_main_v14, V8_main_v16, V8_main_v32, V8_main_v38, V8_main_v44, V8_main_v55, V8_main_v66]
  all_goals rfl
set_option maxRecDepth 8192 in
set_option maxHeartbeats 2000000 in
theorem V9_main_v93 (V0 : Valuation τ sig (Elt F)) : V9 V0 (no_index (Proc.devRef .tc main_v93)) = val_main_v93 (V0 (Proc.devRef .tc main_v0)) (V0 (Proc.devRef .tc main_arg1)) (V0 (Proc.devRef .tc main_arg2)) (V0 (Proc.devRef .tc main_arg3)) (V0 (Proc.devRef .tc main_arg4)) := by
  unfold V9; simp only [hostOps1_8, TRef.ternary, TRef.unary, TRef.binary, TRef.toBuf, TRef.ofBuf, cast_eq]; after_results_simp
  try simp only [V8_main_v0, V8_main_arg1, V8_main_arg2, V8_main_arg3, V8_main_arg4, V8_main_v10, V8_main_v14, V8_main_v16, V8_main_v32, V8_main_v38, V8_main_v44, V8_main_v55, V8_main_v66]
  all_goals rfl
set_option maxRecDepth 8192 in
set_option maxHeartbeats 2000000 in
theorem V9_main_v97 (V0 : Valuation τ sig (Elt F)) : V9 V0 (no_index (Proc.devRef .tc main_v97)) = val_main_v97 (V0 (Proc.devRef .tc main_v0)) (V0 (Proc.devRef .tc main_arg1)) (V0 (Proc.devRef .tc main_arg2)) (V0 (Proc.devRef .tc main_arg3)) (V0 (Proc.devRef .tc main_arg4)) := by
  unfold V9; simp only [hostOps1_8, TRef.ternary, TRef.unary, TRef.binary, TRef.toBuf, TRef.ofBuf, cast_eq]; after_results_simp
  try simp only [V8_main_v0, V8_main_arg1, V8_main_arg2, V8_main_arg3, V8_main_arg4, V8_main_v10, V8_main_v14, V8_main_v16, V8_main_v32, V8_main_v38, V8_main_v44, V8_main_v55, V8_main_v66]
  all_goals rfl
set_option maxRecDepth 8192 in
set_option maxHeartbeats 2000000 in
theorem V9_main_v114 (V0 : Valuation τ sig (Elt F)) : V9 V0 (no_index (Proc.devRef .tc main_v114)) = val_main_v114 (V0 (Proc.devRef .tc main_arg4)) := by
  unfold V9; simp only [hostOps1_8, TRef.ternary, TRef.unary, TRef.binary, TRef.toBuf, TRef.ofBuf, cast_eq]; after_results_simp
  try simp only [V8_main_v0, V8_main_arg1, V8_main_arg2, V8_main_arg3, V8_main_arg4, V8_main_v10, V8_main_v14, V8_main_v16, V8_main_v32, V8_main_v38, V8_main_v44, V8_main_v55, V8_main_v66]
  all_goals rfl
set_option maxRecDepth 8192 in
set_option maxHeartbeats 2000000 in
theorem V9_main_v115 (V0 : Valuation τ sig (Elt F)) : V9 V0 (no_index (Proc.devRef .tc main_v115)) = val_main_v115 (V0 (Proc.devRef .tc main_arg3)) (V0 (Proc.devRef .tc main_arg4)) := by
  unfold V9; simp only [hostOps1_8, TRef.ternary, TRef.unary, TRef.binary, TRef.toBuf, TRef.ofBuf, cast_eq]; after_results_simp
  try simp only [V8_main_v0, V8_main_arg1, V8_main_arg2, V8_main_arg3, V8_main_arg4, V8_main_v10, V8_main_v14, V8_main_v16, V8_main_v32, V8_main_v38, V8_main_v44, V8_main_v55, V8_main_v66]
  all_goals rfl
set_option maxRecDepth 8192 in
set_option maxHeartbeats 2000000 in
theorem V9_main_cst_28 (V0 : Valuation τ sig (Elt F)) : V9 V0 (no_index (Proc.devRef .tc main_cst_28)) = (val_main_cst_28 (F := F)) := by
  unfold V9; simp only [hostOps1_8, TRef.ternary, TRef.unary, TRef.binary, TRef.toBuf, TRef.ofBuf, cast_eq]; after_results_simp
  try simp only [V8_main_v0, V8_main_arg1, V8_main_arg2, V8_main_arg3, V8_main_arg4, V8_main_v10, V8_main_v14, V8_main_v16, V8_main_v32, V8_main_v38, V8_main_v44, V8_main_v55, V8_main_v66]
  all_goals rfl

/-- The contents after the first 10 stretches of operations. -/
def V10 (V0 : Valuation τ sig (Elt F)) : Valuation τ sig (Elt F) := after hostOps1_9 (V9 V0)
theorem V10_main_v0 (V0 : Valuation τ sig (Elt F)) : V10 V0 (no_index (Proc.devRef .tc main_v0)) = V0 (Proc.devRef .tc main_v0) := (after_of_writes_sub hostOps1_9 _ hostOps1_9_writes (by decide +kernel)).trans (V9_main_v0 V0)
theorem V10_main_arg1 (V0 : Valuation τ sig (Elt F)) : V10 V0 (no_index (Proc.devRef .tc main_arg1)) = V0 (Proc.devRef .tc main_arg1) := (after_of_writes_sub hostOps1_9 _ hostOps1_9_writes (by decide +kernel)).trans (V9_main_arg1 V0)
theorem V10_main_arg2 (V0 : Valuation τ sig (Elt F)) : V10 V0 (no_index (Proc.devRef .tc main_arg2)) = V0 (Proc.devRef .tc main_arg2) := (after_of_writes_sub hostOps1_9 _ hostOps1_9_writes (by decide +kernel)).trans (V9_main_arg2 V0)
theorem V10_main_arg3 (V0 : Valuation τ sig (Elt F)) : V10 V0 (no_index (Proc.devRef .tc main_arg3)) = V0 (Proc.devRef .tc main_arg3) := (after_of_writes_sub hostOps1_9 _ hostOps1_9_writes (by decide +kernel)).trans (V9_main_arg3 V0)
theorem V10_main_arg4 (V0 : Valuation τ sig (Elt F)) : V10 V0 (no_index (Proc.devRef .tc main_arg4)) = V0 (Proc.devRef .tc main_arg4) := (after_of_writes_sub hostOps1_9 _ hostOps1_9_writes (by decide +kernel)).trans (V9_main_arg4 V0)
theorem V10_main_v10 (V0 : Valuation τ sig (Elt F)) : V10 V0 (no_index (Proc.devRef .tc main_v10)) = val_main_v10 (V0 (Proc.devRef .tc main_v0)) (V0 (Proc.devRef .tc main_arg1)) (V0 (Proc.devRef .tc main_arg2)) := (after_of_writes_sub hostOps1_9 _ hostOps1_9_writes (by decide +kernel)).trans (V9_main_v10 V0)
theorem V10_main_v14 (V0 : Valuation τ sig (Elt F)) : V10 V0 (no_index (Proc.devRef .tc main_v14)) = val_main_v14 (V0 (Proc.devRef .tc main_v0)) (V0 (Proc.devRef .tc main_arg1)) (V0 (Proc.devRef .tc main_arg2)) := (after_of_writes_sub hostOps1_9 _ hostOps1_9_writes (by decide +kernel)).trans (V9_main_v14 V0)
theorem V10_main_v16 (V0 : Valuation τ sig (Elt F)) : V10 V0 (no_index (Proc.devRef .tc main_v16)) = val_main_v16 (V0 (Proc.devRef .tc main_v0)) (V0 (Proc.devRef .tc main_arg1)) (V0 (Proc.devRef .tc main_arg2)) := (after_of_writes_sub hostOps1_9 _ hostOps1_9_writes (by decide +kernel)).trans (V9_main_v16 V0)
theorem V10_main_v44 (V0 : Valuation τ sig (Elt F)) : V10 V0 (no_index (Proc.devRef .tc main_v44)) = val_main_v44 (V0 (Proc.devRef .tc main_v0)) (V0 (Proc.devRef .tc main_arg1)) (V0 (Proc.devRef .tc main_arg2)) (V0 (Proc.devRef .tc main_arg4)) := (after_of_writes_sub hostOps1_9 _ hostOps1_9_writes (by decide +kernel)).trans (V9_main_v44 V0)
theorem V10_main_v55 (V0 : Valuation τ sig (Elt F)) : V10 V0 (no_index (Proc.devRef .tc main_v55)) = val_main_v55 (V0 (Proc.devRef .tc main_arg3)) (V0 (Proc.devRef .tc main_arg4)) := (after_of_writes_sub hostOps1_9 _ hostOps1_9_writes (by decide +kernel)).trans (V9_main_v55 V0)
theorem V10_main_v67 (V0 : Valuation τ sig (Elt F)) : V10 V0 (no_index (Proc.devRef .tc main_v67)) = val_main_v67 (V0 (Proc.devRef .tc main_arg3)) (V0 (Proc.devRef .tc main_arg4)) := (after_of_writes_sub hostOps1_9 _ hostOps1_9_writes (by decide +kernel)).trans (V9_main_v67 V0)
theorem V10_main_v89 (V0 : Valuation τ sig (Elt F)) : V10 V0 (no_index (Proc.devRef .tc main_v89)) = val_main_v89 (V0 (Proc.devRef .tc main_v0)) (V0 (Proc.devRef .tc main_arg1)) (V0 (Proc.devRef .tc main_arg2)) (V0 (Proc.devRef .tc main_arg3)) (V0 (Proc.devRef .tc main_arg4)) := (after_of_writes_sub hostOps1_9 _ hostOps1_9_writes (by decide +kernel)).trans (V9_main_v89 V0)
theorem V10_main_v93 (V0 : Valuation τ sig (Elt F)) : V10 V0 (no_index (Proc.devRef .tc main_v93)) = val_main_v93 (V0 (Proc.devRef .tc main_v0)) (V0 (Proc.devRef .tc main_arg1)) (V0 (Proc.devRef .tc main_arg2)) (V0 (Proc.devRef .tc main_arg3)) (V0 (Proc.devRef .tc main_arg4)) := (after_of_writes_sub hostOps1_9 _ hostOps1_9_writes (by decide +kernel)).trans (V9_main_v93 V0)
theorem V10_main_v97 (V0 : Valuation τ sig (Elt F)) : V10 V0 (no_index (Proc.devRef .tc main_v97)) = val_main_v97 (V0 (Proc.devRef .tc main_v0)) (V0 (Proc.devRef .tc main_arg1)) (V0 (Proc.devRef .tc main_arg2)) (V0 (Proc.devRef .tc main_arg3)) (V0 (Proc.devRef .tc main_arg4)) := (after_of_writes_sub hostOps1_9 _ hostOps1_9_writes (by decide +kernel)).trans (V9_main_v97 V0)
set_option maxRecDepth 8192 in
set_option maxHeartbeats 2000000 in
theorem V10_main_v116 (V0 : Valuation τ sig (Elt F)) : V10 V0 (no_index (Proc.devRef .tc main_v116)) = val_main_v116 (V0 (Proc.devRef .tc main_arg3)) (V0 (Proc.devRef .tc main_arg4)) := by
  unfold V10; simp only [hostOps1_9, TRef.ternary, TRef.unary, TRef.binary, TRef.toBuf, TRef.ofBuf, cast_eq]; after_results_simp
  try simp only [V9_main_v0, V9_main_arg1, V9_main_arg2, V9_main_arg3, V9_main_arg4, V9_main_v10, V9_main_v14, V9_main_v16, V9_main_v44, V9_main_v55, V9_main_v67, V9_main_v89, V9_main_v93, V9_main_v97, V9_main_v114, V9_main_v115, V9_main_cst_28]
  all_goals rfl

/-- The contents after the first 11 stretches of operations. -/
def V11 (V0 : Valuation τ sig (Elt F)) : Valuation τ sig (Elt F) := after hostOps1_10 (V10 V0)
theorem V11_main_v44 (V0 : Valuation τ sig (Elt F)) : V11 V0 (no_index (Proc.devRef .tc main_v44)) = val_main_v44 (V0 (Proc.devRef .tc main_v0)) (V0 (Proc.devRef .tc main_arg1)) (V0 (Proc.devRef .tc main_arg2)) (V0 (Proc.devRef .tc main_arg4)) := (after_of_writes_sub hostOps1_10 _ hostOps1_10_writes (by decide +kernel)).trans (V10_main_v44 V0)
theorem V11_main_v55 (V0 : Valuation τ sig (Elt F)) : V11 V0 (no_index (Proc.devRef .tc main_v55)) = val_main_v55 (V0 (Proc.devRef .tc main_arg3)) (V0 (Proc.devRef .tc main_arg4)) := (after_of_writes_sub hostOps1_10 _ hostOps1_10_writes (by decide +kernel)).trans (V10_main_v55 V0)
theorem V11_main_v67 (V0 : Valuation τ sig (Elt F)) : V11 V0 (no_index (Proc.devRef .tc main_v67)) = val_main_v67 (V0 (Proc.devRef .tc main_arg3)) (V0 (Proc.devRef .tc main_arg4)) := (after_of_writes_sub hostOps1_10 _ hostOps1_10_writes (by decide +kernel)).trans (V10_main_v67 V0)
theorem V11_main_v89 (V0 : Valuation τ sig (Elt F)) : V11 V0 (no_index (Proc.devRef .tc main_v89)) = val_main_v89 (V0 (Proc.devRef .tc main_v0)) (V0 (Proc.devRef .tc main_arg1)) (V0 (Proc.devRef .tc main_arg2)) (V0 (Proc.devRef .tc main_arg3)) (V0 (Proc.devRef .tc main_arg4)) := (after_of_writes_sub hostOps1_10 _ hostOps1_10_writes (by decide +kernel)).trans (V10_main_v89 V0)
theorem V11_main_v93 (V0 : Valuation τ sig (Elt F)) : V11 V0 (no_index (Proc.devRef .tc main_v93)) = val_main_v93 (V0 (Proc.devRef .tc main_v0)) (V0 (Proc.devRef .tc main_arg1)) (V0 (Proc.devRef .tc main_arg2)) (V0 (Proc.devRef .tc main_arg3)) (V0 (Proc.devRef .tc main_arg4)) := (after_of_writes_sub hostOps1_10 _ hostOps1_10_writes (by decide +kernel)).trans (V10_main_v93 V0)
theorem V11_main_v97 (V0 : Valuation τ sig (Elt F)) : V11 V0 (no_index (Proc.devRef .tc main_v97)) = val_main_v97 (V0 (Proc.devRef .tc main_v0)) (V0 (Proc.devRef .tc main_arg1)) (V0 (Proc.devRef .tc main_arg2)) (V0 (Proc.devRef .tc main_arg3)) (V0 (Proc.devRef .tc main_arg4)) := (after_of_writes_sub hostOps1_10 _ hostOps1_10_writes (by decide +kernel)).trans (V10_main_v97 V0)
set_option maxRecDepth 8192 in
set_option maxHeartbeats 2000000 in
theorem V11_main_v128 (V0 : Valuation τ sig (Elt F)) : V11 V0 (no_index (Proc.devRef .tc main_v128)) = val_main_v128 (V0 (Proc.devRef .tc main_v0)) (V0 (Proc.devRef .tc main_arg1)) (V0 (Proc.devRef .tc main_arg2)) (V0 (Proc.devRef .tc main_arg3)) (V0 (Proc.devRef .tc main_arg4)) := by
  unfold V11; simp only [hostOps1_10, TRef.ternary, TRef.unary, TRef.binary, TRef.toBuf, TRef.ofBuf, cast_eq]; after_results_simp
  try simp only [V10_main_v0, V10_main_arg1, V10_main_arg2, V10_main_arg3, V10_main_arg4, V10_main_v10, V10_main_v14, V10_main_v16, V10_main_v44, V10_main_v55, V10_main_v67, V10_main_v89, V10_main_v93, V10_main_v97, V10_main_v116]
  all_goals rfl

end Cert.ReferenceIdeal.Stages

end
-- ==== Proof.RefSpec.lean ====
module

public import proofs.«01_k».proof.Proof.RefStages
public import proofs.«01_k».proof.Proof.Spec
public import proofs.«01_k».proof.Proof.Words

@[expose] public section

set_option maxRecDepth 16384

noncomputable section

namespace Cert.ReferenceIdeal.Stages

open Cert.ReferenceIdeal Cert.ReferenceIdeal.Gen Idealize.ShloMosaic Idealize.ShloMosaic.TcCoe Idealize.ShloMosaic.Pointwise
open Cert.Spec Cert.Words

variable (x0 : Vec Ideal S2048x12288 .bf16) (x1 : Vec Ideal S2048 .f32) (x2 : Vec Ideal S12288x160 .bf16)
  (x3 : Vec Ideal S2048x6 .i32) (x4 : Vec Ideal S6 .i32)

/-- The inputs of the problem, read from the arguments. -/
def ins : Inputs where
  x t k := x0 (ix2 t k)
  sc t := x1 (ix1 t)
  w k e := x2 (ix2 k e)
  id t j := x3 (ix2 t j)
  off i := x4 (ix1 i)

theorem v10_apply (t : Fin 2048) (e : Fin 160) :
    val_main_v10 x0 x1 x2 (ix2 t e) = sg (ins x0 x1 x2 x3 x4) t e := by
  unfold sg z
  pointwise [val_main_v10, val_main_v9, val_main_cst_0, val_main_v8, val_main_v7, val_main_cst, val_main_v6, val_main_v5, val_main_v4, val_main_v3, val_main_v2, val_main_v1]
  rfl

theorem v14_apply (t : Fin 2048) :
    val_main_v14 x0 x1 x2 (ix2 t 0) = Spec.inv (ins x0 x1 x2 x3 x4) t := by
  unfold Spec.inv
  pointwise [val_main_v14, val_main_v13, val_main_cst_2, val_main_v12, val_main_v11, val_main_cst_1, v10_apply x0 x1 x2 x3 x4]

theorem v16_apply (t : Fin 2048) (e : Fin 160) :
    val_main_v16 x0 x1 x2 (ix2 t e) = s (ins x0 x1 x2 x3 x4) t e := by
  unfold s
  pointwise [val_main_v16, val_main_v15, v14_apply x0 x1 x2 x3 x4, v10_apply x0 x1 x2 x3 x4]

theorem v26_apply (t : Fin 2048) : val_main_v26 (F := Ideal) x4 (ix1 t) = seg (ins x0 x1 x2 x3 x4) t := by
  unfold seg before
  pointwise [val_main_v26, val_main_v25, val_main_c_3, val_main_v24, val_main_v23, val_main_v22, val_main_v21, val_main_v20, val_main_v19, val_main_v18, val_main_v17, val_main_c]
  simp only [cmpi_sle, widen, fold_addi]
  rfl

theorem v32_apply (t : Fin 2048) (q : Fin 5) :
    val_main_v32 (F := Ideal) x4 (ix2 t q) = BitVec.ofBool (decide (mem (ins x0 x1 x2 x3 x4) q t)) := by
  pointwise [val_main_v32, val_main_v30, val_main_v27, val_main_v31, val_main_v29, val_main_v28, v26_apply x0 x1 x2 x3 x4]
  rw [cmpi_eq]; rfl

theorem v38_apply (q : Fin 5) : val_main_v38 (F := Ideal) x4 (ix1 q) = len (ins x0 x1 x2 x3 x4) q := by
  pointwise [val_main_v38, val_main_v37, val_main_v36, val_main_v35]
  unfold len
  show (((x4 (ix1 ⟨1 + q.val, _⟩) - x4 (ix1 ⟨q.val, _⟩)).toInt : ℝ) : EReal) = (((x4 (ix1 q.succ) - x4 (ix1 q.castSucc)).toInt : ℝ) : EReal)
  rw [show (⟨1 + q.val, by omega⟩ : Fin 6) = q.succ from Fin.ext (Nat.add_comm _ _)]
  rfl

theorem v44_apply (q : Fin 5) (e : Fin 160) : val_main_v44 (F := Ideal) x0 x1 x2 x4 (ix2 q e) = P (ins x0 x1 x2 x3 x4) q e := by
  unfold P
  pointwise [val_main_v44, val_main_v43, val_main_v42, val_main_v41, val_main_cst_5, val_main_v40, val_main_call0_v3, val_main_call0_v2, val_main_call0_v1, val_main_call0_v0, val_main_cst_4, val_main_v39, val_main_v34, val_main_v33, v32_apply x0 x1 x2 x3 x4, v38_apply x0 x1 x2 x3 x4, v16_apply x0 x1 x2 x3 x4, id_eq]

theorem v55_apply (q : Fin 5) (e : Fin 160) : val_main_v55 (F := Ideal) x3 x4 (ix2 q e) = BitVec.ofNat 32 (N (ins x0 x1 x2 x3 x4) q e) := by
  unfold N
  pointwise [val_main_v55, val_main_c_8, val_main_v54, val_main_call1_v3, val_main_call1_v2, val_main_call1_v1, val_main_call1_v0, val_main_c_7, val_main_v53, val_main_v52, val_main_c_6, val_main_v51, val_main_v50, val_main_v49, val_main_v48, val_main_v47, val_main_v46, val_main_v45, val_main_v34, val_main_v33, v32_apply x0 x1 x2 x3 x4, id_eq]
  simp only [cmpi_eq, widen, fold_addi, ← apply_ite (BitVec.ofNat 32)]
  rfl

/-- The device of a choice in range. -/
theorem v56_apply (hid : ∀ t j, (x3 (ix2 t j)).toNat < 160) (t : Fin 2048) (j : Fin 6) :
    val_main_v56 (F := Ideal) x3 (ix2 t j) = BitVec.ofNat 32 ((x3 (ix2 t j)).toNat / 20) := by
  pointwise [val_main_v56, val_main_call2_v13, val_main_call2_v12, val_main_call2_c_0, val_main_call2_v11, val_main_call2_v10, val_main_call2_v9, val_main_call2_c, val_main_call2_v8, val_main_call2_v7, val_main_call2_v6, val_main_call2_v5, val_main_call2_v4, val_main_call2_v3, val_main_call2_v2, val_main_call2_v1, val_main_call2_v0, val_main_c_9, id_eq]
  have key : ∀ v : Fin 160, (fun b : BitVec 32 => Scalar.select
      (IntOp.andi (IntOp.cmpi .ne (if b = 0 then (0 : BitVec 32) else if BitVec.msb b = true then -1 else 1)
          (if 20#32 = 0 then (0 : BitVec 32) else if (20#32).msb = true then -1 else 1))
        (IntOp.cmpi .ne (IntOp.remsi .host b 20#32) 0#32))
      (IntOp.subi (IntOp.divsi .host b 20#32) 1#32)
      (IntOp.divsi .host b 20#32)) (BitVec.ofNat 32 v.val) = BitVec.ofNat 32 (v.val / 20) := by decide +kernel
  have := key ⟨_, hid t j⟩
  dsimp only at this
  rwa [BitVec.ofNat_toNat, BitVec.setWidth_eq] at this

theorem v67_apply (hid : ∀ t j, (x3 (ix2 t j)).toNat < 160) (q : Fin 5) (d : Fin 8) :
    val_main_v67 (F := Ideal) x3 x4 (ix2 q d) = BitVec.ofNat 32 (D (ins x0 x1 x2 x3 x4) q d) := by
  unfold D
  pointwise [val_main_v67, val_main_c_12, val_main_v66, val_main_call3_v3, val_main_call3_v2, val_main_call3_v1, val_main_call3_v0, val_main_c_11, val_main_v65, val_main_v64, val_main_v63, val_main_c_10, val_main_v62, val_main_v61, val_main_v60, val_main_v59, val_main_v58, val_main_v57, v56_apply x3 hid, val_main_v34, val_main_v33, v32_apply x0 x1 x2 x3 x4, id_eq]
  have h : ∀ t j, (BitVec.ofNat 32 ((x3 (ix2 t j)).toNat / 20) = BitVec.ofNat 32 d.val) = ((x3 (ix2 t j)).toNat / 20 = d.val) :=
    fun t j => propext (ofNat_inj (by have := hid t j; omega) (by omega))
  simp only [cmpi_eq, h, fold_ori, widen, ← apply_ite (BitVec.ofNat 32), fold_addi, Finset.mem_univ, true_and]
  rfl

theorem N_lt (I : Inputs) (q : Fin 5) (e : Fin 160) : N I q e < 2 ^ 31 := lt_of_le_of_lt (N_le I q e) (by decide)
theorem D_lt (I : Inputs) (q : Fin 5) (d : Fin 8) : D I q d < 2 ^ 31 := lt_of_le_of_lt (D_le I q d) (by decide)

theorem sitofp_small {n : ℕ} (h : n < 2 ^ 31) : FloatOps.sitofp (F := Ideal) .f32 (BitVec.ofNat 32 n) = ((n : ℝ) : EReal) := by
  show (((BitVec.ofNat 32 n).toInt : ℝ) : EReal) = _
  rw [toInt_small h]; rfl

theorem v73_apply (q : Fin 5) (e : Fin 160) : val_main_v73 (F := Ideal) x3 x4 (ix2 q e) = f (ins x0 x1 x2 x3 x4) q e := by
  unfold f
  pointwise [val_main_v73, val_main_v72, val_main_v71, val_main_v70, val_main_v69, val_main_v68, val_main_cst_13, v38_apply x0 x1 x2 x3 x4, v55_apply x0 x1 x2 x3 x4]
  rw [sitofp_small (N_lt _ q e)]

theorem v74_apply (q : Fin 5) (d : Fin 8) (j : Fin 20) : val_main_v74 (F := Ideal) x3 x4 (ix3 q d j) = f (ins x0 x1 x2 x3 x4) q (ex d j) := by
  pointwise [val_main_v74]
  rw [← v73_apply]
  congr 1

theorem v77_apply (q : Fin 5) (d : Fin 8) : val_main_v77 (F := Ideal) x3 x4 (ix2 q d) = fdev (ins x0 x1 x2 x3 x4) q d := by
  unfold fdev
  pointwise [val_main_v77, val_main_v76, val_main_v75, val_main_cst_14, val_main_cst_15, v74_apply x0 x1 x2 x3 x4]

theorem v79_apply (q : Fin 5) (d : Fin 8) : val_main_v79 (F := Ideal) x0 x1 x2 x4 (ix2 q d) = ∑ j, P (ins x0 x1 x2 x3 x4) q (ex d j) := by
  pointwise [val_main_v79, val_main_v78, val_main_cst_16]
  simp only [ex, v44_apply x0 x1 x2 x3 x4]

theorem v85_apply (hid : ∀ t j, (x3 (ix2 t j)).toNat < 160) (q : Fin 5) (d : Fin 8) : val_main_v85 (F := Ideal) x3 x4 (ix2 q d) = fcomm (ins x0 x1 x2 x3 x4) q d := by
  unfold fcomm
  pointwise [val_main_v85, val_main_v84, val_main_v83, val_main_v82, val_main_v81, val_main_v80, val_main_cst_17, v38_apply x0 x1 x2 x3 x4, v67_apply x0 x1 x2 x3 x4 hid]
  rw [sitofp_small (D_lt _ q d)]

theorem v89_apply (q : Fin 5) : val_main_v89 (F := Ideal) x0 x1 x2 x3 x4 (ix1 q) = lossE (ins x0 x1 x2 x3 x4) q := by
  unfold lossE
  pointwise [val_main_v89, val_main_v88, val_main_v87, val_main_v86, val_main_cst_18, val_main_cst_19, v73_apply x0 x1 x2 x3 x4, v44_apply x0 x1 x2 x3 x4]

theorem v93_apply (q : Fin 5) : val_main_v93 (F := Ideal) x0 x1 x2 x3 x4 (ix1 q) = lossD (ins x0 x1 x2 x3 x4) q := by
  unfold lossD
  pointwise [val_main_v93, val_main_v92, val_main_v91, val_main_v90, val_main_cst_20, val_main_cst_21, v77_apply x0 x1 x2 x3 x4, v79_apply x0 x1 x2 x3 x4]

theorem v97_apply (hid : ∀ t j, (x3 (ix2 t j)).toNat < 160) (q : Fin 5) : val_main_v97 (F := Ideal) x0 x1 x2 x3 x4 (ix1 q) = lossC (ins x0 x1 x2 x3 x4) q := by
  unfold lossC
  pointwise [val_main_v97, val_main_v96, val_main_v95, val_main_v94, val_main_cst_22, val_main_cst_23, v85_apply x0 x1 x2 x3 x4 hid, v79_apply x0 x1 x2 x3 x4]

theorem v113_apply (hid : ∀ t j, (x3 (ix2 t j)).toNat < 160) (q : Fin 5) (e : Fin 160) : val_main_v113 (F := Ideal) x3 x4 (ix2 q e) = cf (ins x0 x1 x2 x3 x4) q e := by
  unfold cf
  pointwise [val_main_v113, val_main_v112, val_main_v111, val_main_v110, val_main_v109, val_main_cst_27, v38_apply x0 x1 x2 x3 x4, val_main_v108, val_main_v107, val_main_v106, val_main_v105, val_main_v104, val_main_v103, val_main_v102, val_main_v101, val_main_v100, val_main_v99, val_main_v98, val_main_cst_24, val_main_cst_25, val_main_cst_26]
  rw [v74_apply x0 x1 x2 x3 x4, v77_apply x0 x1 x2 x3 x4, v85_apply x0 x1 x2 x3 x4 hid,
    show ex ⟨e.val / 20, by omega⟩ ⟨e.val % 20, by omega⟩ = e from Fin.ext (Nat.div_add_mod' _ _)]
  rfl

theorem v117_apply (hid : ∀ t j, (x3 (ix2 t j)).toNat < 160) (t : Fin 2048) (e : Fin 160) : val_main_v117 (F := Ideal) x3 x4 (ix2 t e) = cc (ins x0 x1 x2 x3 x4) t e := by
  unfold cc
  pointwise [val_main_v117, val_main_cst_29, val_main_v116, val_main_call4_v3, val_main_call4_v2, val_main_call4_v1, val_main_call4_v0, val_main_cst_28, val_main_v115, val_main_v114, v113_apply x0 x1 x2 x3 x4 hid, v32_apply x0 x1 x2 x3 x4, id_eq]

theorem v128_apply (hid : ∀ t j, (x3 (ix2 t j)).toNat < 160) (t : Fin 2048) (e : Fin 160) :
    val_main_v128 (F := Ideal) x0 x1 x2 x3 x4 (ix2 t e) = dl (ins x0 x1 x2 x3 x4) t e := by
  unfold dl
  pointwise [val_main_v128, val_main_v127, val_main_v126, val_main_v125, val_main_v124, val_main_v123, val_main_v122, val_main_cst_31, val_main_v121, val_main_v120, val_main_v119, val_main_v118, val_main_cst_30, v14_apply x0 x1 x2 x3 x4, v10_apply x0 x1 x2 x3 x4, v16_apply x0 x1 x2 x3 x4, v117_apply x0 x1 x2 x3 x4 hid]

end Cert.ReferenceIdeal.Stages

end
-- ==== Proof.RefFinal.lean ====
/- Each of the reference's results when its launch has ended, as the mathematics of its arguments. -/
module

public import proofs.«01_k».proof.Proof.RefAfter
public import proofs.«01_k».proof.Proof.RefSpec
public import proofs.«01_k».proof.Proof.Gen.ReferenceIdeal.Frame
public import Idealize.ShloMosaic.Lib.Pipeline.Value

@[expose] public section

set_option maxRecDepth 16384

noncomputable section

namespace Cert.ReferenceIdeal.RefFinal

open Cert.ReferenceIdeal Cert.ReferenceIdeal.Gen Cert.ReferenceIdeal.Stages
open Idealize.ShloMosaic Idealize.ShloMosaic.TcCoe Idealize.ShloMosaic.Pointwise Idealize.ShloMosaic.StableHlo
open Idealize.ShloMosaic.Pipeline (Dat)
open Cert.Spec

variable (m : (ℓ : Loc nD τ sig) → Buf (Elt Ideal) ℓ)

/-- The five inputs a core is launched with. -/
def insR (c : Dev nD) : Inputs where
  x t k := (m ((c : Thread nD τ).loc main_arg0) : Vec Ideal S2048x12288 .fp8e4m3) (ix2 t k)
  sc t := (m ((c : Thread nD τ).loc main_arg1) : Vec Ideal S2048 .f32) (ix1 t)
  w k e := (m ((c : Thread nD τ).loc main_arg2) : Vec Ideal S12288x160 .bf16) (ix2 k e)
  id t j := (m ((c : Thread nD τ).loc main_arg3) : Vec Ideal S2048x6 .i32) (ix2 t j)
  off i := (m ((c : Thread nD τ).loc main_arg4) : Vec Ideal S6 .i32) (ix1 i)

/-- The input window's block is the whole array. -/
theorem iblk0 (c : Dev nD) (t : Fin cfg0.N) : (iblk m c 0 t : Vec Ideal S2048x12288 .fp8e4m3) = m ((c : Thread nD τ).loc main_arg0) := by
  unfold iblk
  have hz : (fun a => win0_0.index t a * main_arg0.ty.shape.size a) = fun _ => 0 := funext fun a => by
    rw [show win0_0.index t a = 0 from rfl, Nat.zero_mul]
  exact Memref.read_access_unit_zero (Elt Ideal) main_arg0 hz (fun a => by rw [congrFun hz a]; simp) _

/-- The cast array: the same extended reals. -/
theorem arr1 (c : Dev nD) : (dats m 0 c).arrAt 1 cfg0.N = (fun j => (m ((c : Thread nD τ).loc main_arg0) : Vec Ideal S2048x12288 .fp8e4m3) j : Vec Ideal S2048x12288 .bf16) := by
  have t0 : Fin cfg0.N := ⟨0, by decide⟩
  have hz : ∀ t : Fin cfg0.N, (fun a => win0_1.index t a * main_v0.ty.shape.size a) = fun _ => 0 := fun t => funext fun a => by
    rw [show win0_1.index t a = 0 from rfl, Nat.zero_mul]
  refine (dats m 0 c).arrAt_eq_of_cover 1 _ (fun t _ => ?_) fun i => ⟨t0, flush0_1 t0, ?_⟩
  · show (cfg0.win 1).cut (grid0.coords t) ((dats m 0 c).after 1 t) = _
    rw [after0_1, iblk0]
    refine .trans ?_ (Memref.read_access_unit_zero (Elt Ideal) main_v0 (hz t) (fun a => by rw [congrFun (hz t) a]; simp) _).symm
    unfold out0_1
    exact (View.canon_unit_zero (funext fun a => by fin_cases a <;> rfl) _ _).trans
      (congrArg k0_pay1 (View.ld_unit_zero (funext fun a => by fin_cases a <;> rfl) _ _))
  · show i ∈ ((View.whole main_v0).slice (win0_1.rect t0)).set
    rw [View.set_slice_whole]
    exact View.mem_set_unit_zero (hz t0) _ i

/-- What the lines after the cast start from. -/
def W0 (c : Dev nD) : Valuation τ sig (Elt Ideal) :=
  Pipeline.withArrays (cfgs 0).spec c (V0 m c) (fun w => (dats m 0 c).arrAt w (cfgs 0).N)

theorem W0_v0 (c : Dev nD) : W0 m c (Proc.devRef .tc main_v0) = (fun j => (m ((c : Thread nD τ).loc main_arg0) : Vec Ideal S2048x12288 .fp8e4m3) j : Vec Ideal S2048x12288 .bf16) :=
  (Pipeline.withArrays_arr spec0 (show Function.Injective (Pipeline.arrRef spec0) from fun w w' h => (by decide : ∀ w w', Pipeline.arrRef spec0 w = Pipeline.arrRef spec0 w' → w = w') w w' h) c (V0 m c) _ 1).trans (arr1 m c)
theorem W0_arg1 (c : Dev nD) : W0 m c (Proc.devRef .tc main_arg1) = m ((c : Thread nD τ).loc main_arg1) :=
  Pipeline.withArrays_of_ne _ c (V0 m c) _ main_arg1 (by exact (by decide : ∀ w, Pipeline.arrRef spec0 w ≠ main_arg1))
theorem W0_arg2 (c : Dev nD) : W0 m c (Proc.devRef .tc main_arg2) = m ((c : Thread nD τ).loc main_arg2) :=
  Pipeline.withArrays_of_ne _ c (V0 m c) _ main_arg2 (by exact (by decide : ∀ w, Pipeline.arrRef spec0 w ≠ main_arg2))
theorem W0_arg3 (c : Dev nD) : W0 m c (Proc.devRef .tc main_arg3) = m ((c : Thread nD τ).loc main_arg3) :=
  Pipeline.withArrays_of_ne _ c (V0 m c) _ main_arg3 (by exact (by decide : ∀ w, Pipeline.arrRef spec0 w ≠ main_arg3))
theorem W0_arg4 (c : Dev nD) : W0 m c (Proc.devRef .tc main_arg4) = m ((c : Thread nD τ).loc main_arg4) :=
  Pipeline.withArrays_of_ne _ c (V0 m c) _ main_arg4 (by exact (by decide : ∀ w, Pipeline.arrRef spec0 w ≠ main_arg4))

/-- The lines after the cast, run in order. -/
theorem tail_eq (c : Dev nD) (b : Ref sig .tc) :
    Pipeline.afterTail₀ cfgs (dats m) 0 (V0 m) [hostOps1, hostOps1_1, hostOps1_2, hostOps1_3, hostOps1_4, hostOps1_5, hostOps1_6, hostOps1_7, hostOps1_8, hostOps1_9, hostOps1_10] c b
      = V11 (W0 m c) (Proc.devRef .tc b) := by
  unfold Pipeline.afterTail₀ V11 V10 V9 V8 V7 V6 V5 V4 V3 V2 V1 W0
  simp only [List.flatten_cons, List.flatten_nil, List.append_nil, after_append]

theorem tail_v128 (c : Dev nD) (hid : ∀ t j, ((insR m c).id t j).toNat < 160) :
    V11 (W0 m c) (Proc.devRef .tc main_v128) = (fun j => dl (insR m c) (j 0) (j 1) : Vec Ideal S2048x160 .f32) := by
  rw [V11_main_v128, W0_v0, W0_arg1, W0_arg2, W0_arg3, W0_arg4]
  funext j
  rw [eq_ix2 j]
  exact v128_apply _ _ _ _ _ hid (j 0) (j 1)
theorem tail_v89 (c : Dev nD) : V11 (W0 m c) (Proc.devRef .tc main_v89) = (fun j => lossE (insR m c) (j 0) : Vec Ideal S5 .f32) := by
  rw [V11_main_v89, W0_v0, W0_arg1, W0_arg2, W0_arg3, W0_arg4]
  funext j
  rw [eq_ix1 j]
  exact v89_apply _ _ _ _ _ (j 0)
theorem tail_v93 (c : Dev nD) : V11 (W0 m c) (Proc.devRef .tc main_v93) = (fun j => lossD (insR m c) (j 0) : Vec Ideal S5 .f32) := by
  rw [V11_main_v93, W0_v0, W0_arg1, W0_arg2, W0_arg3, W0_arg4]
  funext j
  rw [eq_ix1 j]
  exact v93_apply _ _ _ _ _ (j 0)
theorem tail_v97 (c : Dev nD) (hid : ∀ t j, ((insR m c).id t j).toNat < 160) :
    V11 (W0 m c) (Proc.devRef .tc main_v97) = (fun j => lossC (insR m c) (j 0) : Vec Ideal S5 .f32) := by
  rw [V11_main_v97, W0_v0, W0_arg1, W0_arg2, W0_arg3, W0_arg4]
  funext j
  rw [eq_ix1 j]
  exact v97_apply _ _ _ _ _ hid (j 0)
theorem tail_v44 (c : Dev nD) : V11 (W0 m c) (Proc.devRef .tc main_v44) = (fun j => P (insR m c) (j 0) (j 1) : Vec Ideal S5x160 .f32) := by
  rw [V11_main_v44, W0_v0, W0_arg1, W0_arg2, W0_arg4]
  funext j
  rw [eq_ix2 j]
  exact v44_apply _ _ _ (m ((c : Thread nD τ).loc main_arg3)) _ (j 0) (j 1)
theorem tail_v55 (c : Dev nD) : V11 (W0 m c) (Proc.devRef .tc main_v55) = (fun j => BitVec.ofNat 32 (N (insR m c) (j 0) (j 1)) : Vec Ideal S5x160 .i32) := by
  rw [V11_main_v55, W0_arg3, W0_arg4]
  funext j
  rw [eq_ix2 j]
  exact v55_apply (m ((c : Thread nD τ).loc main_arg0)) (m ((c : Thread nD τ).loc main_arg1)) (m ((c : Thread nD τ).loc main_arg2)) _ _ (j 0) (j 1)
theorem tail_v67 (c : Dev nD) (hid : ∀ t j, ((insR m c).id t j).toNat < 160) :
    V11 (W0 m c) (Proc.devRef .tc main_v67) = (fun j => BitVec.ofNat 32 (D (insR m c) (j 0) (j 1)) : Vec Ideal S5x8 .i32) := by
  rw [V11_main_v67, W0_arg3, W0_arg4]
  funext j
  rw [eq_ix2 j]
  exact v67_apply (m ((c : Thread nD τ).loc main_arg0)) (m ((c : Thread nD τ).loc main_arg1)) (m ((c : Thread nD τ).loc main_arg2)) _ _ hid (j 0) (j 1)

/-- The reference's seven results, each the mathematics' of the inputs. -/
theorem run (ρ : Dev nD → PrngReg) (hid : ∀ c t j, ((insR m c).id t j).toNat < 160) :
    θ_run defs (onTc (τ := τ) (main (F := Ideal))) ⟨m, fun _ => 0, ρ⟩ (fun r => ∀ c : Dev nD,
      r.2.mem ((c.tc : Thread nD τ).loc main_v128) = (fun j => dl (insR m c) (j 0) (j 1) : Vec Ideal S2048x160 .f32)
      ∧ r.2.mem ((c.tc : Thread nD τ).loc main_v89) = (fun j => lossE (insR m c) (j 0) : Vec Ideal S5 .f32)
      ∧ r.2.mem ((c.tc : Thread nD τ).loc main_v93) = (fun j => lossD (insR m c) (j 0) : Vec Ideal S5 .f32)
      ∧ r.2.mem ((c.tc : Thread nD τ).loc main_v97) = (fun j => lossC (insR m c) (j 0) : Vec Ideal S5 .f32)
      ∧ r.2.mem ((c.tc : Thread nD τ).loc main_v44) = (fun j => P (insR m c) (j 0) (j 1) : Vec Ideal S5x160 .f32)
      ∧ r.2.mem ((c.tc : Thread nD τ).loc main_v55) = (fun j => BitVec.ofNat 32 (N (insR m c) (j 0) (j 1)) : Vec Ideal S5x160 .i32)
      ∧ r.2.mem ((c.tc : Thread nD τ).loc main_v67) = (fun j => BitVec.ofNat 32 (D (insR m c) (j 0) (j 1)) : Vec Ideal S5x8 .i32)) :=
  (θ_run defs _ _).mono (fun _ h c => ⟨
    (((h c).2 main_v128 (Pipeline.mem_restRefs_of main_v128 (by decide) (by decide))).trans (tail_eq m c main_v128)).trans (tail_v128 m c (hid c)),
    (((h c).2 main_v89 (Pipeline.mem_restRefs_of main_v89 (by decide) (by decide))).trans (tail_eq m c main_v89)).trans (tail_v89 m c),
    (((h c).2 main_v93 (Pipeline.mem_restRefs_of main_v93 (by decide) (by decide))).trans (tail_eq m c main_v93)).trans (tail_v93 m c),
    (((h c).2 main_v97 (Pipeline.mem_restRefs_of main_v97 (by decide) (by decide))).trans (tail_eq m c main_v97)).trans (tail_v97 m c (hid c)),
    (((h c).2 main_v44 (Pipeline.mem_restRefs_of main_v44 (by decide) (by decide))).trans (tail_eq m c main_v44)).trans (tail_v44 m c),
    (((h c).2 main_v55 (Pipeline.mem_restRefs_of main_v55 (by decide) (by decide))).trans (tail_eq m c main_v55)).trans (tail_v55 m c),
    (((h c).2 main_v67 (Pipeline.mem_restRefs_of main_v67 (by decide) (by decide))).trans (tail_eq m c main_v67)).trans (tail_v67 m c (hid c))⟩)
    (run_main m ρ)

end Cert.ReferenceIdeal.RefFinal

end
-- ==== Proof.Pre.lean ====
/- What the precondition says of the segment boundaries and of the expert numbers. -/
module

public import proofs.«01_k».proof.Pre_offsets_ordered_ids_named
public import Idealize.ShloMosaic.Lib.ReduceAll
public import Idealize.ShloMosaic.Lib.WordCmp
public import Idealize.ShloMosaic.Lib.Pointwise

@[expose] public section

set_option maxRecDepth 16384

noncomputable section

namespace Cert.Pre_offsets_ordered_ids_named

open Idealize.ShloMosaic Idealize.ShloMosaic.Pointwise

/-- The shape relations the precondition's operations take. -/
theorem facts : Facts where
  slices_S6_S5_0 := by decide
  slices_S6_S5_1 := by decide
  reducesTo_S5_S_d0 := by decide
  h_S_ := by decide
  bcast_S_S2048x6 := by decide
  reducesTo_S2048x6_S_d0_1 := by decide

instance : Subsingleton S_.Idx := ⟨fun _ _ => funext fun a => a.elim0⟩

variable {F : FTy → Type} [FloatOps F] [Facts] {x0 : FVec F S2048x12288 .fp8e4m3} {x1 : FVec F S2048 .f32} {x2 : FVec F S12288x160 .bf16}
  {x3 : IVec S2048x6 32} {x4 : IVec S6 32} (h : fn x0 x1 x2 x3 x4 = fun _ => 1#1)

include h

/-- Every expert number is one of the 160. -/
theorem ids_lt (t : Fin 2048) (j : Fin 6) : (x3 (ix2 t j)).toNat < 160 := by
  have h0 := congrFun h (fun a => a.elim0)
  dsimp only [fn] at h0
  have h1 := Host.reduce_andi_all (t := S_) _ _ _ _ _ (IntOp.andi_eq_one.mp h0).2 (ix2 t j)
  have h2 : IntOp.andi (IntOp.cmpi .sge (x3 (ix2 t j)) 0#32) (IntOp.cmpi .slt (x3 (ix2 t j)) (BitVec.ofNat 32 160)) = 1#1 := h1
  rw [WordCmp.andi_sge_zero_slt_ofNat (by decide)] at h2
  exact of_decide_eq_true (by revert h2; cases decide ((x3 (ix2 t j)).toNat < 160) <;> decide)

/-- The boundaries of the segments never decrease. -/
theorem ordered (i : Fin 5) : (x4 (ix1 i.castSucc)).sle (x4 (ix1 i.succ)) = true := by
  have h0 := congrFun h (fun a => a.elim0)
  dsimp only [fn] at h0
  have h1 := Host.reduce_andi_all (t := S_) _ _ _ _ _ (IntOp.andi_eq_one.mp h0).1 (ix1 i)
  have h2 : IntOp.cmpi .sle (x4 (ix1 i.castSucc)) (x4 (ix1 i.succ)) = 1#1 := by
    refine Eq.trans (congrArg₂ (IntOp.cmpi .sle) (congrArg x4 (funext fun a => Fin.ext ?_)) (congrArg x4 (funext fun a => Fin.ext ?_))) h1
    · match a with
      | ⟨0, _⟩ => show i.val = 0 + i.val; omega
    · match a with
      | ⟨0, _⟩ => show i.val + 1 = 1 + i.val; omega
  revert h2
  show BitVec.ofBool ((x4 (ix1 i.castSucc)).sle (x4 (ix1 i.succ))) = 1#1 → _
  cases (x4 (ix1 i.castSucc)).sle (x4 (ix1 i.succ)) <;> decide

end Cert.Pre_offsets_ordered_ids_named

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.KFinal
public import proofs.«01_k».proof.Proof.RefFinal
public import proofs.«01_k».proof.Proof.Pre
public import Idealize.ShloMosaic.Adequacy
public import Idealize.ShloMosaic.Init

@[expose] public section

noncomputable section

namespace Cert.Proof

open Idealize.ShloMosaic Idealize.SL.Sem Idealize.ShloMosaic.Pointwise

/-- The inputs the two launches read are one where their arguments are. -/
theorem ins_eq {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.RefFinal.insR m' c = Cert.KernelIdeal.KBlocks.insK m c := by
  unfold Cert.ReferenceIdeal.RefFinal.insR Cert.KernelIdeal.KBlocks.insK
  rw [h0, h1, h2, h3, h4]

/-- Where the boundaries never decrease and every expert number names an expert, the kernel and the reference leave equal results. -/
theorem algebraic [Cert.Pre_offsets_ordered_ids_named.Facts] : Cert.algebraic_KernelIdeal_ReferenceIdeal_pre_offsets_ordered_ids_named := by
  intro m g m' g' hpre hargs
  have ho : ∀ c, Cert.Spec.Ordered (Cert.KernelIdeal.KBlocks.insK m c) := fun c i => Cert.Pre_offsets_ordered_ids_named.ordered (hpre c) i
  have hid : ∀ c t j, ((Cert.KernelIdeal.KBlocks.insK m c).id t j).toNat < 160 := fun c t j => Cert.Pre_offsets_ordered_ids_named.ids_lt (hpre c) t j
  have hins : ∀ c, Cert.ReferenceIdeal.RefFinal.insR m' c = Cert.KernelIdeal.KBlocks.insK m c := fun c =>
    ins_eq (hargs c).1 (hargs c).2.1 (hargs c).2.2.1 (hargs c).2.2.2.1 (hargs c).2.2.2.2
  refine ⟨fun c => (fun j => Cert.Spec.dl (Cert.KernelIdeal.KBlocks.insK m c) (j 0) (j 1) : Vec Ideal Cert.KernelIdeal.S2048x160 .f32),
    fun c => (fun j => Cert.Spec.lossE (Cert.KernelIdeal.KBlocks.insK m c) (j 0) : Vec Ideal Cert.KernelIdeal.S5 .f32),
    fun c => (fun j => Cert.Spec.lossD (Cert.KernelIdeal.KBlocks.insK m c) (j 0) : Vec Ideal Cert.KernelIdeal.S5 .f32),
    fun c => (fun j => Cert.Spec.lossC (Cert.KernelIdeal.KBlocks.insK m c) (j 0) : Vec Ideal Cert.KernelIdeal.S5 .f32),
    Cert.KernelIdeal.KFinal.res9 m, Cert.KernelIdeal.KFinal.res10 m, Cert.KernelIdeal.KFinal.res11 m,
    (θ_run _ _ _).mono (fun r h c => ?_) (θ_run_and (Cert.KernelIdeal.KFinal.run m g ho hid) (Cert.KernelIdeal.Body.frame m g)),
    (θ_run _ _ _).mono (fun r h c => ?_) (θ_run_and (Cert.ReferenceIdeal.RefFinal.run m' g' fun c => by rw [hins c]; exact hid c) (Cert.ReferenceIdeal.Gen.frame m' g'))⟩
  · obtain ⟨h0, h1, h2, h3, h4, h5, h6⟩ := h.1 c
    exact ⟨h0, h1, h2, h3, h4, h5, h6, h.2.1 c⟩
  · obtain ⟨h0, h1, h2, h3, h4, h5, h6⟩ := h.1 c
    rw [hins c] at h0 h1 h2 h3 h4 h5 h6
    exact ⟨h0, h1, h2, h3, h4, h5, h6, h.2.1 c⟩

theorem claim : Cert.Claim := ⟨Cert.Kernel.Gen.facts, Cert.KernelIdeal.Gen.facts, Cert.ReferenceIdeal.Gen.facts, Cert.Pre_offsets_ordered_ids_named.facts,
  Cert.Kernel.frame,
  fun m g _ => Cert.KernelIdeal.Body.frame m g,
  fun m g _ => Cert.KernelIdeal.Body.frame m g,
  fun m g _ => Cert.ReferenceIdeal.Gen.frame m g,
  fun m g _ => Cert.ReferenceIdeal.Gen.frame m g,
  trivial,
  @algebraic Cert.Pre_offsets_ordered_ids_named.facts⟩

end Cert.Proof

end
